-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Up [hPre_in_range : Cert.Pre_in_range.Facts] (m : (ℓ : Loc Cert.Up.nD Cert.Up.τ Cert.Up.sig) → Buf (Elt Bits) ℓ) : Prop :=
  ∀ c : Dev Cert.Up.nD,
    (Cert.Pre_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_in_range : Cert.Pre_in_range.Facts] (m : (ℓ : Loc Cert.UpIdeal.nD Cert.UpIdeal.τ Cert.UpIdeal.sig) → Buf (Elt Ideal) ℓ) : Prop :=
  ∀ c : Dev Cert.UpIdeal.nD,
    (Cert.Pre_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal [hPre_in_range : Cert.Pre_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_in_range_down : Cert.Pre_in_range_down.Facts] (m : (ℓ : Loc Cert.Down.nD Cert.Down.τ Cert.Down.sig) → Buf (Elt Bits) ℓ) : Prop :=
  ∀ c : Dev Cert.Down.nD,
    (Cert.Pre_in_range_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_in_range_down : Cert.Pre_in_range_down.Facts] (m : (ℓ : Loc Cert.DownIdeal.nD Cert.DownIdeal.τ Cert.DownIdeal.sig) → Buf (Elt Ideal) ℓ) : Prop :=
  ∀ c : Dev Cert.DownIdeal.nD,
    (Cert.Pre_in_range_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal [hPre_in_range_down : Cert.Pre_in_range_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_in_range_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_FinP (m : (ℓ : Loc Cert.FinP.nD Cert.FinP.τ Cert.FinP.sig) → Buf (Elt Bits) ℓ) : Prop :=
  True

def Pre_FinPIdeal (m : (ℓ : Loc Cert.FinPIdeal.nD Cert.FinPIdeal.τ Cert.FinPIdeal.sig) → Buf (Elt Ideal) ℓ) : Prop :=
  True

def Pre_FinPRefIdeal (m : (ℓ : Loc Cert.FinPRefIdeal.nD Cert.FinPRefIdeal.τ Cert.FinPRefIdeal.sig) → Buf (Elt Ideal) ℓ) : Prop :=
  True

def Pre_FinS (m : (ℓ : Loc Cert.FinS.nD Cert.FinS.τ Cert.FinS.sig) → Buf (Elt Bits) ℓ) : Prop :=
  True

def Pre_FinSIdeal (m : (ℓ : Loc Cert.FinSIdeal.nD Cert.FinSIdeal.τ Cert.FinSIdeal.sig) → Buf (Elt Ideal) ℓ) : Prop :=
  True

def Pre_FinSRefIdeal (m : (ℓ : Loc Cert.FinSRefIdeal.nD Cert.FinSRefIdeal.τ Cert.FinSRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutBand (m : (ℓ : Loc Cert.OutBand.nD Cert.OutBand.τ Cert.OutBand.sig) → Buf (Elt Bits) ℓ) : Prop :=
  True

def Pre_OutBandIdeal (m : (ℓ : Loc Cert.OutBandIdeal.nD Cert.OutBandIdeal.τ Cert.OutBandIdeal.sig) → Buf (Elt Ideal) ℓ) : Prop :=
  True

def Pre_OutBandRefIdeal (m : (ℓ : Loc Cert.OutBandRefIdeal.nD Cert.OutBandRefIdeal.τ Cert.OutBandRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Bs (m : (ℓ : Loc Cert.Bs.nD Cert.Bs.τ Cert.Bs.sig) → Buf (Elt Bits) ℓ) : Prop :=
  True

def Pre_BsIdeal (m : (ℓ : Loc Cert.BsIdeal.nD Cert.BsIdeal.τ Cert.BsIdeal.sig) → Buf (Elt Ideal) ℓ) : Prop :=
  True

def Pre_BsIdeal_finite [hPre_finite : Cert.Pre_finite.Facts] (m : (ℓ : Loc Cert.BsIdeal.nD Cert.BsIdeal.τ Cert.BsIdeal.sig) → Buf (Elt Ideal) ℓ) : Prop :=
  ∀ c : Dev Cert.BsIdeal.nD,
    (Cert.Pre_finite.fn (F := Ideal) (m ((c.tc : Thread Cert.BsIdeal.nD Cert.BsIdeal.τ).loc Cert.BsIdeal.main_arg0)) (m ((c.tc : Thread Cert.BsIdeal.nD Cert.BsIdeal.τ).loc Cert.BsIdeal.main_arg1)) (m ((c.tc : Thread Cert.BsIdeal.nD Cert.BsIdeal.τ).loc Cert.BsIdeal.main_arg2)) (m ((c.tc : Thread Cert.BsIdeal.nD Cert.BsIdeal.τ).loc Cert.BsIdeal.main_arg3)) (m ((c.tc : Thread Cert.BsIdeal.nD Cert.BsIdeal.τ).loc Cert.BsIdeal.main_arg4))) = (fun _ => 1#1)

def Pre_BsRefIdeal (m : (ℓ : Loc Cert.BsRefIdeal.nD Cert.BsRefIdeal.τ Cert.BsRefIdeal.sig) → Buf (Elt Ideal) ℓ) : Prop :=
  True

def Pre_BsRefIdeal_finite [hPre_finite : Cert.Pre_finite.Facts] (m : (ℓ : Loc Cert.BsRefIdeal.nD Cert.BsRefIdeal.τ Cert.BsRefIdeal.sig) → Buf (Elt Ideal) ℓ) : Prop :=
  ∀ c : Dev Cert.BsRefIdeal.nD,
    (Cert.Pre_finite.fn (F := Ideal) (m ((c.tc : Thread Cert.BsRefIdeal.nD Cert.BsRefIdeal.τ).loc Cert.BsRefIdeal.main_arg0)) (m ((c.tc : Thread Cert.BsRefIdeal.nD Cert.BsRefIdeal.τ).loc Cert.BsRefIdeal.main_arg1)) (m ((c.tc : Thread Cert.BsRefIdeal.nD Cert.BsRefIdeal.τ).loc Cert.BsRefIdeal.main_arg2)) (m ((c.tc : Thread Cert.BsRefIdeal.nD Cert.BsRefIdeal.τ).loc Cert.BsRefIdeal.main_arg3)) (m ((c.tc : Thread Cert.BsRefIdeal.nD Cert.BsRefIdeal.τ).loc Cert.BsRefIdeal.main_arg4))) = (fun _ => 1#1)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1)
      ∧ r.2.mem ((c.tc : Thread Cert.LinRefIdeal.nD Cert.LinRefIdeal.τ).loc Cert.LinRefIdeal.main_arg2) = m ((c.tc : Thread Cert.LinRefIdeal.nD Cert.LinRefIdeal.τ).loc Cert.LinRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Up [hUp : Cert.Up.Facts] [hPre_in_range : Cert.Pre_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_in_range : Cert.Pre_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] [hPre_in_range : Cert.Pre_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_in_range_down : Cert.Pre_in_range_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_in_range_down : Cert.Pre_in_range_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] [hPre_in_range_down : Cert.Pre_in_range_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2))
      ∧ r.2.sem = fun _ => 0)

def quiescent_FinP [hFinP : Cert.FinP.Facts] : Prop :=
  ∀ (m : (ℓ : Loc Cert.FinP.nD Cert.FinP.τ Cert.FinP.sig) → Buf (Elt Bits) ℓ) (g : Dev Cert.FinP.nD → PrngReg), Pre_FinP m →
    θ_run (Cert.FinP.defs (F := Bits)) (onTc (τ := Cert.FinP.τ) (Cert.FinP.main (F := Bits))) ⟨m, fun _ => 0, g⟩ (fun r => (∀ c : Dev Cert.FinP.nD,
      r.2.mem ((c.tc : Thread Cert.FinP.nD Cert.FinP.τ).loc Cert.FinP.main_arg0) = m ((c.tc : Thread Cert.FinP.nD Cert.FinP.τ).loc Cert.FinP.main_arg0)
      ∧ r.2.mem ((c.tc : Thread Cert.FinP.nD Cert.FinP.τ).loc Cert.FinP.main_arg1) = m ((c.tc : Thread Cert.FinP.nD Cert.FinP.τ).loc Cert.FinP.main_arg1))
      ∧ r.2.sem = fun _ => 0)

def quiescent_FinPIdeal [hFinPIdeal : Cert.FinPIdeal.Facts] : Prop :=
  ∀ (m : (ℓ : Loc Cert.FinPIdeal.nD Cert.FinPIdeal.τ Cert.FinPIdeal.sig) → Buf (Elt Ideal) ℓ) (g : Dev Cert.FinPIdeal.nD → PrngReg), Pre_FinPIdeal m →
    θ_run (Cert.FinPIdeal.defs (F := Ideal)) (onTc (τ := Cert.FinPIdeal.τ) (Cert.FinPIdeal.main (F := Ideal))) ⟨m, fun _ => 0, g⟩ (fun r => (∀ c : Dev Cert.FinPIdeal.nD,
      r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
      ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1))
      ∧ r.2.sem = fun _ => 0)

def quiescent_FinPRefIdeal [hFinPRefIdeal : Cert.FinPRefIdeal.Facts] : Prop :=
  ∀ (m : (ℓ : Loc Cert.FinPRefIdeal.nD Cert.FinPRefIdeal.τ Cert.FinPRefIdeal.sig) → Buf (Elt Ideal) ℓ) (g : Dev Cert.FinPRefIdeal.nD → PrngReg), Pre_FinPRefIdeal m →
    θ_run (Cert.FinPRefIdeal.defs (F := Ideal)) (onTc (τ := Cert.FinPRefIdeal.τ) (Cert.FinPRefIdeal.main (F := Ideal))) ⟨m, fun _ => 0, g⟩ (fun r => (∀ c : Dev Cert.FinPRefIdeal.nD,
      r.2.mem ((c.tc : Thread Cert.FinPRefIdeal.nD Cert.FinPRefIdeal.τ).loc Cert.FinPRefIdeal.main_arg0) = m ((c.tc : Thread Cert.FinPRefIdeal.nD Cert.FinPRefIdeal.τ).loc Cert.FinPRefIdeal.main_arg0)
      ∧ r.2.mem ((c.tc : Thread Cert.FinPRefIdeal.nD Cert.FinPRefIdeal.τ).loc Cert.FinPRefIdeal.main_arg1) = m ((c.tc : Thread Cert.FinPRefIdeal.nD Cert.FinPRefIdeal.τ).loc Cert.FinPRefIdeal.main_arg1))
      ∧ r.2.sem = fun _ => 0)

def quiescent_FinS [hFinS : Cert.FinS.Facts] : Prop :=
  ∀ (m : (ℓ : Loc Cert.FinS.nD Cert.FinS.τ Cert.FinS.sig) → Buf (Elt Bits) ℓ) (g : Dev Cert.FinS.nD → PrngReg), Pre_FinS m →
    θ_run (Cert.FinS.defs (F := Bits)) (onTc (τ := Cert.FinS.τ) (Cert.FinS.main (F := Bits))) ⟨m, fun _ => 0, g⟩ (fun r => (∀ c : Dev Cert.FinS.nD,
      r.2.mem ((c.tc : Thread Cert.FinS.nD Cert.FinS.τ).loc Cert.FinS.main_arg0) = m ((c.tc : Thread Cert.FinS.nD Cert.FinS.τ).loc Cert.FinS.main_arg0)
      ∧ r.2.mem ((c.tc : Thread Cert.FinS.nD Cert.FinS.τ).loc Cert.FinS.main_arg1) = m ((c.tc : Thread Cert.FinS.nD Cert.FinS.τ).loc Cert.FinS.main_arg1))
      ∧ r.2.sem = fun _ => 0)

def quiescent_FinSIdeal [hFinSIdeal : Cert.FinSIdeal.Facts] : Prop :=
  ∀ (m : (ℓ : Loc Cert.FinSIdeal.nD Cert.FinSIdeal.τ Cert.FinSIdeal.sig) → Buf (Elt Ideal) ℓ) (g : Dev Cert.FinSIdeal.nD → PrngReg), Pre_FinSIdeal m →
    θ_run (Cert.FinSIdeal.defs (F := Ideal)) (onTc (τ := Cert.FinSIdeal.τ) (Cert.FinSIdeal.main (F := Ideal))) ⟨m, fun _ => 0, g⟩ (fun r => (∀ c : Dev Cert.FinSIdeal.nD,
      r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
      ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ r.2.sem = fun _ => 0)

def quiescent_FinSRefIdeal [hFinSRefIdeal : Cert.FinSRefIdeal.Facts] : Prop :=
  ∀ (m : (ℓ : Loc Cert.FinSRefIdeal.nD Cert.FinSRefIdeal.τ Cert.FinSRefIdeal.sig) → Buf (Elt Ideal) ℓ) (g : Dev Cert.FinSRefIdeal.nD → PrngReg), Pre_FinSRefIdeal m →
    θ_run (Cert.FinSRefIdeal.defs (F := Ideal)) (onTc (τ := Cert.FinSRefIdeal.τ) (Cert.FinSRefIdeal.main (F := Ideal))) ⟨m, fun _ => 0, g⟩ (fun r => (∀ c : Dev Cert.FinSRefIdeal.nD,
      r.2.mem ((c.tc : Thread Cert.FinSRefIdeal.nD Cert.FinSRefIdeal.τ).loc Cert.FinSRefIdeal.main_arg0) = m ((c.tc : Thread Cert.FinSRefIdeal.nD Cert.FinSRefIdeal.τ).loc Cert.FinSRefIdeal.main_arg0)
      ∧ r.2.mem ((c.tc : Thread Cert.FinSRefIdeal.nD Cert.FinSRefIdeal.τ).loc Cert.FinSRefIdeal.main_arg1) = m ((c.tc : Thread Cert.FinSRefIdeal.nD Cert.FinSRefIdeal.τ).loc Cert.FinSRefIdeal.main_arg1))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3))
      ∧ r.2.sem = fun _ => 0)

def quiescent_OutBand [hOutBand : Cert.OutBand.Facts] : Prop :=
  ∀ (m : (ℓ : Loc Cert.OutBand.nD Cert.OutBand.τ Cert.OutBand.sig) → Buf (Elt Bits) ℓ) (g : Dev Cert.OutBand.nD → PrngReg), Pre_OutBand m →
    θ_run (Cert.OutBand.defs (F := Bits)) (onTc (τ := Cert.OutBand.τ) (Cert.OutBand.main (F := Bits))) ⟨m, fun _ => 0, g⟩ (fun r => (∀ c : Dev Cert.OutBand.nD,
      r.2.mem ((c.tc : Thread Cert.OutBand.nD Cert.OutBand.τ).loc Cert.OutBand.main_arg0) = m ((c.tc : Thread Cert.OutBand.nD Cert.OutBand.τ).loc Cert.OutBand.main_arg0)
      ∧ r.2.mem ((c.tc : Thread Cert.OutBand.nD Cert.OutBand.τ).loc Cert.OutBand.main_arg1) = m ((c.tc : Thread Cert.OutBand.nD Cert.OutBand.τ).loc Cert.OutBand.main_arg1)
      ∧ r.2.mem ((c.tc : Thread Cert.OutBand.nD Cert.OutBand.τ).loc Cert.OutBand.main_arg2) = m ((c.tc : Thread Cert.OutBand.nD Cert.OutBand.τ).loc Cert.OutBand.main_arg2))
      ∧ r.2.sem = fun _ => 0)

def quiescent_OutBandIdeal [hOutBandIdeal : Cert.OutBandIdeal.Facts] : Prop :=
  ∀ (m : (ℓ : Loc Cert.OutBandIdeal.nD Cert.OutBandIdeal.τ Cert.OutBandIdeal.sig) → Buf (Elt Ideal) ℓ) (g : Dev Cert.OutBandIdeal.nD → PrngReg), Pre_OutBandIdeal m →
    θ_run (Cert.OutBandIdeal.defs (F := Ideal)) (onTc (τ := Cert.OutBandIdeal.τ) (Cert.OutBandIdeal.main (F := Ideal))) ⟨m, fun _ => 0, g⟩ (fun r => (∀ c : Dev Cert.OutBandIdeal.nD,
      r.2.mem ((c.tc : Thread Cert.OutBandIdeal.nD Cert.OutBandIdeal.τ).loc Cert.OutBandIdeal.main_arg0) = m ((c.tc : Thread Cert.OutBandIdeal.nD Cert.OutBandIdeal.τ).loc Cert.OutBandIdeal.main_arg0)
      ∧ r.2.mem ((c.tc : Thread Cert.OutBandIdeal.nD Cert.OutBandIdeal.τ).loc Cert.OutBandIdeal.main_arg1) = m ((c.tc : Thread Cert.OutBandIdeal.nD Cert.OutBandIdeal.τ).loc Cert.OutBandIdeal.main_arg1)
      ∧ r.2.mem ((c.tc : Thread Cert.OutBandIdeal.nD Cert.OutBandIdeal.τ).loc Cert.OutBandIdeal.main_arg2) = m ((c.tc : Thread Cert.OutBandIdeal.nD Cert.OutBandIdeal.τ).loc Cert.OutBandIdeal.main_arg2))
      ∧ r.2.sem = fun _ => 0)

def quiescent_OutBandRefIdeal [hOutBandRefIdeal : Cert.OutBandRefIdeal.Facts] : Prop :=
  ∀ (m : (ℓ : Loc Cert.OutBandRefIdeal.nD Cert.OutBandRefIdeal.τ Cert.OutBandRefIdeal.sig) → Buf (Elt Ideal) ℓ) (g : Dev Cert.OutBandRefIdeal.nD → PrngReg), Pre_OutBandRefIdeal m →
    θ_run (Cert.OutBandRefIdeal.defs (F := Ideal)) (onTc (τ := Cert.OutBandRefIdeal.τ) (Cert.OutBandRefIdeal.main (F := Ideal))) ⟨m, fun _ => 0, g⟩ (fun r => (∀ c : Dev Cert.OutBandRefIdeal.nD,
      r.2.mem ((c.tc : Thread Cert.OutBandRefIdeal.nD Cert.OutBandRefIdeal.τ).loc Cert.OutBandRefIdeal.main_arg0) = m ((c.tc : Thread Cert.OutBandRefIdeal.nD Cert.OutBandRefIdeal.τ).loc Cert.OutBandRefIdeal.main_arg0)
      ∧ r.2.mem ((c.tc : Thread Cert.OutBandRefIdeal.nD Cert.OutBandRefIdeal.τ).loc Cert.OutBandRefIdeal.main_arg1) = m ((c.tc : Thread Cert.OutBandRefIdeal.nD Cert.OutBandRefIdeal.τ).loc Cert.OutBandRefIdeal.main_arg1)
      ∧ r.2.mem ((c.tc : Thread Cert.OutBandRefIdeal.nD Cert.OutBandRefIdeal.τ).loc Cert.OutBandRefIdeal.main_arg2) = m ((c.tc : Thread Cert.OutBandRefIdeal.nD Cert.OutBandRefIdeal.τ).loc Cert.OutBandRefIdeal.main_arg2))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Bs [hBs : Cert.Bs.Facts] : Prop :=
  ∀ (m : (ℓ : Loc Cert.Bs.nD Cert.Bs.τ Cert.Bs.sig) → Buf (Elt Bits) ℓ) (g : Dev Cert.Bs.nD → PrngReg), Pre_Bs m →
    θ_run (Cert.Bs.defs (F := Bits)) (onTc (τ := Cert.Bs.τ) (Cert.Bs.main (F := Bits))) ⟨m, fun _ => 0, g⟩ (fun r => (∀ c : Dev Cert.Bs.nD,
      r.2.mem ((c.tc : Thread Cert.Bs.nD Cert.Bs.τ).loc Cert.Bs.main_arg0) = m ((c.tc : Thread Cert.Bs.nD Cert.Bs.τ).loc Cert.Bs.main_arg0)
      ∧ r.2.mem ((c.tc : Thread Cert.Bs.nD Cert.Bs.τ).loc Cert.Bs.main_arg1) = m ((c.tc : Thread Cert.Bs.nD Cert.Bs.τ).loc Cert.Bs.main_arg1)
      ∧ r.2.mem ((c.tc : Thread Cert.Bs.nD Cert.Bs.τ).loc Cert.Bs.main_arg2) = m ((c.tc : Thread Cert.Bs.nD Cert.Bs.τ).loc Cert.Bs.main_arg2)
      ∧ r.2.mem ((c.tc : Thread Cert.Bs.nD Cert.Bs.τ).loc Cert.Bs.main_arg3) = m ((c.tc : Thread Cert.Bs.nD Cert.Bs.τ).loc Cert.Bs.main_arg3)
      ∧ r.2.mem ((c.tc : Thread Cert.Bs.nD Cert.Bs.τ).loc Cert.Bs.main_arg4) = m ((c.tc : Thread Cert.Bs.nD Cert.Bs.τ).loc Cert.Bs.main_arg4))
      ∧ r.2.sem = fun _ => 0)

def quiescent_BsIdeal [hBsIdeal : Cert.BsIdeal.Facts] : Prop :=
  ∀ (m : (ℓ : Loc Cert.BsIdeal.nD Cert.BsIdeal.τ Cert.BsIdeal.sig) → Buf (Elt Ideal) ℓ) (g : Dev Cert.BsIdeal.nD → PrngReg), Pre_BsIdeal m →
    θ_run (Cert.BsIdeal.defs (F := Ideal)) (onTc (τ := Cert.BsIdeal.τ) (Cert.BsIdeal.main (F := Ideal))) ⟨m, fun _ => 0, g⟩ (fun r => (∀ c : Dev Cert.BsIdeal.nD,
      r.2.mem ((c.tc : Thread Cert.BsIdeal.nD Cert.BsIdeal.τ).loc Cert.BsIdeal.main_arg0) = m ((c.tc : Thread Cert.BsIdeal.nD Cert.BsIdeal.τ).loc Cert.BsIdeal.main_arg0)
      ∧ r.2.mem ((c.tc : Thread Cert.BsIdeal.nD Cert.BsIdeal.τ).loc Cert.BsIdeal.main_arg1) = m ((c.tc : Thread Cert.BsIdeal.nD Cert.BsIdeal.τ).loc Cert.BsIdeal.main_arg1)
      ∧ r.2.mem ((c.tc : Thread Cert.BsIdeal.nD Cert.BsIdeal.τ).loc Cert.BsIdeal.main_arg2) = m ((c.tc : Thread Cert.BsIdeal.nD Cert.BsIdeal.τ).loc Cert.BsIdeal.main_arg2)
      ∧ r.2.mem ((c.tc : Thread Cert.BsIdeal.nD Cert.BsIdeal.τ).loc Cert.BsIdeal.main_arg3) = m ((c.tc : Thread Cert.BsIdeal.nD Cert.BsIdeal.τ).loc Cert.BsIdeal.main_arg3)
      ∧ r.2.mem ((c.tc : Thread Cert.BsIdeal.nD Cert.BsIdeal.τ).loc Cert.BsIdeal.main_arg4) = m ((c.tc : Thread Cert.BsIdeal.nD Cert.BsIdeal.τ).loc Cert.BsIdeal.main_arg4))
      ∧ r.2.sem = fun _ => 0)

def quiescent_BsIdeal_pre_finite [hBsIdeal : Cert.BsIdeal.Facts] [hPre_finite : Cert.Pre_finite.Facts] : Prop :=
  ∀ (m : (ℓ : Loc Cert.BsIdeal.nD Cert.BsIdeal.τ Cert.BsIdeal.sig) → Buf (Elt Ideal) ℓ) (g : Dev Cert.BsIdeal.nD → PrngReg), Pre_BsIdeal_finite m →
    θ_run (Cert.BsIdeal.defs (F := Ideal)) (onTc (τ := Cert.BsIdeal.τ) (Cert.BsIdeal.main (F := Ideal))) ⟨m, fun _ => 0, g⟩ (fun r => (∀ c : Dev Cert.BsIdeal.nD,
      r.2.mem ((c.tc : Thread Cert.BsIdeal.nD Cert.BsIdeal.τ).loc Cert.BsIdeal.main_arg0) = m ((c.tc : Thread Cert.BsIdeal.nD Cert.BsIdeal.τ).loc Cert.BsIdeal.main_arg0)
      ∧ r.2.mem ((c.tc : Thread Cert.BsIdeal.nD Cert.BsIdeal.τ).loc Cert.BsIdeal.main_arg1) = m ((c.tc : Thread Cert.BsIdeal.nD Cert.BsIdeal.τ).loc Cert.BsIdeal.main_arg1)
      ∧ r.2.mem ((c.tc : Thread Cert.BsIdeal.nD Cert.BsIdeal.τ).loc Cert.BsIdeal.main_arg2) = m ((c.tc : Thread Cert.BsIdeal.nD Cert.BsIdeal.τ).loc Cert.BsIdeal.main_arg2)
      ∧ r.2.mem ((c.tc : Thread Cert.BsIdeal.nD Cert.BsIdeal.τ).loc Cert.BsIdeal.main_arg3) = m ((c.tc : Thread Cert.BsIdeal.nD Cert.BsIdeal.τ).loc Cert.BsIdeal.main_arg3)
      ∧ r.2.mem ((c.tc : Thread Cert.BsIdeal.nD Cert.BsIdeal.τ).loc Cert.BsIdeal.main_arg4) = m ((c.tc : Thread Cert.BsIdeal.nD Cert.BsIdeal.τ).loc Cert.BsIdeal.main_arg4))
      ∧ r.2.sem = fun _ => 0)

def quiescent_BsRefIdeal [hBsRefIdeal : Cert.BsRefIdeal.Facts] : Prop :=
  ∀ (m : (ℓ : Loc Cert.BsRefIdeal.nD Cert.BsRefIdeal.τ Cert.BsRefIdeal.sig) → Buf (Elt Ideal) ℓ) (g : Dev Cert.BsRefIdeal.nD → PrngReg), Pre_BsRefIdeal m →
    θ_run (Cert.BsRefIdeal.defs (F := Ideal)) (onTc (τ := Cert.BsRefIdeal.τ) (Cert.BsRefIdeal.main (F := Ideal))) ⟨m, fun _ => 0, g⟩ (fun r => (∀ c : Dev Cert.BsRefIdeal.nD,
      r.2.mem ((c.tc : Thread Cert.BsRefIdeal.nD Cert.BsRefIdeal.τ).loc Cert.BsRefIdeal.main_arg0) = m ((c.tc : Thread Cert.BsRefIdeal.nD Cert.BsRefIdeal.τ).loc Cert.BsRefIdeal.main_arg0)
      ∧ r.2.mem ((c.tc : Thread Cert.BsRefIdeal.nD Cert.BsRefIdeal.τ).loc Cert.BsRefIdeal.main_arg1) = m ((c.tc : Thread Cert.BsRefIdeal.nD Cert.BsRefIdeal.τ).loc Cert.BsRefIdeal.main_arg1)
      ∧ r.2.mem ((c.tc : Thread Cert.BsRefIdeal.nD Cert.BsRefIdeal.τ).loc Cert.BsRefIdeal.main_arg2) = m ((c.tc : Thread Cert.BsRefIdeal.nD Cert.BsRefIdeal.τ).loc Cert.BsRefIdeal.main_arg2)
      ∧ r.2.mem ((c.tc : Thread Cert.BsRefIdeal.nD Cert.BsRefIdeal.τ).loc Cert.BsRefIdeal.main_arg3) = m ((c.tc : Thread Cert.BsRefIdeal.nD Cert.BsRefIdeal.τ).loc Cert.BsRefIdeal.main_arg3)
      ∧ r.2.mem ((c.tc : Thread Cert.BsRefIdeal.nD Cert.BsRefIdeal.τ).loc Cert.BsRefIdeal.main_arg4) = m ((c.tc : Thread Cert.BsRefIdeal.nD Cert.BsRefIdeal.τ).loc Cert.BsRefIdeal.main_arg4))
      ∧ r.2.sem = fun _ => 0)

def quiescent_BsRefIdeal_pre_finite [hBsRefIdeal : Cert.BsRefIdeal.Facts] [hPre_finite : Cert.Pre_finite.Facts] : Prop :=
  ∀ (m : (ℓ : Loc Cert.BsRefIdeal.nD Cert.BsRefIdeal.τ Cert.BsRefIdeal.sig) → Buf (Elt Ideal) ℓ) (g : Dev Cert.BsRefIdeal.nD → PrngReg), Pre_BsRefIdeal_finite m →
    θ_run (Cert.BsRefIdeal.defs (F := Ideal)) (onTc (τ := Cert.BsRefIdeal.τ) (Cert.BsRefIdeal.main (F := Ideal))) ⟨m, fun _ => 0, g⟩ (fun r => (∀ c : Dev Cert.BsRefIdeal.nD,
      r.2.mem ((c.tc : Thread Cert.BsRefIdeal.nD Cert.BsRefIdeal.τ).loc Cert.BsRefIdeal.main_arg0) = m ((c.tc : Thread Cert.BsRefIdeal.nD Cert.BsRefIdeal.τ).loc Cert.BsRefIdeal.main_arg0)
      ∧ r.2.mem ((c.tc : Thread Cert.BsRefIdeal.nD Cert.BsRefIdeal.τ).loc Cert.BsRefIdeal.main_arg1) = m ((c.tc : Thread Cert.BsRefIdeal.nD Cert.BsRefIdeal.τ).loc Cert.BsRefIdeal.main_arg1)
      ∧ r.2.mem ((c.tc : Thread Cert.BsRefIdeal.nD Cert.BsRefIdeal.τ).loc Cert.BsRefIdeal.main_arg2) = m ((c.tc : Thread Cert.BsRefIdeal.nD Cert.BsRefIdeal.τ).loc Cert.BsRefIdeal.main_arg2)
      ∧ r.2.mem ((c.tc : Thread Cert.BsRefIdeal.nD Cert.BsRefIdeal.τ).loc Cert.BsRefIdeal.main_arg3) = m ((c.tc : Thread Cert.BsRefIdeal.nD Cert.BsRefIdeal.τ).loc Cert.BsRefIdeal.main_arg3)
      ∧ r.2.mem ((c.tc : Thread Cert.BsRefIdeal.nD Cert.BsRefIdeal.τ).loc Cert.BsRefIdeal.main_arg4) = m ((c.tc : Thread Cert.BsRefIdeal.nD Cert.BsRefIdeal.τ).loc Cert.BsRefIdeal.main_arg4))
      ∧ r.2.sem = fun _ => 0)

def preserves_Ret_RetIdeal : Prop :=
  IdealRules.named_const.Statement Cert.RetIdeal.κ "lg0" .f32 0xBD020AEC#32 ((Real.log (31 / 32) : ℝ) : EReal)
  ∧ IdealRules.named_const.Statement Cert.RetIdeal.κ "lg1" .f32 0xBC8102B3#32 ((Real.log (63 / 64) : ℝ) : EReal)
  ∧ IdealRules.named_const.Statement Cert.RetIdeal.κ "lg2" .f32 0xBC0080AC#32 ((Real.log (127 / 128) : ℝ) : EReal)
  ∧ IdealRules.named_const.Statement Cert.RetIdeal.κ "lg3" .f32 0xBB80402B#32 ((Real.log (255 / 256) : ℝ) : EReal)
  ∧ IdealRules.named_const.Statement Cert.RetIdeal.κ "lg4" .f32 0xBB00200B#32 ((Real.log (511 / 512) : ℝ) : EReal)
  ∧ IdealRules.named_const.Statement Cert.RetIdeal.κ "lg5" .f32 0xBA801003#32 ((Real.log (1023 / 1024) : ℝ) : EReal)
  ∧ IdealRules.named_const.Statement Cert.RetIdeal.κ "lg6" .f32 0xBA000801#32 ((Real.log (2047 / 2048) : ℝ) : EReal)
  ∧ IdealRules.named_const.Statement Cert.RetIdeal.κ "lg7" .f32 0xB9800400#32 ((Real.log (4095 / 4096) : ℝ) : EReal)
  ∧ IdealRules.named_const.Statement Cert.RetIdeal.κ "tlg0" .f32 0xC0020AEC#32 ((64 * (Real.log (31 / 32)) : ℝ) : EReal)
  ∧ IdealRules.named_const.Statement Cert.RetIdeal.κ "tlg1" .f32 0xBF8102B3#32 ((64 * (Real.log (63 / 64)) : ℝ) : EReal)
  ∧ IdealRules.named_const.Statement Cert.RetIdeal.κ "tlg2" .f32 0xBF0080AC#32 ((64 * (Real.log (127 / 128)) : ℝ) : EReal)
  ∧ IdealRules.named_const.Statement Cert.RetIdeal.κ "tlg3" .f32 0xBE80402B#32 ((64 * (Real.log (255 / 256)) : ℝ) : EReal)
  ∧ IdealRules.named_const.Statement Cert.RetIdeal.κ "tlg4" .f32 0xBE00200B#32 ((64 * (Real.log (511 / 512)) : ℝ) : EReal)
  ∧ IdealRules.named_const.Statement Cert.RetIdeal.κ "tlg5" .f32 0xBD801003#32 ((64 * (Real.log (1023 / 1024)) : ℝ) : EReal)
  ∧ IdealRules.named_const.Statement Cert.RetIdeal.κ "tlg6" .f32 0xBD000801#32 ((64 * (Real.log (2047 / 2048)) : ℝ) : EReal)
  ∧ IdealRules.named_const.Statement Cert.RetIdeal.κ "tlg7" .f32 0xBC800400#32 ((64 * (Real.log (4095 / 4096)) : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v21_0)) (v1 : (c : Dev Cert.RetIdeal.nD) → Buf (Elt Ideal) ((c.tc : Thread Cert.RetIdeal.nD Cert.RetIdeal.τ).loc Cert.RetIdeal.main_v21_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v21_0) = v0 c
          ∧ r.2.mem ((c.tc : Thread Cert.RetIdeal.nD Cert.RetIdeal.τ).loc Cert.RetIdeal.main_v21_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v153) = v0 c
          ∧ r.2.mem ((c.tc : Thread Cert.RetRefIdeal.nD Cert.RetRefIdeal.τ).loc Cert.RetRefIdeal.main_v132) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)
      ∧ m' ((c.tc : Thread Cert.LinRefIdeal.nD Cert.LinRefIdeal.τ).loc Cert.LinRefIdeal.main_arg2) = m ((c.tc : Thread Cert.LinIdeal.nD Cert.LinIdeal.τ).loc Cert.LinIdeal.main_arg2)) →
    ∃ (v0 : (c : Dev Cert.LinIdeal.nD) → Buf (Elt Ideal) ((c.tc : Thread Cert.LinIdeal.nD Cert.LinIdeal.τ).loc Cert.LinIdeal.main_v1)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v1) = v0 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v13) = v0 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1)
          ∧ r.2.mem ((c.tc : Thread Cert.LinRefIdeal.nD Cert.LinRefIdeal.τ).loc Cert.LinRefIdeal.main_arg2) = m' ((c.tc : Thread Cert.LinRefIdeal.nD Cert.LinRefIdeal.τ).loc Cert.LinRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Up_UpIdeal : Prop :=
  True

def algebraic_UpIdeal_UpRefIdeal [hUpIdeal : Cert.UpIdeal.Facts] [hUpRefIdeal : Cert.UpRefIdeal.Facts] [hPre_in_range : Cert.Pre_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v25) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_in_range_down : Cert.Pre_in_range_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v23) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)) →
    ∃ (v0 : (c : Dev Cert.BandIdeal.nD) → Buf (Elt Ideal) ((c.tc : Thread Cert.BandIdeal.nD Cert.BandIdeal.τ).loc Cert.BandIdeal.main_v1)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v1) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v13) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)) →
    ∃ (v0 : (c : Dev Cert.XqIdeal.nD) → Buf (Elt Ideal) ((c.tc : Thread Cert.XqIdeal.nD Cert.XqIdeal.τ).loc Cert.XqIdeal.main_v1)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v1) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v13) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2))

def preserves_FinP_FinPIdeal : Prop :=
  True

def algebraic_FinPIdeal_FinPRefIdeal [hFinPIdeal : Cert.FinPIdeal.Facts] [hFinPRefIdeal : Cert.FinPRefIdeal.Facts] : Prop :=
  ∀ (m : (ℓ : Loc Cert.FinPIdeal.nD Cert.FinPIdeal.τ Cert.FinPIdeal.sig) → Buf (Elt Ideal) ℓ) (g : Dev Cert.FinPIdeal.nD → PrngReg)
    (m' : (ℓ : Loc Cert.FinPRefIdeal.nD Cert.FinPRefIdeal.τ Cert.FinPRefIdeal.sig) → Buf (Elt Ideal) ℓ) (g' : Dev Cert.FinPRefIdeal.nD → PrngReg), Pre_FinPIdeal m →
    (∀ c : Dev Cert.FinPIdeal.nD,
      m' ((c.tc : Thread Cert.FinPRefIdeal.nD Cert.FinPRefIdeal.τ).loc Cert.FinPRefIdeal.main_arg0) = m ((c.tc : Thread Cert.FinPIdeal.nD Cert.FinPIdeal.τ).loc Cert.FinPIdeal.main_arg0)
      ∧ m' ((c.tc : Thread Cert.FinPRefIdeal.nD Cert.FinPRefIdeal.τ).loc Cert.FinPRefIdeal.main_arg1) = m ((c.tc : Thread Cert.FinPIdeal.nD Cert.FinPIdeal.τ).loc Cert.FinPIdeal.main_arg1)) →
    ∃ (v0 : (c : Dev Cert.FinPIdeal.nD) → Buf (Elt Ideal) ((c.tc : Thread Cert.FinPIdeal.nD Cert.FinPIdeal.τ).loc Cert.FinPIdeal.main_v1)),
      θ_run (Cert.FinPIdeal.defs (F := Ideal)) (onTc (τ := Cert.FinPIdeal.τ) (Cert.FinPIdeal.main (F := Ideal))) ⟨m, fun _ => 0, g⟩ (fun r => ∀ c : Dev Cert.FinPIdeal.nD,
          r.2.mem ((c.tc : Thread Cert.FinPIdeal.nD Cert.FinPIdeal.τ).loc Cert.FinPIdeal.main_v1) = v0 c
          ∧ r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
          ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1))
      ∧ θ_run (Cert.FinPRefIdeal.defs (F := Ideal)) (onTc (τ := Cert.FinPRefIdeal.τ) (Cert.FinPRefIdeal.main (F := Ideal))) ⟨m', fun _ => 0, g'⟩ (fun r => ∀ c : Dev Cert.FinPRefIdeal.nD,
          r.2.mem ((c.tc : Thread Cert.FinPRefIdeal.nD Cert.FinPRefIdeal.τ).loc Cert.FinPRefIdeal.main_v13) = v0 c
          ∧ r.2.mem ((c.tc : Thread Cert.FinPRefIdeal.nD Cert.FinPRefIdeal.τ).loc Cert.FinPRefIdeal.main_arg0) = m' ((c.tc : Thread Cert.FinPRefIdeal.nD Cert.FinPRefIdeal.τ).loc Cert.FinPRefIdeal.main_arg0)
          ∧ r.2.mem ((c.tc : Thread Cert.FinPRefIdeal.nD Cert.FinPRefIdeal.τ).loc Cert.FinPRefIdeal.main_arg1) = m' ((c.tc : Thread Cert.FinPRefIdeal.nD Cert.FinPRefIdeal.τ).loc Cert.FinPRefIdeal.main_arg1))

def preserves_FinS_FinSIdeal : Prop :=
  True

def algebraic_FinSIdeal_FinSRefIdeal [hFinSIdeal : Cert.FinSIdeal.Facts] [hFinSRefIdeal : Cert.FinSRefIdeal.Facts] : Prop :=
  ∀ (m : (ℓ : Loc Cert.FinSIdeal.nD Cert.FinSIdeal.τ Cert.FinSIdeal.sig) → Buf (Elt Ideal) ℓ) (g : Dev Cert.FinSIdeal.nD → PrngReg)
    (m' : (ℓ : Loc Cert.FinSRefIdeal.nD Cert.FinSRefIdeal.τ Cert.FinSRefIdeal.sig) → Buf (Elt Ideal) ℓ) (g' : Dev Cert.FinSRefIdeal.nD → PrngReg), Pre_FinSIdeal m →
    (∀ c : Dev Cert.FinSIdeal.nD,
      m' ((c.tc : Thread Cert.FinSRefIdeal.nD Cert.FinSRefIdeal.τ).loc Cert.FinSRefIdeal.main_arg0) = m ((c.tc : Thread Cert.FinSIdeal.nD Cert.FinSIdeal.τ).loc Cert.FinSIdeal.main_arg0)
      ∧ m' ((c.tc : Thread Cert.FinSRefIdeal.nD Cert.FinSRefIdeal.τ).loc Cert.FinSRefIdeal.main_arg1) = m ((c.tc : Thread Cert.FinSIdeal.nD Cert.FinSIdeal.τ).loc Cert.FinSIdeal.main_arg1)) →
    ∃ (v0 : (c : Dev Cert.FinSIdeal.nD) → Buf (Elt Ideal) ((c.tc : Thread Cert.FinSIdeal.nD Cert.FinSIdeal.τ).loc Cert.FinSIdeal.main_v1)),
      θ_run (Cert.FinSIdeal.defs (F := Ideal)) (onTc (τ := Cert.FinSIdeal.τ) (Cert.FinSIdeal.main (F := Ideal))) ⟨m, fun _ => 0, g⟩ (fun r => ∀ c : Dev Cert.FinSIdeal.nD,
          r.2.mem ((c.tc : Thread Cert.FinSIdeal.nD Cert.FinSIdeal.τ).loc Cert.FinSIdeal.main_v1) = v0 c
          ∧ r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
          ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1))
      ∧ θ_run (Cert.FinSRefIdeal.defs (F := Ideal)) (onTc (τ := Cert.FinSRefIdeal.τ) (Cert.FinSRefIdeal.main (F := Ideal))) ⟨m', fun _ => 0, g'⟩ (fun r => ∀ c : Dev Cert.FinSRefIdeal.nD,
          r.2.mem ((c.tc : Thread Cert.FinSRefIdeal.nD Cert.FinSRefIdeal.τ).loc Cert.FinSRefIdeal.main_v13) = v0 c
          ∧ r.2.mem ((c.tc : Thread Cert.FinSRefIdeal.nD Cert.FinSRefIdeal.τ).loc Cert.FinSRefIdeal.main_arg0) = m' ((c.tc : Thread Cert.FinSRefIdeal.nD Cert.FinSRefIdeal.τ).loc Cert.FinSRefIdeal.main_arg0)
          ∧ r.2.mem ((c.tc : Thread Cert.FinSRefIdeal.nD Cert.FinSRefIdeal.τ).loc Cert.FinSRefIdeal.main_arg1) = m' ((c.tc : Thread Cert.FinSRefIdeal.nD Cert.FinSRefIdeal.τ).loc Cert.FinSRefIdeal.main_arg1))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)) →
    ∃ (v0 : (c : Dev Cert.KvNormIdeal.nD) → Buf (Elt Ideal) ((c.tc : Thread Cert.KvNormIdeal.nD Cert.KvNormIdeal.τ).loc Cert.KvNormIdeal.main_v1)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v1) = v0 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v13) = v0 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)) →
    ∃ (v0 : (c : Dev Cert.OutAbIdeal.nD) → Buf (Elt Ideal) ((c.tc : Thread Cert.OutAbIdeal.nD Cert.OutAbIdeal.τ).loc Cert.OutAbIdeal.main_v1)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v1) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v3) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3))

def preserves_OutBand_OutBandIdeal : Prop :=
  True

def algebraic_OutBandIdeal_OutBandRefIdeal [hOutBandIdeal : Cert.OutBandIdeal.Facts] [hOutBandRefIdeal : Cert.OutBandRefIdeal.Facts] : Prop :=
  ∀ (m : (ℓ : Loc Cert.OutBandIdeal.nD Cert.OutBandIdeal.τ Cert.OutBandIdeal.sig) → Buf (Elt Ideal) ℓ) (g : Dev Cert.OutBandIdeal.nD → PrngReg)
    (m' : (ℓ : Loc Cert.OutBandRefIdeal.nD Cert.OutBandRefIdeal.τ Cert.OutBandRefIdeal.sig) → Buf (Elt Ideal) ℓ) (g' : Dev Cert.OutBandRefIdeal.nD → PrngReg), Pre_OutBandIdeal m →
    (∀ c : Dev Cert.OutBandIdeal.nD,
      m' ((c.tc : Thread Cert.OutBandRefIdeal.nD Cert.OutBandRefIdeal.τ).loc Cert.OutBandRefIdeal.main_arg0) = m ((c.tc : Thread Cert.OutBandIdeal.nD Cert.OutBandIdeal.τ).loc Cert.OutBandIdeal.main_arg0)
      ∧ m' ((c.tc : Thread Cert.OutBandRefIdeal.nD Cert.OutBandRefIdeal.τ).loc Cert.OutBandRefIdeal.main_arg1) = m ((c.tc : Thread Cert.OutBandIdeal.nD Cert.OutBandIdeal.τ).loc Cert.OutBandIdeal.main_arg1)
      ∧ m' ((c.tc : Thread Cert.OutBandRefIdeal.nD Cert.OutBandRefIdeal.τ).loc Cert.OutBandRefIdeal.main_arg2) = m ((c.tc : Thread Cert.OutBandIdeal.nD Cert.OutBandIdeal.τ).loc Cert.OutBandIdeal.main_arg2)) →
    ∃ (v0 : (c : Dev Cert.OutBandIdeal.nD) → Buf (Elt Ideal) ((c.tc : Thread Cert.OutBandIdeal.nD Cert.OutBandIdeal.τ).loc Cert.OutBandIdeal.main_v1)),
      θ_run (Cert.OutBandIdeal.defs (F := Ideal)) (onTc (τ := Cert.OutBandIdeal.τ) (Cert.OutBandIdeal.main (F := Ideal))) ⟨m, fun _ => 0, g⟩ (fun r => ∀ c : Dev Cert.OutBandIdeal.nD,
          r.2.mem ((c.tc : Thread Cert.OutBandIdeal.nD Cert.OutBandIdeal.τ).loc Cert.OutBandIdeal.main_v1) = v0 c
          ∧ r.2.mem ((c.tc : Thread Cert.OutBandIdeal.nD Cert.OutBandIdeal.τ).loc Cert.OutBandIdeal.main_arg0) = m ((c.tc : Thread Cert.OutBandIdeal.nD Cert.OutBandIdeal.τ).loc Cert.OutBandIdeal.main_arg0)
          ∧ r.2.mem ((c.tc : Thread Cert.OutBandIdeal.nD Cert.OutBandIdeal.τ).loc Cert.OutBandIdeal.main_arg1) = m ((c.tc : Thread Cert.OutBandIdeal.nD Cert.OutBandIdeal.τ).loc Cert.OutBandIdeal.main_arg1)
          ∧ r.2.mem ((c.tc : Thread Cert.OutBandIdeal.nD Cert.OutBandIdeal.τ).loc Cert.OutBandIdeal.main_arg2) = m ((c.tc : Thread Cert.OutBandIdeal.nD Cert.OutBandIdeal.τ).loc Cert.OutBandIdeal.main_arg2))
      ∧ θ_run (Cert.OutBandRefIdeal.defs (F := Ideal)) (onTc (τ := Cert.OutBandRefIdeal.τ) (Cert.OutBandRefIdeal.main (F := Ideal))) ⟨m', fun _ => 0, g'⟩ (fun r => ∀ c : Dev Cert.OutBandRefIdeal.nD,
          r.2.mem ((c.tc : Thread Cert.OutBandRefIdeal.nD Cert.OutBandRefIdeal.τ).loc Cert.OutBandRefIdeal.main_v2) = v0 c
          ∧ r.2.mem ((c.tc : Thread Cert.OutBandRefIdeal.nD Cert.OutBandRefIdeal.τ).loc Cert.OutBandRefIdeal.main_arg0) = m' ((c.tc : Thread Cert.OutBandRefIdeal.nD Cert.OutBandRefIdeal.τ).loc Cert.OutBandRefIdeal.main_arg0)
          ∧ r.2.mem ((c.tc : Thread Cert.OutBandRefIdeal.nD Cert.OutBandRefIdeal.τ).loc Cert.OutBandRefIdeal.main_arg1) = m' ((c.tc : Thread Cert.OutBandRefIdeal.nD Cert.OutBandRefIdeal.τ).loc Cert.OutBandRefIdeal.main_arg1)
          ∧ r.2.mem ((c.tc : Thread Cert.OutBandRefIdeal.nD Cert.OutBandRefIdeal.τ).loc Cert.OutBandRefIdeal.main_arg2) = m' ((c.tc : Thread Cert.OutBandRefIdeal.nD Cert.OutBandRefIdeal.τ).loc Cert.OutBandRefIdeal.main_arg2))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v1) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v2) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Bs_BsIdeal : Prop :=
  True

def algebraic_BsIdeal_BsRefIdeal_pre_finite [hBsIdeal : Cert.BsIdeal.Facts] [hBsRefIdeal : Cert.BsRefIdeal.Facts] [hPre_finite : Cert.Pre_finite.Facts] : Prop :=
  ∀ (m : (ℓ : Loc Cert.BsIdeal.nD Cert.BsIdeal.τ Cert.BsIdeal.sig) → Buf (Elt Ideal) ℓ) (g : Dev Cert.BsIdeal.nD → PrngReg)
    (m' : (ℓ : Loc Cert.BsRefIdeal.nD Cert.BsRefIdeal.τ Cert.BsRefIdeal.sig) → Buf (Elt Ideal) ℓ) (g' : Dev Cert.BsRefIdeal.nD → PrngReg), Pre_BsIdeal_finite m →
    (∀ c : Dev Cert.BsIdeal.nD,
      m' ((c.tc : Thread Cert.BsRefIdeal.nD Cert.BsRefIdeal.τ).loc Cert.BsRefIdeal.main_arg0) = m ((c.tc : Thread Cert.BsIdeal.nD Cert.BsIdeal.τ).loc Cert.BsIdeal.main_arg0)
      ∧ m' ((c.tc : Thread Cert.BsRefIdeal.nD Cert.BsRefIdeal.τ).loc Cert.BsRefIdeal.main_arg1) = m ((c.tc : Thread Cert.BsIdeal.nD Cert.BsIdeal.τ).loc Cert.BsIdeal.main_arg1)
      ∧ m' ((c.tc : Thread Cert.BsRefIdeal.nD Cert.BsRefIdeal.τ).loc Cert.BsRefIdeal.main_arg2) = m ((c.tc : Thread Cert.BsIdeal.nD Cert.BsIdeal.τ).loc Cert.BsIdeal.main_arg2)
      ∧ m' ((c.tc : Thread Cert.BsRefIdeal.nD Cert.BsRefIdeal.τ).loc Cert.BsRefIdeal.main_arg3) = m ((c.tc : Thread Cert.BsIdeal.nD Cert.BsIdeal.τ).loc Cert.BsIdeal.main_arg3)
      ∧ m' ((c.tc : Thread Cert.BsRefIdeal.nD Cert.BsRefIdeal.τ).loc Cert.BsRefIdeal.main_arg4) = m ((c.tc : Thread Cert.BsIdeal.nD Cert.BsIdeal.τ).loc Cert.BsIdeal.main_arg4)) →
    ∃ (v0 : (c : Dev Cert.BsIdeal.nD) → Buf (Elt Ideal) ((c.tc : Thread Cert.BsIdeal.nD Cert.BsIdeal.τ).loc Cert.BsIdeal.main_v2_0)) (v1 : (c : Dev Cert.BsIdeal.nD) → Buf (Elt Ideal) ((c.tc : Thread Cert.BsIdeal.nD Cert.BsIdeal.τ).loc Cert.BsIdeal.main_v2_1)) (v2 : (c : Dev Cert.BsIdeal.nD) → Buf (Elt Ideal) ((c.tc : Thread Cert.BsIdeal.nD Cert.BsIdeal.τ).loc Cert.BsIdeal.main_v2_2)),
      θ_run (Cert.BsIdeal.defs (F := Ideal)) (onTc (τ := Cert.BsIdeal.τ) (Cert.BsIdeal.main (F := Ideal))) ⟨m, fun _ => 0, g⟩ (fun r => ∀ c : Dev Cert.BsIdeal.nD,
          r.2.mem ((c.tc : Thread Cert.BsIdeal.nD Cert.BsIdeal.τ).loc Cert.BsIdeal.main_v2_0) = v0 c
          ∧ r.2.mem ((c.tc : Thread Cert.BsIdeal.nD Cert.BsIdeal.τ).loc Cert.BsIdeal.main_v2_1) = v1 c
          ∧ r.2.mem ((c.tc : Thread Cert.BsIdeal.nD Cert.BsIdeal.τ).loc Cert.BsIdeal.main_v2_2) = v2 c
          ∧ r.2.mem ((c.tc : Thread Cert.BsIdeal.nD Cert.BsIdeal.τ).loc Cert.BsIdeal.main_arg0) = m ((c.tc : Thread Cert.BsIdeal.nD Cert.BsIdeal.τ).loc Cert.BsIdeal.main_arg0)
          ∧ r.2.mem ((c.tc : Thread Cert.BsIdeal.nD Cert.BsIdeal.τ).loc Cert.BsIdeal.main_arg1) = m ((c.tc : Thread Cert.BsIdeal.nD Cert.BsIdeal.τ).loc Cert.BsIdeal.main_arg1)
          ∧ r.2.mem ((c.tc : Thread Cert.BsIdeal.nD Cert.BsIdeal.τ).loc Cert.BsIdeal.main_arg2) = m ((c.tc : Thread Cert.BsIdeal.nD Cert.BsIdeal.τ).loc Cert.BsIdeal.main_arg2)
          ∧ r.2.mem ((c.tc : Thread Cert.BsIdeal.nD Cert.BsIdeal.τ).loc Cert.BsIdeal.main_arg3) = m ((c.tc : Thread Cert.BsIdeal.nD Cert.BsIdeal.τ).loc Cert.BsIdeal.main_arg3)
          ∧ r.2.mem ((c.tc : Thread Cert.BsIdeal.nD Cert.BsIdeal.τ).loc Cert.BsIdeal.main_arg4) = m ((c.tc : Thread Cert.BsIdeal.nD Cert.BsIdeal.τ).loc Cert.BsIdeal.main_arg4))
      ∧ θ_run (Cert.BsRefIdeal.defs (F := Ideal)) (onTc (τ := Cert.BsRefIdeal.τ) (Cert.BsRefIdeal.main (F := Ideal))) ⟨m', fun _ => 0, g'⟩ (fun r => ∀ c : Dev Cert.BsRefIdeal.nD,
          r.2.mem ((c.tc : Thread Cert.BsRefIdeal.nD Cert.BsRefIdeal.τ).loc Cert.BsRefIdeal.main_v31) = v0 c
          ∧ r.2.mem ((c.tc : Thread Cert.BsRefIdeal.nD Cert.BsRefIdeal.τ).loc Cert.BsRefIdeal.main_v33) = v1 c
          ∧ r.2.mem ((c.tc : Thread Cert.BsRefIdeal.nD Cert.BsRefIdeal.τ).loc Cert.BsRefIdeal.main_v35) = v2 c
          ∧ r.2.mem ((c.tc : Thread Cert.BsRefIdeal.nD Cert.BsRefIdeal.τ).loc Cert.BsRefIdeal.main_arg0) = m' ((c.tc : Thread Cert.BsRefIdeal.nD Cert.BsRefIdeal.τ).loc Cert.BsRefIdeal.main_arg0)
          ∧ r.2.mem ((c.tc : Thread Cert.BsRefIdeal.nD Cert.BsRefIdeal.τ).loc Cert.BsRefIdeal.main_arg1) = m' ((c.tc : Thread Cert.BsRefIdeal.nD Cert.BsRefIdeal.τ).loc Cert.BsRefIdeal.main_arg1)
          ∧ r.2.mem ((c.tc : Thread Cert.BsRefIdeal.nD Cert.BsRefIdeal.τ).loc Cert.BsRefIdeal.main_arg2) = m' ((c.tc : Thread Cert.BsRefIdeal.nD Cert.BsRefIdeal.τ).loc Cert.BsRefIdeal.main_arg2)
          ∧ r.2.mem ((c.tc : Thread Cert.BsRefIdeal.nD Cert.BsRefIdeal.τ).loc Cert.BsRefIdeal.main_arg3) = m' ((c.tc : Thread Cert.BsRefIdeal.nD Cert.BsRefIdeal.τ).loc Cert.BsRefIdeal.main_arg3)
          ∧ r.2.mem ((c.tc : Thread Cert.BsRefIdeal.nD Cert.BsRefIdeal.τ).loc Cert.BsRefIdeal.main_arg4) = m' ((c.tc : Thread Cert.BsRefIdeal.nD Cert.BsRefIdeal.τ).loc Cert.BsRefIdeal.main_arg4))

def Claim : Prop :=
  ∃ (hRet : Cert.Ret.Facts) (hRetIdeal : Cert.RetIdeal.Facts) (hRetRefIdeal : Cert.RetRefIdeal.Facts) (hLin : Cert.Lin.Facts) (hLinIdeal : Cert.LinIdeal.Facts) (hLinRefIdeal : Cert.LinRefIdeal.Facts) (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hBand : Cert.Band.Facts) (hBandIdeal : Cert.BandIdeal.Facts) (hBandRefIdeal : Cert.BandRefIdeal.Facts) (hXq : Cert.Xq.Facts) (hXqIdeal : Cert.XqIdeal.Facts) (hXqRefIdeal : Cert.XqRefIdeal.Facts) (hFinP : Cert.FinP.Facts) (hFinPIdeal : Cert.FinPIdeal.Facts) (hFinPRefIdeal : Cert.FinPRefIdeal.Facts) (hFinS : Cert.FinS.Facts) (hFinSIdeal : Cert.FinSIdeal.Facts) (hFinSRefIdeal : Cert.FinSRefIdeal.Facts) (hKvNorm : Cert.KvNorm.Facts) (hKvNormIdeal : Cert.KvNormIdeal.Facts) (hKvNormRefIdeal : Cert.KvNormRefIdeal.Facts) (hOutAb : Cert.OutAb.Facts) (hOutAbIdeal : Cert.OutAbIdeal.Facts) (hOutAbRefIdeal : Cert.OutAbRefIdeal.Facts) (hOutBand : Cert.OutBand.Facts) (hOutBandIdeal : Cert.OutBandIdeal.Facts) (hOutBandRefIdeal : Cert.OutBandRefIdeal.Facts) (hXo : Cert.Xo.Facts) (hXoIdeal : Cert.XoIdeal.Facts) (hXoRefIdeal : Cert.XoRefIdeal.Facts) (hFfnDown : Cert.FfnDown.Facts) (hFfnDownIdeal : Cert.FfnDownIdeal.Facts) (hFfnDownRefIdeal : Cert.FfnDownRefIdeal.Facts) (hKv : Cert.Kv.Facts) (hKvIdeal : Cert.KvIdeal.Facts) (hKvRefIdeal : Cert.KvRefIdeal.Facts) (hBs : Cert.Bs.Facts) (hBsIdeal : Cert.BsIdeal.Facts) (hBsRefIdeal : Cert.BsRefIdeal.Facts) (hPre_in_range : Cert.Pre_in_range.Facts) (hPre_in_range_down : Cert.Pre_in_range_down.Facts) (hPre_finite : Cert.Pre_finite.Facts),
    quiescent_Ret (hRet := hRet)
    ∧ quiescent_RetIdeal (hRetIdeal := hRetIdeal)
    ∧ quiescent_RetRefIdeal (hRetRefIdeal := hRetRefIdeal)
    ∧ quiescent_Lin (hLin := hLin)
    ∧ quiescent_LinIdeal (hLinIdeal := hLinIdeal)
    ∧ quiescent_LinRefIdeal (hLinRefIdeal := hLinRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Up (hUp := hUp) (hPre_in_range := hPre_in_range)
    ∧ quiescent_UpIdeal (hUpIdeal := hUpIdeal) (hPre_in_range := hPre_in_range)
    ∧ quiescent_UpRefIdeal (hUpRefIdeal := hUpRefIdeal) (hPre_in_range := hPre_in_range)
    ∧ quiescent_Down (hDown := hDown) (hPre_in_range_down := hPre_in_range_down)
    ∧ quiescent_DownIdeal (hDownIdeal := hDownIdeal) (hPre_in_range_down := hPre_in_range_down)
    ∧ quiescent_DownRefIdeal (hDownRefIdeal := hDownRefIdeal) (hPre_in_range_down := hPre_in_range_down)
    ∧ quiescent_Band (hBand := hBand)
    ∧ quiescent_BandIdeal (hBandIdeal := hBandIdeal)
    ∧ quiescent_BandRefIdeal (hBandRefIdeal := hBandRefIdeal)
    ∧ quiescent_Xq (hXq := hXq)
    ∧ quiescent_XqIdeal (hXqIdeal := hXqIdeal)
    ∧ quiescent_XqRefIdeal (hXqRefIdeal := hXqRefIdeal)
    ∧ quiescent_FinP (hFinP := hFinP)
    ∧ quiescent_FinPIdeal (hFinPIdeal := hFinPIdeal)
    ∧ quiescent_FinPRefIdeal (hFinPRefIdeal := hFinPRefIdeal)
    ∧ quiescent_FinS (hFinS := hFinS)
    ∧ quiescent_FinSIdeal (hFinSIdeal := hFinSIdeal)
    ∧ quiescent_FinSRefIdeal (hFinSRefIdeal := hFinSRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutBand (hOutBand := hOutBand)
    ∧ quiescent_OutBandIdeal (hOutBandIdeal := hOutBandIdeal)
    ∧ quiescent_OutBandRefIdeal (hOutBandRefIdeal := hOutBandRefIdeal)
    ∧ quiescent_Xo (hXo := hXo)
    ∧ quiescent_XoIdeal (hXoIdeal := hXoIdeal)
    ∧ quiescent_XoRefIdeal (hXoRefIdeal := hXoRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Kv (hKv := hKv)
    ∧ quiescent_KvIdeal (hKvIdeal := hKvIdeal)
    ∧ quiescent_KvRefIdeal (hKvRefIdeal := hKvRefIdeal)
    ∧ quiescent_Bs (hBs := hBs)
    ∧ quiescent_BsIdeal (hBsIdeal := hBsIdeal)
    ∧ quiescent_BsIdeal_pre_finite (hBsIdeal := hBsIdeal) (hPre_finite := hPre_finite)
    ∧ quiescent_BsRefIdeal (hBsRefIdeal := hBsRefIdeal)
    ∧ quiescent_BsRefIdeal_pre_finite (hBsRefIdeal := hBsRefIdeal) (hPre_finite := hPre_finite)
    ∧ preserves_Ret_RetIdeal
    ∧ algebraic_RetIdeal_RetRefIdeal (hRetIdeal := hRetIdeal) (hRetRefIdeal := hRetRefIdeal)
    ∧ preserves_Lin_LinIdeal
    ∧ algebraic_LinIdeal_LinRefIdeal (hLinIdeal := hLinIdeal) (hLinRefIdeal := hLinRefIdeal)
    ∧ preserves_Ffn_FfnIdeal
    ∧ algebraic_FfnIdeal_FfnRefIdeal (hFfnIdeal := hFfnIdeal) (hFfnRefIdeal := hFfnRefIdeal)
    ∧ preserves_Up_UpIdeal
    ∧ algebraic_UpIdeal_UpRefIdeal (hUpIdeal := hUpIdeal) (hUpRefIdeal := hUpRefIdeal) (hPre_in_range := hPre_in_range)
    ∧ preserves_Down_DownIdeal
    ∧ algebraic_DownIdeal_DownRefIdeal (hDownIdeal := hDownIdeal) (hDownRefIdeal := hDownRefIdeal) (hPre_in_range_down := hPre_in_range_down)
    ∧ preserves_Band_BandIdeal
    ∧ algebraic_BandIdeal_BandRefIdeal (hBandIdeal := hBandIdeal) (hBandRefIdeal := hBandRefIdeal)
    ∧ preserves_Xq_XqIdeal
    ∧ algebraic_XqIdeal_XqRefIdeal (hXqIdeal := hXqIdeal) (hXqRefIdeal := hXqRefIdeal)
    ∧ preserves_FinP_FinPIdeal
    ∧ algebraic_FinPIdeal_FinPRefIdeal (hFinPIdeal := hFinPIdeal) (hFinPRefIdeal := hFinPRefIdeal)
    ∧ preserves_FinS_FinSIdeal
    ∧ algebraic_FinSIdeal_FinSRefIdeal (hFinSIdeal := hFinSIdeal) (hFinSRefIdeal := hFinSRefIdeal)
    ∧ preserves_KvNorm_KvNormIdeal
    ∧ algebraic_KvNormIdeal_KvNormRefIdeal (hKvNormIdeal := hKvNormIdeal) (hKvNormRefIdeal := hKvNormRefIdeal)
    ∧ preserves_OutAb_OutAbIdeal
    ∧ algebraic_OutAbIdeal_OutAbRefIdeal (hOutAbIdeal := hOutAbIdeal) (hOutAbRefIdeal := hOutAbRefIdeal)
    ∧ preserves_OutBand_OutBandIdeal
    ∧ algebraic_OutBandIdeal_OutBandRefIdeal (hOutBandIdeal := hOutBandIdeal) (hOutBandRefIdeal := hOutBandRefIdeal)
    ∧ preserves_Xo_XoIdeal
    ∧ algebraic_XoIdeal_XoRefIdeal (hXoIdeal := hXoIdeal) (hXoRefIdeal := hXoRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Kv_KvIdeal
    ∧ algebraic_KvIdeal_KvRefIdeal (hKvIdeal := hKvIdeal) (hKvRefIdeal := hKvRefIdeal)
    ∧ preserves_Bs_BsIdeal
    ∧ algebraic_BsIdeal_BsRefIdeal_pre_finite (hBsIdeal := hBsIdeal) (hBsRefIdeal := hBsRefIdeal) (hPre_finite := hPre_finite)
-- ==== Pre_finite.lean ====
abbrev S10240x6144 : Shape := ⟨2, ![10240, 6144]⟩
abbrev S32x512x16x128 : Shape := ⟨4, ![32, 512, 16, 128]⟩
abbrev S16x64x576 : Shape := ⟨3, ![16, 64, 576]⟩
abbrev S10240x2048 : Shape := ⟨2, ![10240, 2048]⟩
abbrev S_ : Shape := ⟨0, ![]⟩

class Facts : Prop where
  bcast_S_S10240x6144 : S_.BroadcastsInDim S10240x6144 (![] : Fin 0 → Fin S10240x6144.rank)
  reducesTo_S10240x6144_S_d0_1 : S10240x6144.ReducesTo [0, 1] S_
  h_S_ : 0 < S_.numel
  bcast_S_S32x512x16x128 : S_.BroadcastsInDim S32x512x16x128 (![] : Fin 0 → Fin S32x512x16x128.rank)
  reducesTo_S32x512x16x128_S_d0_1_2_3 : S32x512x16x128.ReducesTo [0, 1, 2, 3] S_
  bcast_S_S16x64x576 : S_.BroadcastsInDim S16x64x576 (![] : Fin 0 → Fin S16x64x576.rank)
  reducesTo_S16x64x576_S_d0_1_2 : S16x64x576.ReducesTo [0, 1, 2] S_

variable [Facts]

def fn {F : FTy → Type} [FloatOps F] (main_arg0 : FVec F S10240x6144 .f32) (main_arg1 : FVec F S32x512x16x128 .f32) (main_arg2 : FVec F S32x512x16x128 .f32) (main_arg3 : FVec F S16x64x576 .f32) (main_arg4 : FVec F S10240x2048 .bf16) : IVec S_ 1 :=
  let main_v0 : FVec F S10240x6144 .f32 := Host.absf main_arg0
  let main_cst : FVec F S_ .f32 := constant S_ .f32 0x7F800000#32
  let main_v1 : FVec F S10240x6144 .f32 := broadcastInDim S10240x6144 ![] bcast_S_S10240x6144 main_cst
  let main_v2 : IVec S10240x6144 1 := cmpf .olt main_v0 main_v1
  let main_c : IVec S_ 1 := constantI S_ 1 1#1
  let main_v3 : IVec S_ 1 := (fun x v => Host.reduce IntOp.andi x v reducesTo_S10240x6144_S_d0_1 h_S_) main_v2 main_c
  let main_v4 : FVec F S32x512x16x128 .f32 := Host.absf main_arg1
  let main_cst_0 : FVec F S_ .f32 := constant S_ .f32 0x7F800000#32
  let main_v5 : FVec F S32x512x16x128 .f32 := broadcastInDim S32x512x16x128 ![] bcast_S_S32x512x16x128 main_cst_0
  let main_v6 : IVec S32x512x16x128 1 := cmpf .olt main_v4 main_v5
  let main_c_1 : IVec S_ 1 := constantI S_ 1 1#1
  let main_v7 : IVec S_ 1 := (fun x v => Host.reduce IntOp.andi x v reducesTo_S32x512x16x128_S_d0_1_2_3 h_S_) main_v6 main_c_1
  let main_v8 : IVec S_ 1 := andi main_v3 main_v7
  let main_v9 : FVec F S16x64x576 .f32 := Host.absf main_arg3
  let main_cst_2 : FVec F S_ .f32 := constant S_ .f32 0x7F800000#32
  let main_v10 : FVec F S16x64x576 .f32 := broadcastInDim S16x64x576 ![] bcast_S_S16x64x576 main_cst_2
  let main_v11 : IVec S16x64x576 1 := cmpf .olt main_v9 main_v10
  let main_c_3 : IVec S_ 1 := constantI S_ 1 1#1
  let main_v12 : IVec S_ 1 := (fun x v => Host.reduce IntOp.andi x v reducesTo_S16x64x576_S_d0_1_2 h_S_) main_v11 main_c_3
  let main_v13 : IVec S_ 1 := andi main_v8 main_v12
  main_v13
-- ==== Pre_in_range.lean ====
abbrev S88 : Shape := ⟨1, ![88]⟩
abbrev S22528x2048 : Shape := ⟨2, ![22528, 2048]⟩
abbrev S8x2048x2816 : Shape := ⟨3, ![8, 2048, 2816]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S88 32) (main_arg2 : FVec F S22528x2048 .bf16) (main_arg3 : FVec F S8x2048x2816 .bf16) (main_arg4 : FVec F S8x2048x2816 .bf16) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 8#32
  let main_v2 : IVec S88 32 := broadcastInDim S88 ![] bcast_S_S88 main_c_0
  let main_v3 : IVec S88 1 := cmpi .slt main_arg0 main_v2
  let main_v4 : IVec S88 1 := andi main_v1 main_v3
  main_v4
-- ==== Pre_in_range_down.lean ====
abbrev S88 : Shape := ⟨1, ![88]⟩
abbrev S22528x2816 : Shape := ⟨2, ![22528, 2816]⟩
abbrev S8x2816x2048 : Shape := ⟨3, ![8, 2816, 2048]⟩
abbrev S22528x1 : Shape := ⟨2, ![22528, 1]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S88 32) (main_arg2 : FVec F S22528x2816 .bf16) (main_arg3 : FVec F S8x2816x2048 .bf16) (main_arg4 : FVec F S22528x1 .f32) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 8#32
  let main_v2 : IVec S88 32 := broadcastInDim S88 ![] bcast_S_S88 main_c_0
  let main_v3 : IVec S88 1 := cmpi .slt main_arg0 main_v2
  let main_v4 : IVec S88 1 := andi main_v1 main_v3
  main_v4
-- ==== Ret.lean ====
abbrev S10240x7168 : Shape := ⟨2, ![10240, 7168]⟩
abbrev S1024 : Shape := ⟨1, ![1024]⟩
abbrev S32x8x128x128 : Shape := ⟨4, ![32, 8, 128, 128]⟩
abbrev S10240x1024 : Shape := ⟨2, ![10240, 1024]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S1x1024 : Shape := ⟨2, ![1, 1024]⟩
abbrev S64x1024 : Shape := ⟨2, ![64, 1024]⟩
abbrev S1x8x128x128 : Shape := ⟨4, ![1, 8, 128, 128]⟩
abbrev S8x128x128 : Shape := ⟨3, ![8, 128, 128]⟩
abbrev S8x64x64 : Shape := ⟨3, ![8, 64, 64]⟩
abbrev S1x64x64 : Shape := ⟨3, ![1, 64, 64]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 30
  | .vmem => 19
  | .smem => 0
  | _ => 0

abbrev bufTy : (tb : Table) → Fin (tcTables nBuf tb) → BufTy
  | .hbm, ⟨0, _⟩ => ⟨S10240x7168, .f32⟩
  | .hbm, ⟨1, _⟩ => ⟨S1024, .f32⟩
  | .hbm, ⟨2, _⟩ => ⟨S32x8x128x128, .f32⟩
  | .hbm, ⟨3, _⟩ => ⟨S10240x1024, .bf16⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x128, .f32⟩
  | .hbm, ⟨25, _⟩ => ⟨S64x64, .f32⟩
  | .hbm, ⟨26, _⟩ => ⟨S64x128, .f32⟩
  | .hbm, ⟨27, _⟩ => ⟨S1x1024, .f32⟩
  | .hbm, ⟨28, _⟩ => ⟨S10240x1024, .bf16⟩
  | .hbm, ⟨29, _⟩ => ⟨S32x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S1x1024, .f32⟩
  | .local _ .vmem, ⟨11, _⟩ => ⟨S1x8x128x128, .f32⟩
  | .local _ .vmem, ⟨12, _⟩ => ⟨S1x8x128x128, .f32⟩
  | .local _ .vmem, ⟨13, _⟩ => ⟨S64x1024, .bf16⟩
  | .local _ .vmem, ⟨14, _⟩ => ⟨S64x1024, .bf16⟩
  | .local _ .vmem, ⟨15, _⟩ => ⟨S1x8x128x128, .f32⟩
  | .local _ .vmem, ⟨16, _⟩ => ⟨S1x8x128x128, .f32⟩
  | .local _ .vmem, ⟨17, _⟩ => ⟨S8x128x128, .f32⟩
  | .local _ .vmem, ⟨18, _⟩ => ⟨S8x64x64, .f32⟩
  | _, _ => ⟨S10240x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_300 : BitVec 32 := 0#32
  let v601 : BitVec 1 := Scalar.cmpi .eq arg1 c0_i32_300
  let v602 : BitVec 32 := Scalar.extui v601
  let c0_i32_301 : BitVec 32 := 0#32
  let v603 : BitVec 1 := Scalar.cmpi .ne v602 c0_i32_301
  v603

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c4_i32 : BitVec 32 := 4#32
  let c0_i32 : BitVec 32 := 0#32
  ![v2.toNat, c4_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c5_i32 : BitVec 32 := 5#32
  let c0_i32 : BitVec 32 := 0#32
  ![v2.toNat, c5_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c6_i32 : BitVec 32 := 6#32
  let c0_i32 : BitVec 32 := 0#32
  ![v2.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RetIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | "tlg0" => some ((64 * (Real.log (31 / 32)) : ℝ) : EReal)
  | "tlg1" => some ((64 * (Real.log (63 / 64)) : ℝ) : EReal)
  | "tlg2" => some ((64 * (Real.log (127 / 128)) : ℝ) : EReal)
  | "tlg3" => some ((64 * (Real.log (255 / 256)) : ℝ) : EReal)
  | "tlg4" => some ((64 * (Real.log (511 / 512)) : ℝ) : EReal)
  | "tlg5" => some ((64 * (Real.log (1023 / 1024)) : ℝ) : EReal)
  | "tlg6" => some ((64 * (Real.log (2047 / 2048)) : ℝ) : EReal)
  | "tlg7" => some ((64 * (Real.log (4095 / 4096)) : ℝ) : EReal)
  | _ => none
-- ==== RetRefIdeal.lean ====
abbrev S10240x7168 : Shape := ⟨2, ![10240, 7168]⟩
abbrev S1024 : Shape := ⟨1, ![1024]⟩
abbrev S32x8x128x128 : Shape := ⟨4, ![32, 8, 128, 128]⟩
abbrev S10240x1024 : Shape := ⟨2, ![10240, 1024]⟩
abbrev S8 : Shape := ⟨1, ![8]⟩
abbrev S_ : Shape := ⟨0, ![]⟩
abbrev S64 : Shape := ⟨1, ![64]⟩
abbrev S2048x7168 : Shape := ⟨2, ![2048, 7168]⟩
abbrev S2048x1024 : Shape := ⟨2, ![2048, 1024]⟩
abbrev S32x64x8x128 : Shape := ⟨4, ![32, 64, 8, 128]⟩
abbrev S64x1 : Shape := ⟨2, ![64, 1]⟩
abbrev S1x64 : Shape := ⟨2, ![1, 64]⟩
abbrev S64x64 : Shape := ⟨2, ![64, 64]⟩
abbrev S1x64x1x64 : Shape := ⟨4, ![1, 64, 1, 64]⟩
abbrev S32x64x8x64 : Shape := ⟨4, ![32, 64, 8, 64]⟩
abbrev S8x1x1 : Shape := ⟨3, ![8, 1, 1]⟩
abbrev S1x64x64 : Shape := ⟨3, ![1, 64, 64]⟩
abbrev S8x64x64 : Shape := ⟨3, ![8, 64, 64]⟩
abbrev S32x8x64x64 : Shape := ⟨4, ![32, 8, 64, 64]⟩
abbrev S1x8x64x64 : Shape := ⟨4, ![1, 8, 64, 64]⟩
abbrev S32x8x128x64 : Shape := ⟨4, ![32, 8, 128, 64]⟩
abbrev S1x8 : Shape := ⟨2, ![1, 8]⟩
abbrev S64x8 : Shape := ⟨2, ![64, 8]⟩
abbrev S1x64x8x1 : Shape := ⟨4, ![1, 64, 8, 1]⟩
abbrev S1x8x1x1 : Shape := ⟨4, ![1, 8, 1, 1]⟩
abbrev S32x64x8 : Shape := ⟨3, ![32, 64, 8]⟩
abbrev S32x64x8x1 : Shape := ⟨4, ![32, 64, 8, 1]⟩
abbrev S8x128 : Shape := ⟨2, ![8, 128]⟩
abbrev S1x1x8x128 : Shape := ⟨4, ![1, 1, 8, 128]⟩
abbrev S8192x1024 : Shape := ⟨2, ![8192, 1024]⟩

abbrev nBuf : Space → Nat
  | .hbm => 186
  | .vmem => 0
  | .smem => 0
  | _ => 0

abbrev hbmTy0_0 (i : Nat) : BufTy := match i % 128 with
  | 0 => ⟨S10240x7168, .f32⟩
  | 1 => ⟨S1024, .f32⟩
  | 2 => ⟨S32x8x128x128, .f32⟩
  | 3 => ⟨S10240x1024, .bf16⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S64, .i32⟩
  | 14 => ⟨S_, .i32⟩
  | 15 => ⟨S64, .i32⟩
  | 16 => ⟨S64, .i32⟩
  | 17 => ⟨S2048x7168, .f32⟩
  | 18 => ⟨S2048x1024, .f32⟩
  | 19 => ⟨S2048x1024, .f32⟩
  | 20 => ⟨S2048x1024, .f32⟩
  | 21 => ⟨S2048x1024, .f32⟩
  | 22 => ⟨S32x64x8x128, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64, .f32⟩
  | 32 => ⟨S64x1, .f32⟩
  | 33 => ⟨S1x64, .f32⟩
  | 34 => ⟨S64x64, .f32⟩
  | 35 => ⟨S64x64, .f32⟩
  | 36 => ⟨S64x64, .f32⟩
  | 37 => ⟨S64x64, .f32⟩
  | 38 => ⟨S1x64x1x64, .f32⟩
  | 39 => ⟨S64x64, .f32⟩
  | 40 => ⟨S1x64x1x64, .f32⟩
  | 41 => ⟨S32x64x8x64, .f32⟩
  | 42 => ⟨S32x64x8x64, .f32⟩
  | 43 => ⟨S32x64x8x64, .f32⟩
  | 44 => ⟨S32x64x8x64, .f32⟩
  | 45 => ⟨S32x64x8x64, .f32⟩
  | 46 => ⟨S32x64x8x64, .f32⟩
  | 47 => ⟨S32x64x8x64, .f32⟩
  | 48 => ⟨S32x64x8x64, .f32⟩
  | 49 => ⟨S32x64x8x64, .f32⟩
  | 50 => ⟨S32x64x8x64, .f32⟩
  | 51 => ⟨S32x64x8x64, .f32⟩
  | 52 => ⟨S32x64x8x64, .f32⟩
  | 53 => ⟨S32x64x8x128, .f32⟩
  | 54 => ⟨S32x64x8x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S64x1, .f32⟩
  | 65 => ⟨S1x64, .f32⟩
  | 66 => ⟨S64x64, .f32⟩
  | 67 => ⟨S64x64, .f32⟩
  | 68 => ⟨S64x64, .f32⟩
  | 69 => ⟨S64x64, .f32⟩
  | 70 => ⟨S1x64x1x64, .f32⟩
  | 71 => ⟨S64x64, .f32⟩
  | 72 => ⟨S1x64x1x64, .f32⟩
  | 73 => ⟨S32x64x8x64, .f32⟩
  | 74 => ⟨S32x64x8x64, .f32⟩
  | 75 => ⟨S32x64x8x64, .f32⟩
  | 76 => ⟨S32x64x8x64, .f32⟩
  | 77 => ⟨S32x64x8x64, .f32⟩
  | 78 => ⟨S32x64x8x64, .f32⟩
  | 79 => ⟨S32x64x8x64, .f32⟩
  | 80 => ⟨S32x64x8x64, .f32⟩
  | 81 => ⟨S32x64x8x64, .f32⟩
  | 82 => ⟨S32x64x8x64, .f32⟩
  | 83 => ⟨S32x64x8x64, .f32⟩
  | 84 => ⟨S32x64x8x64, .f32⟩
  | 85 => ⟨S32x64x8x128, .f32⟩
  | 86 => ⟨S_, .f32⟩
  | 87 => ⟨S32x64x8x128, .f32⟩
  | 88 => ⟨S32x64x8x128, .f32⟩
  | 89 => ⟨S32x64x8x128, .f32⟩
  | 90 => ⟨S64, .f32⟩
  | 91 => ⟨S64x1, .f32⟩
  | 92 => ⟨S1x64, .f32⟩
  | 93 => ⟨S64x64, .f32⟩
  | 94 => ⟨S64x64, .f32⟩
  | 95 => ⟨S64x64, .f32⟩
  | 96 => ⟨S_, .f32⟩
  | 97 => ⟨S64x64, .f32⟩
  | 98 => ⟨S64x64, .i1⟩
  | 99 => ⟨S8x1x1, .f32⟩
  | 100 => ⟨S_, .f32⟩
  | 101 => ⟨S64x64, .f32⟩
  | 102 => ⟨S64x64, .f32⟩
  | 103 => ⟨S1x64x64, .f32⟩
  | 104 => ⟨S8x64x64, .f32⟩
  | 105 => ⟨S8x64x64, .f32⟩
  | 106 => ⟨S8x64x64, .f32⟩
  | 107 => ⟨S8x64x64, .f32⟩
  | 108 => ⟨S_, .f32⟩
  | 109 => ⟨S_, .f32⟩
  | 110 => ⟨S8x64x64, .i1⟩
  | 111 => ⟨S8x64x64, .f32⟩
  | 112 => ⟨S8x64x64, .f32⟩
  | 113 => ⟨S32x8x64x64, .f32⟩
  | 114 => ⟨S1x8x64x64, .f32⟩
  | 115 => ⟨S32x8x64x64, .f32⟩
  | 116 => ⟨S32x8x64x64, .f32⟩
  | 117 => ⟨S32x8x128x64, .f32⟩
  | 118 => ⟨S32x64x8x128, .f32⟩
  | 119 => ⟨S64x1, .f32⟩
  | 120 => ⟨S_, .f32⟩
  | 121 => ⟨S64x1, .f32⟩
  | 122 => ⟨S64x1, .f32⟩
  | 123 => ⟨S1x8, .f32⟩
  | 124 => ⟨S64x8, .f32⟩
  | 125 => ⟨S64x8, .f32⟩
  | 126 => ⟨S64x8, .f32⟩
  | 127 => ⟨S64x8, .f32⟩
  | _ => ⟨S10240x7168, .f32⟩

abbrev hbmTy0_1 (i : Nat) : BufTy := match i % 128 with
  | 0 => ⟨S32x8x128x64, .f32⟩
  | 1 => ⟨S32x64x8x128, .f32⟩
  | 2 => ⟨S1x64x8x1, .f32⟩
  | 3 => ⟨S32x64x8x128, .f32⟩
  | 4 => ⟨S32x64x8x128, .f32⟩
  | 5 => ⟨S64x1, .f32⟩
  | 6 => ⟨S_, .f32⟩
  | 7 => ⟨S64x1, .f32⟩
  | 8 => ⟨S64x1, .f32⟩
  | 9 => ⟨S1x8, .f32⟩
  | 10 => ⟨S64x8, .f32⟩
  | 11 => ⟨S64x8, .f32⟩
  | 12 => ⟨S64x8, .f32⟩
  | 13 => ⟨S64x8, .f32⟩
  | 14 => ⟨S_, .f32⟩
  | 15 => ⟨S8, .f32⟩
  | 16 => ⟨S8, .f32⟩
  | 17 => ⟨S8, .f32⟩
  | 18 => ⟨S1x8x1x1, .f32⟩
  | 19 => ⟨S32x8x128x128, .f32⟩
  | 20 => ⟨S32x8x128x128, .f32⟩
  | 21 => ⟨S1x64x8x1, .f32⟩
  | 22 => ⟨S32x64x8x128, .f32⟩
  | 23 => ⟨S32x64x8x128, .f32⟩
  | 24 => ⟨S32x8x128x128, .f32⟩
  | 25 => ⟨S32x8x128x128, .f32⟩
  | 26 => ⟨S32x64x8x128, .f32⟩
  | 27 => ⟨S32x64x8x128, .f32⟩
  | 28 => ⟨S_, .f32⟩
  | 29 => ⟨S32x64x8, .f32⟩
  | 30 => ⟨S32x64x8x1, .f32⟩
  | 31 => ⟨S_, .f32⟩
  | 32 => ⟨S32x64x8x1, .f32⟩
  | 33 => ⟨S32x64x8x1, .f32⟩
  | 34 => ⟨S_, .f32⟩
  | 35 => ⟨S32x64x8x1, .f32⟩
  | 36 => ⟨S32x64x8x1, .f32⟩
  | 37 => ⟨S32x64x8x1, .f32⟩
  | 38 => ⟨S32x64x8x128, .f32⟩
  | 39 => ⟨S32x64x8x128, .f32⟩
  | 40 => ⟨S8x128, .f32⟩
  | 41 => ⟨S1x1x8x128, .f32⟩
  | 42 => ⟨S32x64x8x128, .f32⟩
  | 43 => ⟨S32x64x8x128, .f32⟩
  | 44 => ⟨S2048x1024, .f32⟩
  | 45 => ⟨S2048x1024, .f32⟩
  | 46 => ⟨S2048x1024, .f32⟩
  | 47 => ⟨S_, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S2048x1024, .f32⟩
  | 54 => ⟨S2048x1024, .f32⟩
  | 55 => ⟨S8192x1024, .bf16⟩
  | 56 => ⟨S2048x1024, .bf16⟩
  | 57 => ⟨S10240x1024, .bf16⟩
  | _ => ⟨S10240x7168, .f32⟩

abbrev hbmTy (i : Nat) : BufTy := match i / 128 with
  | 0 => hbmTy0_0 i
  | 1 => hbmTy0_1 i
  | _ => ⟨S10240x7168, .f32⟩

abbrev bufTy : (tb : Table) → Fin (tcTables nBuf tb) → BufTy
  | .hbm, ⟨i, _⟩ => hbmTy i
  | _, _ => ⟨S10240x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_5 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_7 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_8 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_9 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_10 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_11 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_12 : Ref sig .tc := ⟨.hbm, 156, rfl⟩
abbrev main_v135 : Ref sig .tc := ⟨.hbm, 157, rfl⟩
abbrev main_v136 : Ref sig .tc := ⟨.hbm, 158, rfl⟩
abbrev main_cst_13 : Ref sig .tc := ⟨.hbm, 159, rfl⟩
abbrev main_v137 : Ref sig .tc := ⟨.hbm, 160, rfl⟩
abbrev main_v138 : Ref sig .tc := ⟨.hbm, 161, rfl⟩
abbrev main_cst_14 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_call1_v0 : Ref sig .tc := ⟨.hbm, 173, rfl⟩
abbrev main_call1_v1 : Ref sig .tc := ⟨.hbm, 174, rfl⟩
abbrev main_call1_cst : Ref sig .tc := ⟨.hbm, 175, rfl⟩
abbrev main_call1_v2 : Ref sig .tc := ⟨.hbm, 176, rfl⟩
abbrev main_call1_v3 : Ref sig .tc := ⟨.hbm, 177, rfl⟩
abbrev main_call1_cst_0 : Ref sig .tc := ⟨.hbm, 178, rfl⟩
abbrev main_call1_v4 : Ref sig .tc := ⟨.hbm, 179, rfl⟩
abbrev main_call1_v5 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩

abbrev nD : Nat := 1
abbrev τ : Topo := Topo.v7x

variable {F : FTy → Type} [FloatOps F]
-- ==== Lin.lean ====
abbrev S10240x2048 : Shape := ⟨2, ![10240, 2048]⟩
abbrev S2048 : Shape := ⟨1, ![2048]⟩
abbrev S2048x7168 : Shape := ⟨2, ![2048, 7168]⟩
abbrev S1x2048 : Shape := ⟨2, ![1, 2048]⟩
abbrev S10240x7168 : Shape := ⟨2, ![10240, 7168]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x7168, .f32⟩
  | .hbm, ⟨3, _⟩ => ⟨S1x2048, .f32⟩
  | .hbm, ⟨4, _⟩ => ⟨S10240x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![7, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinRefIdeal.lean ====
abbrev S10240x2048 : Shape := ⟨2, ![10240, 2048]⟩
abbrev S2048 : Shape := ⟨1, ![2048]⟩
abbrev S2048x7168 : Shape := ⟨2, ![2048, 7168]⟩
abbrev S_ : Shape := ⟨0, ![]⟩
abbrev S10240 : Shape := ⟨1, ![10240]⟩
abbrev S10240x1 : Shape := ⟨2, ![10240, 1]⟩
abbrev S1x2048 : Shape := ⟨2, ![1, 2048]⟩
abbrev S10240x7168 : Shape := ⟨2, ![10240, 7168]⟩

abbrev nBuf : Space → Nat
  | .hbm => 20
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x7168, .f32⟩
  | .hbm, ⟨3, _⟩ => ⟨S10240x2048, .f32⟩
  | .hbm, ⟨4, _⟩ => ⟨S_, .f32⟩
  | .hbm, ⟨5, _⟩ => ⟨S10240, .f32⟩
  | .hbm, ⟨6, _⟩ => ⟨S10240x1, .f32⟩
  | .hbm, ⟨7, _⟩ => ⟨S_, .f32⟩
  | .hbm, ⟨8, _⟩ => ⟨S10240x1, .f32⟩
  | .hbm, ⟨9, _⟩ => ⟨S10240x1, .f32⟩
  | .hbm, ⟨10, _⟩ => ⟨S_, .f32⟩
  | .hbm, ⟨11, _⟩ => ⟨S10240x1, .f32⟩
  | .hbm, ⟨12, _⟩ => ⟨S10240x1, .f32⟩
  | .hbm, ⟨13, _⟩ => ⟨S10240x1, .f32⟩
  | .hbm, ⟨14, _⟩ => ⟨S10240x2048, .f32⟩
  | .hbm, ⟨15, _⟩ => ⟨S10240x2048, .f32⟩
  | .hbm, ⟨16, _⟩ => ⟨S1x2048, .f32⟩
  | .hbm, ⟨17, _⟩ => ⟨S10240x2048, .f32⟩
  | .hbm, ⟨18, _⟩ => ⟨S10240x2048, .f32⟩
  | .hbm, ⟨19, _⟩ => ⟨S10240x7168, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ffn.lean ====
abbrev S10240x2048 : Shape := ⟨2, ![10240, 2048]⟩
abbrev S2048 : Shape := ⟨1, ![2048]⟩
abbrev S2048x5632 : Shape := ⟨2, ![2048, 5632]⟩
abbrev S1x2048 : Shape := ⟨2, ![1, 2048]⟩
abbrev S10240x5632 : Shape := ⟨2, ![10240, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S1x2048, .f32⟩
  | .hbm, ⟨5, _⟩ => ⟨S10240x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1024x512, .bf16⟩
  | .local _ .vmem, ⟨8, _⟩ => ⟨S1024x512, .bf16⟩
  | .local _ .vmem, ⟨9, _⟩ => ⟨S2048x512, .bf16⟩
  | .local _ .vmem, ⟨10, _⟩ => ⟨S2048x512, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S10240x2048 : Shape := ⟨2, ![10240, 2048]⟩
abbrev S2048 : Shape := ⟨1, ![2048]⟩
abbrev S2048x5632 : Shape := ⟨2, ![2048, 5632]⟩
abbrev S_ : Shape := ⟨0, ![]⟩
abbrev S10240 : Shape := ⟨1, ![10240]⟩
abbrev S10240x1 : Shape := ⟨2, ![10240, 1]⟩
abbrev S1x2048 : Shape := ⟨2, ![1, 2048]⟩
abbrev S10240x5632 : Shape := ⟨2, ![10240, 5632]⟩

abbrev nBuf : Space → Nat
  | .hbm => 33
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S10240x2048, .f32⟩
  | .hbm, ⟨5, _⟩ => ⟨S_, .f32⟩
  | .hbm, ⟨6, _⟩ => ⟨S10240, .f32⟩
  | .hbm, ⟨7, _⟩ => ⟨S10240x1, .f32⟩
  | .hbm, ⟨8, _⟩ => ⟨S_, .f32⟩
  | .hbm, ⟨9, _⟩ => ⟨S10240x1, .f32⟩
  | .hbm, ⟨10, _⟩ => ⟨S10240x1, .f32⟩
  | .hbm, ⟨11, _⟩ => ⟨S_, .f32⟩
  | .hbm, ⟨12, _⟩ => ⟨S10240x1, .f32⟩
  | .hbm, ⟨13, _⟩ => ⟨S10240x1, .f32⟩
  | .hbm, ⟨14, _⟩ => ⟨S10240x1, .f32⟩
  | .hbm, ⟨15, _⟩ => ⟨S10240x2048, .f32⟩
  | .hbm, ⟨16, _⟩ => ⟨S10240x2048, .f32⟩
  | .hbm, ⟨17, _⟩ => ⟨S1x2048, .f32⟩
  | .hbm, ⟨18, _⟩ => ⟨S10240x2048, .f32⟩
  | .hbm, ⟨19, _⟩ => ⟨S10240x2048, .f32⟩
  | .hbm, ⟨20, _⟩ => ⟨S10240x5632, .f32⟩
  | .hbm, ⟨21, _⟩ => ⟨S10240x5632, .f32⟩
  | .hbm, ⟨22, _⟩ => ⟨S10240x5632, .f32⟩
  | .hbm, ⟨23, _⟩ => ⟨S_, .f32⟩
  | .hbm, ⟨24, _⟩ => ⟨S10240x5632, .f32⟩
  | .hbm, ⟨25, _⟩ => ⟨S10240x5632, .f32⟩
  | .hbm, ⟨26, _⟩ => ⟨S_, .f32⟩
  | .hbm, ⟨27, _⟩ => ⟨S10240x5632, .f32⟩
  | .hbm, ⟨28, _⟩ => ⟨S10240x5632, .f32⟩
  | .hbm, ⟨29, _⟩ => ⟨S10240x5632, .f32⟩
  | .hbm, ⟨30, _⟩ => ⟨S10240x5632, .f32⟩
  | .hbm, ⟨31, _⟩ => ⟨S10240x5632, .f32⟩
  | .hbm, ⟨32, _⟩ => ⟨S10240x5632, .bf16⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Up.lean ====
abbrev S88 : Shape := ⟨1, ![88]⟩
abbrev S22528x2048 : Shape := ⟨2, ![22528, 2048]⟩
abbrev S8x2048x2816 : Shape := ⟨3, ![8, 2048, 2816]⟩
abbrev S22528x2816 : Shape := ⟨2, ![22528, 2816]⟩
abbrev S256x2048 : Shape := ⟨2, ![256, 2048]⟩
abbrev S1x2048x1408 : Shape := ⟨3, ![1, 2048, 1408]⟩
abbrev S1 : Shape := ⟨1, ![1]⟩
abbrev S256x1408 : Shape := ⟨2, ![256, 1408]⟩
abbrev S2048x1408 : Shape := ⟨2, ![2048, 1408]⟩

abbrev nBuf : Space → Nat
  | .hbm => 4
  | .vmem => 8
  | .smem => 2
  | _ => 0

abbrev bufTy : (tb : Table) → Fin (tcTables nBuf tb) → BufTy
  | .hbm, ⟨0, _⟩ => ⟨S22528x2048, .bf16⟩
  | .hbm, ⟨1, _⟩ => ⟨S8x2048x2816, .bf16⟩
  | .hbm, ⟨2, _⟩ => ⟨S8x2048x2816, .bf16⟩
  | .hbm, ⟨3, _⟩ => ⟨S22528x2816, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .smem, ⟨0, _⟩ => ⟨S88, .i32⟩
  | .local _ .smem, ⟨1, _⟩ => ⟨S88, .i32⟩
  | _, _ => ⟨S22528x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 88], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S88 : Shape := ⟨1, ![88]⟩
abbrev S22528x2048 : Shape := ⟨2, ![22528, 2048]⟩
abbrev S8x2048x2816 : Shape := ⟨3, ![8, 2048, 2816]⟩
abbrev S88x256 : Shape := ⟨2, ![88, 256]⟩
abbrev S22528 : Shape := ⟨1, ![22528]⟩
abbrev S_ : Shape := ⟨0, ![]⟩
abbrev S22528x1 : Shape := ⟨2, ![22528, 1]⟩
abbrev S8 : Shape := ⟨1, ![8]⟩
abbrev S1x8 : Shape := ⟨2, ![1, 8]⟩
abbrev S22528x8 : Shape := ⟨2, ![22528, 8]⟩
abbrev S22528x8x2816 : Shape := ⟨3, ![22528, 8, 2816]⟩
abbrev S22528x8x1 : Shape := ⟨3, ![22528, 8, 1]⟩
abbrev S22528x2816 : Shape := ⟨2, ![22528, 2816]⟩

abbrev nBuf : Space → Nat
  | .hbm => 45
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S22528x2048, .bf16⟩
  | .hbm, ⟨3, _⟩ => ⟨S8x2048x2816, .bf16⟩
  | .hbm, ⟨4, _⟩ => ⟨S8x2048x2816, .bf16⟩
  | .hbm, ⟨5, _⟩ => ⟨S88x256, .i32⟩
  | .hbm, ⟨6, _⟩ => ⟨S22528, .i32⟩
  | .hbm, ⟨7, _⟩ => ⟨S88x256, .i32⟩
  | .hbm, ⟨8, _⟩ => ⟨S22528, .i32⟩
  | .hbm, ⟨9, _⟩ => ⟨S_, .i32⟩
  | .hbm, ⟨10, _⟩ => ⟨S22528, .i32⟩
  | .hbm, ⟨11, _⟩ => ⟨S22528, .i1⟩
  | .hbm, ⟨12, _⟩ => ⟨S22528x1, .i32⟩
  | .hbm, ⟨13, _⟩ => ⟨S8, .i32⟩
  | .hbm, ⟨14, _⟩ => ⟨S1x8, .i32⟩
  | .hbm, ⟨15, _⟩ => ⟨S22528x8, .i32⟩
  | .hbm, ⟨16, _⟩ => ⟨S22528x8, .i32⟩
  | .hbm, ⟨17, _⟩ => ⟨S22528x8, .i1⟩
  | .hbm, ⟨18, _⟩ => ⟨S22528x1, .i1⟩
  | .hbm, ⟨19, _⟩ => ⟨S22528x8, .i1⟩
  | .hbm, ⟨20, _⟩ => ⟨S22528x8, .i1⟩
  | .hbm, ⟨21, _⟩ => ⟨S22528x2048, .f32⟩
  | .hbm, ⟨22, _⟩ => ⟨S8x2048x2816, .f32⟩
  | .hbm, ⟨23, _⟩ => ⟨S22528x8x2816, .f32⟩
  | .hbm, ⟨24, _⟩ => ⟨S22528x8x2816, .f32⟩
  | .hbm, ⟨25, _⟩ => ⟨S22528x8x2816, .f32⟩
  | .hbm, ⟨26, _⟩ => ⟨S_, .f32⟩
  | .hbm, ⟨27, _⟩ => ⟨S22528x8x2816, .f32⟩
  | .hbm, ⟨28, _⟩ => ⟨S22528x8x2816, .f32⟩
  | .hbm, ⟨29, _⟩ => ⟨S_, .f32⟩
  | .hbm, ⟨30, _⟩ => ⟨S22528x8x2816, .f32⟩
  | .hbm, ⟨31, _⟩ => ⟨S22528x8x2816, .f32⟩
  | .hbm, ⟨32, _⟩ => ⟨S22528x8x2816, .f32⟩
  | .hbm, ⟨33, _⟩ => ⟨S8x2048x2816, .f32⟩
  | .hbm, ⟨34, _⟩ => ⟨S22528x8x2816, .f32⟩
  | .hbm, ⟨35, _⟩ => ⟨S22528x8x2816, .f32⟩
  | .hbm, ⟨36, _⟩ => ⟨S22528x8x1, .i1⟩
  | .hbm, ⟨37, _⟩ => ⟨S_, .f32⟩
  | .hbm, ⟨38, _⟩ => ⟨S_, .f32⟩
  | .hbm, ⟨39, _⟩ => ⟨S22528x8x2816, .i1⟩
  | .hbm, ⟨40, _⟩ => ⟨S22528x8x2816, .f32⟩
  | .hbm, ⟨41, _⟩ => ⟨S22528x8x2816, .f32⟩
  | .hbm, ⟨42, _⟩ => ⟨S_, .f32⟩
  | .hbm, ⟨43, _⟩ => ⟨S22528x2816, .f32⟩
  | .hbm, ⟨44, _⟩ => ⟨S22528x2816, .bf16⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Down.lean ====
abbrev S88 : Shape := ⟨1, ![88]⟩
abbrev S22528x2816 : Shape := ⟨2, ![22528, 2816]⟩
abbrev S8x2816x2048 : Shape := ⟨3, ![8, 2816, 2048]⟩
abbrev S22528x1 : Shape := ⟨2, ![22528, 1]⟩
abbrev S22528x2048 : Shape := ⟨2, ![22528, 2048]⟩
abbrev S256x2816 : Shape := ⟨2, ![256, 2816]⟩
abbrev S1x2816x2048 : Shape := ⟨3, ![1, 2816, 2048]⟩
abbrev S1 : Shape := ⟨1, ![1]⟩
abbrev S256x1 : Shape := ⟨2, ![256, 1]⟩
abbrev S256x2048 : Shape := ⟨2, ![256, 2048]⟩
abbrev S2816x2048 : Shape := ⟨2, ![2816, 2048]⟩

abbrev nBuf : Space → Nat
  | .hbm => 4
  | .vmem => 8
  | .smem => 2
  | _ => 0

abbrev bufTy : (tb : Table) → Fin (tcTables nBuf tb) → BufTy
  | .hbm, ⟨0, _⟩ => ⟨S22528x2816, .bf16⟩
  | .hbm, ⟨1, _⟩ => ⟨S8x2816x2048, .bf16⟩
  | .hbm, ⟨2, _⟩ => ⟨S22528x1, .f32⟩
  | .hbm, ⟨3, _⟩ => ⟨S22528x2048, .bf16⟩
  | .local _ .vmem, ⟨0, _⟩ => ⟨S256x2816, .bf16⟩
  | .local _ .vmem, ⟨1, _⟩ => ⟨S256x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S256x1, .f32⟩
  | .local _ .vmem, ⟨5, _⟩ => ⟨S256x1, .f32⟩
  | .local _ .vmem, ⟨6, _⟩ => ⟨S256x2048, .bf16⟩
  | .local _ .vmem, ⟨7, _⟩ => ⟨S256x2048, .bf16⟩
  | .local _ .smem, ⟨0, _⟩ => ⟨S88, .i32⟩
  | .local _ .smem, ⟨1, _⟩ => ⟨S88, .i32⟩
  | _, _ => ⟨S22528x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S88 : Shape := ⟨1, ![88]⟩
abbrev S22528x2816 : Shape := ⟨2, ![22528, 2816]⟩
abbrev S8x2816x2048 : Shape := ⟨3, ![8, 2816, 2048]⟩
abbrev S22528x1 : Shape := ⟨2, ![22528, 1]⟩
abbrev S88x256 : Shape := ⟨2, ![88, 256]⟩
abbrev S22528 : Shape := ⟨1, ![22528]⟩
abbrev S_ : Shape := ⟨0, ![]⟩
abbrev S8 : Shape := ⟨1, ![8]⟩
abbrev S1x8 : Shape := ⟨2, ![1, 8]⟩
abbrev S22528x8 : Shape := ⟨2, ![22528, 8]⟩
abbrev S22528x8x2048 : Shape := ⟨3, ![22528, 8, 2048]⟩
abbrev S22528x8x1 : Shape := ⟨3, ![22528, 8, 1]⟩
abbrev S22528x2048 : Shape := ⟨2, ![22528, 2048]⟩

abbrev nBuf : Space → Nat
  | .hbm => 35
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S22528x2816, .bf16⟩
  | .hbm, ⟨3, _⟩ => ⟨S8x2816x2048, .bf16⟩
  | .hbm, ⟨4, _⟩ => ⟨S22528x1, .f32⟩
  | .hbm, ⟨5, _⟩ => ⟨S88x256, .i32⟩
  | .hbm, ⟨6, _⟩ => ⟨S22528, .i32⟩
  | .hbm, ⟨7, _⟩ => ⟨S88x256, .i32⟩
  | .hbm, ⟨8, _⟩ => ⟨S22528, .i32⟩
  | .hbm, ⟨9, _⟩ => ⟨S_, .i32⟩
  | .hbm, ⟨10, _⟩ => ⟨S22528, .i32⟩
  | .hbm, ⟨11, _⟩ => ⟨S22528, .i1⟩
  | .hbm, ⟨12, _⟩ => ⟨S22528x1, .i32⟩
  | .hbm, ⟨13, _⟩ => ⟨S8, .i32⟩
  | .hbm, ⟨14, _⟩ => ⟨S1x8, .i32⟩
  | .hbm, ⟨15, _⟩ => ⟨S22528x8, .i32⟩
  | .hbm, ⟨16, _⟩ => ⟨S22528x8, .i32⟩
  | .hbm, ⟨17, _⟩ => ⟨S22528x8, .i1⟩
  | .hbm, ⟨18, _⟩ => ⟨S22528x1, .i1⟩
  | .hbm, ⟨19, _⟩ => ⟨S22528x8, .i1⟩
  | .hbm, ⟨20, _⟩ => ⟨S22528x8, .i1⟩
  | .hbm, ⟨21, _⟩ => ⟨S_, .f32⟩
  | .hbm, ⟨22, _⟩ => ⟨S_, .f32⟩
  | .hbm, ⟨23, _⟩ => ⟨S22528x8, .f32⟩
  | .hbm, ⟨24, _⟩ => ⟨S22528x8, .f32⟩
  | .hbm, ⟨25, _⟩ => ⟨S22528x8, .f32⟩
  | .hbm, ⟨26, _⟩ => ⟨S22528x2816, .f32⟩
  | .hbm, ⟨27, _⟩ => ⟨S8x2816x2048, .f32⟩
  | .hbm, ⟨28, _⟩ => ⟨S22528x8x2048, .f32⟩
  | .hbm, ⟨29, _⟩ => ⟨S22528x8x1, .f32⟩
  | .hbm, ⟨30, _⟩ => ⟨S22528x8x2048, .f32⟩
  | .hbm, ⟨31, _⟩ => ⟨S22528x8x2048, .f32⟩
  | .hbm, ⟨32, _⟩ => ⟨S_, .f32⟩
  | .hbm, ⟨33, _⟩ => ⟨S22528x2048, .f32⟩
  | .hbm, ⟨34, _⟩ => ⟨S22528x2048, .bf16⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Band.lean ====
abbrev S10240x2048 : Shape := ⟨2, ![10240, 2048]⟩
abbrev S2048 : Shape := ⟨1, ![2048]⟩
abbrev S2048x6144 : Shape := ⟨2, ![2048, 6144]⟩
abbrev S1x2048 : Shape := ⟨2, ![1, 2048]⟩
abbrev S10240x6144 : Shape := ⟨2, ![10240, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x6144, .f32⟩
  | .hbm, ⟨3, _⟩ => ⟨S1x2048, .f32⟩
  | .hbm, ⟨4, _⟩ => ⟨S10240x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BandRefIdeal.lean ====
abbrev S10240x2048 : Shape := ⟨2, ![10240, 2048]⟩
abbrev S2048 : Shape := ⟨1, ![2048]⟩
abbrev S2048x6144 : Shape := ⟨2, ![2048, 6144]⟩
abbrev S_ : Shape := ⟨0, ![]⟩
abbrev S10240 : Shape := ⟨1, ![10240]⟩
abbrev S10240x1 : Shape := ⟨2, ![10240, 1]⟩
abbrev S1x2048 : Shape := ⟨2, ![1, 2048]⟩
abbrev S10240x6144 : Shape := ⟨2, ![10240, 6144]⟩

abbrev nBuf : Space → Nat
  | .hbm => 20
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x6144, .f32⟩
  | .hbm, ⟨3, _⟩ => ⟨S10240x2048, .f32⟩
  | .hbm, ⟨4, _⟩ => ⟨S_, .f32⟩
  | .hbm, ⟨5, _⟩ => ⟨S10240, .f32⟩
  | .hbm, ⟨6, _⟩ => ⟨S10240x1, .f32⟩
  | .hbm, ⟨7, _⟩ => ⟨S_, .f32⟩
  | .hbm, ⟨8, _⟩ => ⟨S10240x1, .f32⟩
  | .hbm, ⟨9, _⟩ => ⟨S10240x1, .f32⟩
  | .hbm, ⟨10, _⟩ => ⟨S_, .f32⟩
  | .hbm, ⟨11, _⟩ => ⟨S10240x1, .f32⟩
  | .hbm, ⟨12, _⟩ => ⟨S10240x1, .f32⟩
  | .hbm, ⟨13, _⟩ => ⟨S10240x1, .f32⟩
  | .hbm, ⟨14, _⟩ => ⟨S10240x2048, .f32⟩
  | .hbm, ⟨15, _⟩ => ⟨S10240x2048, .f32⟩
  | .hbm, ⟨16, _⟩ => ⟨S1x2048, .f32⟩
  | .hbm, ⟨17, _⟩ => ⟨S10240x2048, .f32⟩
  | .hbm, ⟨18, _⟩ => ⟨S10240x2048, .f32⟩
  | .hbm, ⟨19, _⟩ => ⟨S10240x6144, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Xq.lean ====
abbrev S10240x2048 : Shape := ⟨2, ![10240, 2048]⟩
abbrev S2048 : Shape := ⟨1, ![2048]⟩
abbrev S2048x512 : Shape := ⟨2, ![2048, 512]⟩
abbrev S1x2048 : Shape := ⟨2, ![1, 2048]⟩
abbrev S10240x512 : Shape := ⟨2, ![10240, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x512, .f32⟩
  | .hbm, ⟨3, _⟩ => ⟨S1x2048, .f32⟩
  | .hbm, ⟨4, _⟩ => ⟨S10240x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XqRefIdeal.lean ====
abbrev S10240x2048 : Shape := ⟨2, ![10240, 2048]⟩
abbrev S2048 : Shape := ⟨1, ![2048]⟩
abbrev S2048x512 : Shape := ⟨2, ![2048, 512]⟩
abbrev S_ : Shape := ⟨0, ![]⟩
abbrev S10240 : Shape := ⟨1, ![10240]⟩
abbrev S10240x1 : Shape := ⟨2, ![10240, 1]⟩
abbrev S1x2048 : Shape := ⟨2, ![1, 2048]⟩
abbrev S10240x512 : Shape := ⟨2, ![10240, 512]⟩

abbrev nBuf : Space → Nat
  | .hbm => 20
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x512, .f32⟩
  | .hbm, ⟨3, _⟩ => ⟨S10240x2048, .f32⟩
  | .hbm, ⟨4, _⟩ => ⟨S_, .f32⟩
  | .hbm, ⟨5, _⟩ => ⟨S10240, .f32⟩
  | .hbm, ⟨6, _⟩ => ⟨S10240x1, .f32⟩
  | .hbm, ⟨7, _⟩ => ⟨S_, .f32⟩
  | .hbm, ⟨8, _⟩ => ⟨S10240x1, .f32⟩
  | .hbm, ⟨9, _⟩ => ⟨S10240x1, .f32⟩
  | .hbm, ⟨10, _⟩ => ⟨S_, .f32⟩
  | .hbm, ⟨11, _⟩ => ⟨S10240x1, .f32⟩
  | .hbm, ⟨12, _⟩ => ⟨S10240x1, .f32⟩
  | .hbm, ⟨13, _⟩ => ⟨S10240x1, .f32⟩
  | .hbm, ⟨14, _⟩ => ⟨S10240x2048, .f32⟩
  | .hbm, ⟨15, _⟩ => ⟨S10240x2048, .f32⟩
  | .hbm, ⟨16, _⟩ => ⟨S1x2048, .f32⟩
  | .hbm, ⟨17, _⟩ => ⟨S10240x2048, .f32⟩
  | .hbm, ⟨18, _⟩ => ⟨S10240x2048, .f32⟩
  | .hbm, ⟨19, _⟩ => ⟨S10240x512, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FinP.lean ====
abbrev S10240x2048 : Shape := ⟨2, ![10240, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinPRefIdeal.lean ====
abbrev S10240x2048 : Shape := ⟨2, ![10240, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinS.lean ====
abbrev S10240x2048 : Shape := ⟨2, ![10240, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinSRefIdeal.lean ====
abbrev S10240x2048 : Shape := ⟨2, ![10240, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KvNorm.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KvNormRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutAb.lean ====
abbrev S10240x2048 : Shape := ⟨2, ![10240, 2048]⟩
abbrev S10240x1024 : Shape := ⟨2, ![10240, 1024]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S10240x2048, .f32⟩
  | .hbm, ⟨1, _⟩ => ⟨S10240x1024, .bf16⟩
  | .hbm, ⟨2, _⟩ => ⟨S10240x1024, .bf16⟩
  | .hbm, ⟨3, _⟩ => ⟨S2048x2048, .f32⟩
  | .hbm, ⟨4, _⟩ => ⟨S2048x2048, .bf16⟩
  | .hbm, ⟨5, _⟩ => ⟨S10240x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let v1 : BitVec 32 := Scalar.addi c0_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutAbRefIdeal.lean ====
abbrev S10240x2048 : Shape := ⟨2, ![10240, 2048]⟩
abbrev S10240x1024 : Shape := ⟨2, ![10240, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x1024, .bf16⟩
  | .hbm, ⟨2, _⟩ => ⟨S10240x1024, .bf16⟩
  | .hbm, ⟨3, _⟩ => ⟨S2048x2048, .f32⟩
  | .hbm, ⟨4, _⟩ => ⟨S10240x2048, .bf16⟩
  | .hbm, ⟨5, _⟩ => ⟨S10240x2048, .f32⟩
  | .hbm, ⟨6, _⟩ => ⟨S10240x2048, .f32⟩
  | .hbm, ⟨7, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutBand.lean ====
abbrev S10240x2048 : Shape := ⟨2, ![10240, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S2048x2048, .f32⟩
  | .hbm, ⟨3, _⟩ => ⟨S2048x2048, .bf16⟩
  | .hbm, ⟨4, _⟩ => ⟨S10240x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutBandRefIdeal.lean ====
abbrev S10240x2048 : Shape := ⟨2, ![10240, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S2048x2048, .f32⟩
  | .hbm, ⟨3, _⟩ => ⟨S10240x2048, .f32⟩
  | .hbm, ⟨4, _⟩ => ⟨S10240x2048, .f32⟩
  | .hbm, ⟨5, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Xo.lean ====
abbrev S10240x2048 : Shape := ⟨2, ![10240, 2048]⟩
abbrev S10240x512 : Shape := ⟨2, ![10240, 512]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S10240x512, .bf16⟩
  | .hbm, ⟨2, _⟩ => ⟨S512x2048, .f32⟩
  | .hbm, ⟨3, _⟩ => ⟨S512x2048, .bf16⟩
  | .hbm, ⟨4, _⟩ => ⟨S10240x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S10240x2048 : Shape := ⟨2, ![10240, 2048]⟩
abbrev S10240x512 : Shape := ⟨2, ![10240, 512]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x512, .bf16⟩
  | .hbm, ⟨2, _⟩ => ⟨S512x2048, .f32⟩
  | .hbm, ⟨3, _⟩ => ⟨S10240x512, .f32⟩
  | .hbm, ⟨4, _⟩ => ⟨S10240x2048, .f32⟩
  | .hbm, ⟨5, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnDown.lean ====
abbrev S10240x2048 : Shape := ⟨2, ![10240, 2048]⟩
abbrev S10240x5632 : Shape := ⟨2, ![10240, 5632]⟩
abbrev S5632x2048 : Shape := ⟨2, ![5632, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .f32⟩
  | .hbm, ⟨1, _⟩ => ⟨S10240x5632, .bf16⟩
  | .hbm, ⟨2, _⟩ => ⟨S5632x2048, .f32⟩
  | .hbm, ⟨3, _⟩ => ⟨S5632x2048, .bf16⟩
  | .hbm, ⟨4, _⟩ => ⟨S10240x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S10240x2048 : Shape := ⟨2, ![10240, 2048]⟩
abbrev S10240x5632 : Shape := ⟨2, ![10240, 5632]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x5632, .bf16⟩
  | .hbm, ⟨2, _⟩ => ⟨S5632x2048, .f32⟩
  | .hbm, ⟨3, _⟩ => ⟨S10240x5632, .f32⟩
  | .hbm, ⟨4, _⟩ => ⟨S10240x2048, .f32⟩
  | .hbm, ⟨5, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kv.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x512, .f32⟩
  | .hbm, ⟨2, _⟩ => ⟨S2048x512, .bf16⟩
  | .hbm, ⟨3, _⟩ => ⟨S256x512, .f32⟩
  | .local _ .vmem, ⟨0, _⟩ => ⟨S256x2048, .bf16⟩
  | .local _ .vmem, ⟨1, _⟩ => ⟨S2048x512, .bf16⟩
  | .local _ .vmem, ⟨2, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvRefIdeal.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .f32⟩
  | .hbm, ⟨2, _⟩ => ⟨S256x2048, .f32⟩
  | .hbm, ⟨3, _⟩ => ⟨S256x512, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Bs.lean ====
abbrev S10240x6144 : Shape := ⟨2, ![10240, 6144]⟩
abbrev S32x512x16x128 : Shape := ⟨4, ![32, 512, 16, 128]⟩
abbrev S16x64x576 : Shape := ⟨3, ![16, 64, 576]⟩
abbrev S10240x2048 : Shape := ⟨2, ![10240, 2048]⟩
abbrev S32x8192x128 : Shape := ⟨3, ![32, 8192, 128]⟩
abbrev S64x2048 : Shape := ⟨2, ![64, 2048]⟩
abbrev S1x8192x128 : Shape := ⟨3, ![1, 8192, 128]⟩
abbrev S64x128 : Shape := ⟨2, ![64, 128]⟩
abbrev S1x512x128 : Shape := ⟨3, ![1, 512, 128]⟩
abbrev S512x128 : Shape := ⟨2, ![512, 128]⟩
abbrev S64x512 : Shape := ⟨2, ![64, 512]⟩
abbrev S1x64x512 : Shape := ⟨3, ![1, 64, 512]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩
abbrev S1x64x128 : Shape := ⟨3, ![1, 64, 128]⟩
abbrev S1x7168x128 : Shape := ⟨3, ![1, 7168, 128]⟩
abbrev S7168x128 : Shape := ⟨2, ![7168, 128]⟩

abbrev nBuf : Space → Nat
  | .hbm => 10
  | .vmem => 17
  | .smem => 0
  | _ => 0

abbrev bufTy : (tb : Table) → Fin (tcTables nBuf tb) → BufTy
  | .hbm, ⟨0, _⟩ => ⟨S10240x6144, .f32⟩
  | .hbm, ⟨1, _⟩ => ⟨S32x512x16x128, .f32⟩
  | .hbm, ⟨2, _⟩ => ⟨S32x512x16x128, .f32⟩
  | .hbm, ⟨3, _⟩ => ⟨S16x64x576, .f32⟩
  | .hbm, ⟨4, _⟩ => ⟨S10240x2048, .bf16⟩
  | .hbm, ⟨5, _⟩ => ⟨S32x8192x128, .f32⟩
  | .hbm, ⟨6, _⟩ => ⟨S32x8192x128, .f32⟩
  | .hbm, ⟨7, _⟩ => ⟨S10240x2048, .bf16⟩
  | .hbm, ⟨8, _⟩ => ⟨S32x8192x128, .f32⟩
  | .hbm, ⟨9, _⟩ => ⟨S32x8192x128, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x8192x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S16x64x576, .f32⟩
  | .local _ .vmem, ⟨11, _⟩ => ⟨S64x2048, .bf16⟩
  | .local _ .vmem, ⟨12, _⟩ => ⟨S64x2048, .bf16⟩
  | .local _ .vmem, ⟨13, _⟩ => ⟨S1x8192x128, .f32⟩
  | .local _ .vmem, ⟨14, _⟩ => ⟨S1x8192x128, .f32⟩
  | .local _ .vmem, ⟨15, _⟩ => ⟨S1x8192x128, .f32⟩
  | .local _ .vmem, ⟨16, _⟩ => ⟨S1x8192x128, .f32⟩
  | _, _ => ⟨S10240x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c2_i32 : BitVec 32 := 2#32
  let c0_i32 : BitVec 32 := 0#32
  ![v0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BsRefIdeal.lean ====
abbrev S10240x6144 : Shape := ⟨2, ![10240, 6144]⟩
abbrev S32x512x16x128 : Shape := ⟨4, ![32, 512, 16, 128]⟩
abbrev S16x64x576 : Shape := ⟨3, ![16, 64, 576]⟩
abbrev S10240x2048 : Shape := ⟨2, ![10240, 2048]⟩
abbrev S2048x6144 : Shape := ⟨2, ![2048, 6144]⟩
abbrev S2048x2048 : Shape := ⟨2, ![2048, 2048]⟩
abbrev S32x64x16x128 : Shape := ⟨4, ![32, 64, 16, 128]⟩
abbrev S32x576x16x128 : Shape := ⟨4, ![32, 576, 16, 128]⟩
abbrev S32x16x64x576 : Shape := ⟨4, ![32, 16, 64, 576]⟩
abbrev S_ : Shape := ⟨0, ![]⟩
abbrev S1x16x64x576 : Shape := ⟨4, ![1, 16, 64, 576]⟩
abbrev S32x16x64 : Shape := ⟨3, ![32, 16, 64]⟩
abbrev S32x16x64x1 : Shape := ⟨4, ![32, 16, 64, 1]⟩
abbrev S32x16x128x64 : Shape := ⟨4, ![32, 16, 128, 64]⟩
abbrev S8192x2048 : Shape := ⟨2, ![8192, 2048]⟩
abbrev S32x8192x128 : Shape := ⟨3, ![32, 8192, 128]⟩

abbrev nBuf : Space → Nat
  | .hbm => 45
  | .vmem => 0
  | .smem => 0
  | _ => 0

abbrev bufTy : (tb : Table) → Fin (tcTables nBuf tb) → BufTy
  | .hbm, ⟨0, _⟩ => ⟨S10240x6144, .f32⟩
  | .hbm, ⟨1, _⟩ => ⟨S32x512x16x128, .f32⟩
  | .hbm, ⟨2, _⟩ => ⟨S32x512x16x128, .f32⟩
  | .hbm, ⟨3, _⟩ => ⟨S16x64x576, .f32⟩
  | .hbm, ⟨4, _⟩ => ⟨S10240x2048, .bf16⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S32x64x16x128, .f32⟩
  | .hbm, ⟨10, _⟩ => ⟨S32x64x16x128, .f32⟩
  | .hbm, ⟨11, _⟩ => ⟨S32x64x16x128, .f32⟩
  | .hbm, ⟨12, _⟩ => ⟨S32x576x16x128, .f32⟩
  | .hbm, ⟨13, _⟩ => ⟨S32x576x16x128, .f32⟩
  | .hbm, ⟨14, _⟩ => ⟨S32x16x64x576, .f32⟩
  | .hbm, ⟨15, _⟩ => ⟨S_, .f32⟩
  | .hbm, ⟨16, _⟩ => ⟨S32x16x64x576, .f32⟩
  | .hbm, ⟨17, _⟩ => ⟨S32x16x64x576, .f32⟩
  | .hbm, ⟨18, _⟩ => ⟨S1x16x64x576, .f32⟩
  | .hbm, ⟨19, _⟩ => ⟨S32x16x64x576, .f32⟩
  | .hbm, ⟨20, _⟩ => ⟨S32x16x64x576, .f32⟩
  | .hbm, ⟨21, _⟩ => ⟨S_, .f32⟩
  | .hbm, ⟨22, _⟩ => ⟨S32x16x64, .f32⟩
  | .hbm, ⟨23, _⟩ => ⟨S_, .f32⟩
  | .hbm, ⟨24, _⟩ => ⟨S32x16x64, .f32⟩
  | .hbm, ⟨25, _⟩ => ⟨S32x16x64, .f32⟩
  | .hbm, ⟨26, _⟩ => ⟨S32x16x64x1, .f32⟩
  | .hbm, ⟨27, _⟩ => ⟨S32x16x64x576, .f32⟩
  | .hbm, ⟨28, _⟩ => ⟨S32x16x64x576, .f32⟩
  | .hbm, ⟨29, _⟩ => ⟨S32x16x64x576, .f32⟩
  | .hbm, ⟨30, _⟩ => ⟨S_, .f32⟩
  | .hbm, ⟨31, _⟩ => ⟨S32x16x64, .f32⟩
  | .hbm, ⟨32, _⟩ => ⟨S32x16x64x1, .f32⟩
  | .hbm, ⟨33, _⟩ => ⟨S32x16x64x576, .f32⟩
  | .hbm, ⟨34, _⟩ => ⟨S32x16x64x576, .f32⟩
  | .hbm, ⟨35, _⟩ => ⟨S32x16x128x64, .f32⟩
  | .hbm, ⟨36, _⟩ => ⟨S32x64x16x128, .f32⟩
  | .hbm, ⟨37, _⟩ => ⟨S8192x2048, .bf16⟩
  | .hbm, ⟨38, _⟩ => ⟨S2048x2048, .f32⟩
  | .hbm, ⟨39, _⟩ => ⟨S2048x2048, .bf16⟩
  | .hbm, ⟨40, _⟩ => ⟨S10240x2048, .bf16⟩
  | .hbm, ⟨41, _⟩ => ⟨S32x512x16x128, .f32⟩
  | .hbm, ⟨42, _⟩ => ⟨S32x8192x128, .f32⟩
  | .hbm, ⟨43, _⟩ => ⟨S32x512x16x128, .f32⟩
  | .hbm, ⟨44, _⟩ => ⟨S32x8192x128, .f32⟩
  | _, _ => ⟨S10240x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Proof.RetMath.lean ====
/-
  The arithmetic of one retention head on one chunk of 64 rows, and of the reference on all 32 sequences.

  `rot`, `mixed`, `newState`, `gated` are what the kernel computes for one head out of that head's slices of
  q, k, v, the gate, the normalisation weight and the state, with the head's logarithmic decay `l` a variable.
  `ropeR`, `mixedR`, `stateR`, `outR` are the reference's own arrays.  Each theorem `…_at` reads both at
  an index of sequence `b` and head `h` and says that they agree there.
-/
module

public import proofs.«01_k».proof.Proof.Gen.RetIdeal.Value
public import proofs.«01_k».proof.Proof.Gen.RetRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RetIdeal.Head

open Cert.RetIdeal Cert.RetIdeal.Gen

/-! ## The kernel, one head -/

/-- The rotary embedding of one head: `x * cos + roll(x, 64) * sin`. -/
def rot (C S x : FVec Ideal S64x128 .f32) : FVec Ideal S64x128 .f32 :=
  addf (mulf x C) (mulf (dynamicRotate 1 64#32 none x rotates_S64x128_d1) S)

/-- A head's keys after the rotary embedding are scaled by `1/sqrt(128)`. -/
def scaled (x : FVec Ideal S64x128 .f32) : FVec Ideal S64x128 .f32 :=
  mulf x (broadcast S64x128 (Scalar.ofBits .f32 0x3DB504F3#32))

/-- The row number of each element of a chunk. -/
def rowNo : FVec Ideal S64x128 .f32 := sitofp .f32 (iota .tc S64x128 32 [0] iota_S64x128_d0_w32)

/-- Query row minus key row. -/
def rel : FVec Ideal S64x64 .f32 :=
  sitofp .f32 (subi (iota .tc S64x64 32 [0] iota_S64x64_d0_w32) (iota .tc S64x64 32 [1] iota_S64x64_d1_w32))

/-- The causal decay matrix of a head whose logarithmic decay is `l`. -/
def decay (l : Ideal .f32) : FVec Ideal S1x64x64 .f32 :=
  shapeCast S1x64x64 (select (cmpf .oge rel (broadcast S64x64 (Scalar.ofBits .f32 0x00000000#32)))
    (exp (mulf (broadcast S64x64 l) (maximumf rel (broadcast S64x64 (Scalar.ofBits .f32 0x00000000#32)))))
    (broadcast S64x64 (Scalar.ofBits .f32 0x00000000#32))) shapeCasts_S64x64_S1x64x64

/-- A head's output before normalisation: the decayed scores times the values, plus the queries times the state. -/
def mixed (l : Ideal .f32) (D : FVec Ideal S1x64x64 .f32) (q k v : FVec Ideal S64x128 .f32) (Z : FVec Ideal S1x128x128 .f32) :
    FVec Ideal S64x128 .f32 :=
  addf
    (matmul dot_S64x64_S64x128_S64x128_1_0_0_1_n_n none
      (truncf .bf16 (mulf (matmul dot_S64x128_S64x128_S64x64_1_1_0_0_n_n none (truncf .bf16 q bitsLt_bf16_f32) (truncf .bf16 k bitsLt_bf16_f32)
        (constant S64x64 .f32 0x00000000#32)) (shapeCast S64x64 D shapeCasts_S1x64x64_S64x64)) bitsLt_bf16_f32)
      (truncf .bf16 v bitsLt_bf16_f32) (constant S64x128 .f32 0x00000000#32))
    (mulf (matmul dot_S64x128_S128x128_S64x128_1_0_0_1_n_n none (truncf .bf16 q bitsLt_bf16_f32)
        (truncf .bf16 (shapeCast S128x128 Z shapeCasts_S1x128x128_S128x128) bitsLt_bf16_f32) (constant S64x128 .f32 0x00000000#32))
      (exp (mulf (addf rowNo (broadcast S64x128 (Scalar.ofBits .f32 0x3F800000#32))) (broadcast S64x128 l))))

/-- A head's state after the chunk. -/
def newState (l tl : Ideal .f32) (k v : FVec Ideal S64x128 .f32) (Z : FVec Ideal S1x128x128 .f32) : FVec Ideal S1x128x128 .f32 :=
  shapeCast S1x128x128 (addf (mulf (exp (broadcast S128x128 tl)) (shapeCast S128x128 Z shapeCasts_S1x128x128_S128x128))
    (matmul dot_S64x128_S64x128_S128x128_0_0_1_1_n_n none
      (truncf .bf16 (mulf k (exp (mulf (subf (broadcast S64x128 (Scalar.ofBits .f32 0x427C0000#32)) rowNo) (broadcast S64x128 l)))) bitsLt_bf16_f32)
      (truncf .bf16 v bitsLt_bf16_f32) (constant S128x128 .f32 0x00000000#32))) shapeCasts_S128x128_S1x128x128

/-- A head's output: normalised over the head's 128 columns, weighted, and gated by `silu` of the gate. -/
def gated (o : FVec Ideal S64x128 .f32) (gn : FVec Ideal S1x128 .f32) (G : FVec Ideal S64x128 .f32) : FVec Ideal S64x128 .bf16 :=
  truncf .bf16 (mulf
    (mulf (mulf o (broadcastTo S64x128 (rsqrt (addf (divf (shapeCast S64x1
        (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x358637BD#32)))) broadcasts_S64x1_S64x128))
      (broadcastTo S64x128 (shapeCast S1x128 gn shapeCasts_S1x128_S1x128) broadcasts_S1x128_S64x128))
    (mulf G (divf (broadcast S64x128 (Scalar.ofBits .f32 0x3F800000#32)) (addf (broadcast S64x128 (Scalar.ofBits .f32 0x3F800000#32))
      (exp (subf (broadcast S64x128 (Scalar.ofBits .f32 0x00000000#32)) G)))))) bitsLt_bf16_f32

end Cert.RetIdeal.Head

namespace Cert.RetRefIdeal.Parts

open Cert.RetRefIdeal Cert.RetRefIdeal.Gen

/-! ## The reference, all sequences -/

/-- The heads' logarithmic decays `log1p(-(2 ** (-5 - h)))`. -/
def lgR : FVec Ideal S8 .f32 :=
  Host.log1p (Host.negf (Host.powf (broadcastInDim S8 ![] bcast_S_S8 (constant S_ .f32 0x40000000#32))
    (subf (broadcastInDim S8 ![] bcast_S_S8 (constant S_ .f32 0xC0A00000#32)) (sitofp .f32 (iotaInDim S8 32 0)))))

/-- The rotary angles of positions 4096 … 4159. -/
def ang : FVec Ideal S64x64 .f32 :=
  mulf (broadcastInDim S64x64 ![0, 1] bcast_S64x1_S64x64_0_1 (broadcastInDim S64x1 ![0] bcast_S64_S64x1_0
      (sitofp .f32 (addi (broadcastInDim S64 ![] bcast_S_S64 (constantI S_ 32 4096#32)) (iotaInDim S64 32 0)))))
    (broadcastInDim S64x64 ![0, 1] bcast_S1x64_S64x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- Cosines and sines of the angles, for every sequence and head. -/
def cosR : FVec Ideal S32x64x8x64 .f32 :=
  broadcastInDim S32x64x8x64 ![0, 1, 2, 3] bcast_S1x64x1x64_S32x64x8x64_0_1_2_3 (broadcastInDim S1x64x1x64 ![1, 3] bcast_S64x64_S1x64x1x64_1_3 (Host.cos ang))

@[inherit_doc cosR]
def sinR : FVec Ideal S32x64x8x64 .f32 :=
  broadcastInDim S32x64x8x64 ![0, 1, 2, 3] bcast_S1x64x1x64_S32x64x8x64_0_1_2_3 (broadcastInDim S1x64x1x64 ![1, 3] bcast_S64x64_S1x64x1x64_1_3 (Host.sin ang))

/-- The rotary embedding of all heads. -/
def ropeR (x : FVec Ideal S32x64x8x128 .f32) : FVec Ideal S32x64x8x128 .f32 :=
  concatenate S32x64x8x128 3
    [⟨S32x64x8x64, (subf (mulf (extractStridedSlice S32x64x8x64 ![0, 0, 0, 0] x slices_S32x64x8x128_S32x64x8x64_0_0_0_0) cosR)
      (mulf (extractStridedSlice S32x64x8x64 ![0, 0, 0, 64] x slices_S32x64x8x128_S32x64x8x64_0_0_0_64) sinR))⟩,
     ⟨S32x64x8x64, (addf (mulf (extractStridedSlice S32x64x8x64 ![0, 0, 0, 0] x slices_S32x64x8x128_S32x64x8x64_0_0_0_0) sinR)
      (mulf (extractStridedSlice S32x64x8x64 ![0, 0, 0, 64] x slices_S32x64x8x128_S32x64x8x64_0_0_0_64) cosR))⟩]
    concatenates_S32x64x8x64_S32x64x8x64_S32x64x8x128_d3

/-- The rows of the sample group. -/
def rowsR (p : FVec Ideal S10240x7168 .f32) : FVec Ideal S2048x7168 .f32 :=
  extractStridedSlice S2048x7168 ![8192, 0] p slices_S10240x7168_S2048x7168_8192_0

/-- Queries, split into heads. -/
def qH (p : FVec Ideal S10240x7168 .f32) : FVec Ideal S32x64x8x128 .f32 :=
  shapeCast _ (extractStridedSlice S2048x1024 ![0, 3072] (rowsR p) slices_S2048x7168_S2048x1024_0_3072) shapeCasts_S2048x1024_S32x64x8x128

/-- Keys, split into heads. -/
def kH (p : FVec Ideal S10240x7168 .f32) : FVec Ideal S32x64x8x128 .f32 :=
  shapeCast _ (extractStridedSlice S2048x1024 ![0, 4096] (rowsR p) slices_S2048x7168_S2048x1024_0_4096) shapeCasts_S2048x1024_S32x64x8x128

/-- Values, split into heads. -/
def vH (p : FVec Ideal S10240x7168 .f32) : FVec Ideal S32x64x8x128 .f32 :=
  shapeCast _ (extractStridedSlice S2048x1024 ![0, 5120] (rowsR p) slices_S2048x7168_S2048x1024_0_5120) shapeCasts_S2048x1024_S32x64x8x128

/-- The gate's rows. -/
def gH (p : FVec Ideal S10240x7168 .f32) : FVec Ideal S2048x1024 .f32 :=
  extractStridedSlice S2048x1024 ![0, 6144] (rowsR p) slices_S2048x7168_S2048x1024_0_6144

/-- Embedded queries. -/
def qR (p : FVec Ideal S10240x7168 .f32) : FVec Ideal S32x64x8x128 .f32 := ropeR (qH p)

/-- Embedded and scaled keys. -/
def kR (p : FVec Ideal S10240x7168 .f32) : FVec Ideal S32x64x8x128 .f32 :=
  mulf (ropeR (kH p)) (broadcastInDim S32x64x8x128 ![] bcast_S_S32x64x8x128 (constant S_ .f32 0x3DB504F3#32))

/-- A chunk's row numbers. -/
def rowR : FVec Ideal S64 .f32 := sitofp .f32 (iotaInDim S64 32 0)

/-- Query row minus key row. -/
def relR : FVec Ideal S64x64 .f32 :=
  subf (broadcastInDim S64x64 ![0, 1] bcast_S64x1_S64x64_0_1 (broadcastInDim S64x1 ![0] bcast_S64_S64x1_0 rowR))
    (broadcastInDim S64x64 ![0, 1] bcast_S1x64_S64x64_0_1 (broadcastInDim S1x64 ![1] bcast_S64_S1x64_1 rowR))

/-- The heads' causal decay matrices. -/
def decR (lg : FVec Ideal S8 .f32) : FVec Ideal S8x64x64 .f32 :=
  select (broadcastInDim S8x64x64 ![1, 2] bcast_S64x64_S8x64x64_1_2 (cmpf .oge relR (broadcastInDim S64x64 ![] bcast_S_S64x64 (constant S_ .f32 0x00000000#32))))
    (Host.exp (mulf (broadcastInDim S8x64x64 ![0, 1, 2] bcast_S8x1x1_S8x64x64_0_1_2 (broadcastInDim S8x1x1 ![0] bcast_S8_S8x1x1_0 lg))
      (broadcastInDim S8x64x64 ![0, 1, 2] bcast_S1x64x64_S8x64x64_0_1_2 (broadcastInDim S1x64x64 ![1, 2] bcast_S64x64_S1x64x64_1_2
        (maximumf relR (broadcastInDim S64x64 ![] bcast_S_S64x64 (constant S_ .f32 0x00000000#32)))))))
    (broadcastInDim S8x64x64 ![] bcast_S_S8x64x64 (constant S_ .f32 0x00000000#32))

/-- The outputs of all heads before normalisation. -/
def mixedR (lg : FVec Ideal S8 .f32) (D : FVec Ideal S8x64x64 .f32) (q k v : FVec Ideal S32x64x8x128 .f32) (st : FVec Ideal S32x8x128x128 .f32) :
    FVec Ideal S32x64x8x128 .f32 :=
  addf (transpose S32x64x8x128 [0, 3, 1, 2] (Host.dotGeneral dot_S32x64x8x128_S32x8x64x64_S32x8x128x64_1_3_3_2_02_01 none v
      (mulf (Host.dotGeneral dot_S32x64x8x128_S32x64x8x128_S32x8x64x64_3_3_1_1_02_02 none q k)
        (broadcastInDim S32x8x64x64 ![0, 1, 2, 3] bcast_S1x8x64x64_S32x8x64x64_0_1_2_3 (broadcastInDim S1x8x64x64 ![1, 2, 3] bcast_S8x64x64_S1x8x64x64_1_2_3 D))))
      transposes_S32x8x128x64_S32x64x8x128_0_3_1_2)
    (mulf (transpose S32x64x8x128 [0, 3, 1, 2] (Host.dotGeneral dot_S32x8x128x128_S32x64x8x128_S32x8x128x64_2_3_3_1_01_02 none st q)
        transposes_S32x8x128x64_S32x64x8x128_0_3_1_2)
      (broadcastInDim S32x64x8x128 ![0, 1, 2, 3] bcast_S1x64x8x1_S32x64x8x128_0_1_2_3 (broadcastInDim S1x64x8x1 ![1, 2] bcast_S64x8_S1x64x8x1_1_2
        (Host.exp (mulf (broadcastInDim S64x8 ![0, 1] bcast_S64x1_S64x8_0_1 (addf (broadcastInDim S64x1 ![0] bcast_S64_S64x1_0 rowR)
          (broadcastInDim S64x1 ![] bcast_S_S64x1 (constant S_ .f32 0x3F800000#32))))
          (broadcastInDim S64x8 ![0, 1] bcast_S1x8_S64x8_0_1 (broadcastInDim S1x8 ![1] bcast_S8_S1x8_1 lg)))))))

/-- The states of all heads after the chunk. -/
def stateR (lg : FVec Ideal S8 .f32) (k v : FVec Ideal S32x64x8x128 .f32) (st : FVec Ideal S32x8x128x128 .f32) : FVec Ideal S32x8x128x128 .f32 :=
  addf (mulf (broadcastInDim S32x8x128x128 ![0, 1, 2, 3] bcast_S1x8x1x1_S32x8x128x128_0_1_2_3 (broadcastInDim S1x8x1x1 ![1] bcast_S8_S1x8x1x1_1
      (Host.exp (mulf (broadcastInDim S8 ![] bcast_S_S8 (constant S_ .f32 0x42800000#32)) lg)))) st)
    (Host.dotGeneral dot_S32x64x8x128_S32x64x8x128_S32x8x128x128_1_1_3_3_02_02 none
      (mulf k (broadcastInDim S32x64x8x128 ![0, 1, 2, 3] bcast_S1x64x8x1_S32x64x8x128_0_1_2_3 (broadcastInDim S1x64x8x1 ![1, 2] bcast_S64x8_S1x64x8x1_1_2
        (Host.exp (mulf (broadcastInDim S64x8 ![0, 1] bcast_S64x1_S64x8_0_1 (subf (broadcastInDim S64x1 ![] bcast_S_S64x1 (constant S_ .f32 0x427C0000#32))
          (broadcastInDim S64x1 ![0] bcast_S64_S64x1_0 rowR)))
          (broadcastInDim S64x8 ![0, 1] bcast_S1x8_S64x8_0_1 (broadcastInDim S1x8 ![1] bcast_S8_S1x8_1 lg))))))) v)

/-- The normalised, weighted and gated outputs. -/
def gatedR (o : FVec Ideal S32x64x8x128 .f32) (gn : FVec Ideal S1024 .f32) (g : FVec Ideal S2048x1024 .f32) : FVec Ideal S2048x1024 .bf16 :=
  truncf .bf16 (mulf (shapeCast _ (mulf (mulf o (broadcastInDim S32x64x8x128 ![0, 1, 2, 3] bcast_S32x64x8x1_S32x64x8x128_0_1_2_3
      (Host.rsqrt (addf (Host.divf (broadcastInDim S32x64x8x1 ![0, 1, 2] bcast_S32x64x8_S32x64x8x1_0_1_2
        (Host.reduceAdd (mulf o o) (constant S_ .f32 0x00000000#32) reducesTo_S32x64x8x128_S32x64x8_d3 h_S_))
        (broadcastInDim S32x64x8x1 ![] bcast_S_S32x64x8x1 (constant S_ .f32 0x43000000#32)))
        (broadcastInDim S32x64x8x1 ![] bcast_S_S32x64x8x1 (constant S_ .f32 0x358637BD#32))))))
      (broadcastInDim S32x64x8x128 ![0, 1, 2, 3] bcast_S1x1x8x128_S32x64x8x128_0_1_2_3 (broadcastInDim S1x1x8x128 ![2, 3] bcast_S8x128_S1x1x8x128_2_3
        (shapeCast _ gn shapeCasts_S1024_S8x128)))) shapeCasts_S32x64x8x128_S2048x1024)
    (mulf g (Host.divf (broadcastInDim S2048x1024 ![] bcast_S_S2048x1024 (constant S_ .f32 0x3F800000#32))
      (addf (broadcastInDim S2048x1024 ![] bcast_S_S2048x1024 (constant S_ .f32 0x3F800000#32)) (Host.exp (Host.negf g)))))) bitsLt_bf16_f32

/-- The reference's first result: `into` on the rows before 8192, the outputs after. -/
def outR (into : FVec Ideal S10240x1024 .bf16) (y : FVec Ideal S2048x1024 .bf16) : FVec Ideal S10240x1024 .bf16 :=
  concatenate S10240x1024 0 [⟨S8192x1024, (extractStridedSlice S8192x1024 ![0, 0] into slices_S10240x1024_S8192x1024_0_0)⟩, ⟨S2048x1024, y⟩]
    concatenates_S8192x1024_S2048x1024_S10240x1024_d0

end Cert.RetRefIdeal.Parts

namespace Cert.RetIdeal.Head

open Cert.RetIdeal Cert.RetIdeal.Gen
open Cert.RetRefIdeal.Parts
open Cert.RetRefIdeal (S8 S1024 S32x64x8x128 S8x64x64 S2048x1024 S2048x7168)

/-- The kernel's cosine table: the 64 columns twice. -/
def cosT : FVec Ideal S64x128 .f32 :=
  concatenate S64x128 1 [⟨S64x64, Host.cos ang⟩, ⟨S64x64, Host.cos ang⟩] concatenates_S64x64_S64x64_S64x128_d1

/-- The kernel's sine table: the 64 columns negated, then as they are. -/
def sinT : FVec Ideal S64x128 .f32 :=
  concatenate S64x128 1 [⟨S64x64, Host.negf (Host.sin ang)⟩, ⟨S64x64, Host.sin ang⟩] concatenates_S64x64_S64x64_S64x128_d1

/-! ## They agree, index by index -/

/-- The sample group's queries, keys, values at a sequence, row, head and column are elements of `p`. -/
theorem qH_at (p : FVec Ideal S10240x7168 .f32) (b : Fin 32) (i : Fin 64) (h : Fin 8) (j : Fin 128) :
    qH p (ix4 b i h j) = p (ix2 ⟨8192 + 64 * b + i, by omega⟩ ⟨3072 + 128 * h + j, by omega⟩) := by
  pointwise [qH, rowsR]
  blk_point []

@[inherit_doc qH_at]
theorem kH_at (p : FVec Ideal S10240x7168 .f32) (b : Fin 32) (i : Fin 64) (h : Fin 8) (j : Fin 128) :
    kH p (ix4 b i h j) = p (ix2 ⟨8192 + 64 * b + i, by omega⟩ ⟨4096 + 128 * h + j, by omega⟩) := by
  pointwise [kH, rowsR]
  blk_point []

@[inherit_doc qH_at]
theorem vH_at (p : FVec Ideal S10240x7168 .f32) (b : Fin 32) (i : Fin 64) (h : Fin 8) (j : Fin 128) :
    vH p (ix4 b i h j) = p (ix2 ⟨8192 + 64 * b + i, by omega⟩ ⟨5120 + 128 * h + j, by omega⟩) := by
  pointwise [vH, rowsR]
  blk_point []

/-- The sample group's gate at a row and column is an element of `p`. -/
theorem gH_at (p : FVec Ideal S10240x7168 .f32) (i : Fin 2048) (j : Fin 1024) :
    gH p (ix2 i j) = p (ix2 ⟨8192 + i, by omega⟩ ⟨6144 + j, by omega⟩) := by
  pointwise [gH, rowsR]

/-- The rotary embedding: the roll by half a head and the sign in the table give the reference's two halves. -/
theorem rot_at (x : FVec Ideal S64x128 .f32) (X : FVec Ideal S32x64x8x128 .f32) (b : Fin 32) (h : Fin 8)
    (hx : ∀ i j, x (ix2 i j) = X (ix4 b i h j)) (i : Fin 64) (j : Fin 128) :
    rot cosT sinT x (ix2 i j) = ropeR X (ix4 b i h j) := by
  pointwise [rot, cosT, sinT, ropeR, cosR, sinR]
  simp only [hx]
  by_cases hj : (j : ℕ) < 64
  · simp only [dif_pos hj]
    rw [sub_eq_add_neg, mul_neg]
    blk_point []
  · simp only [dif_neg hj]
    refine (add_comm _ _).trans ?_
    blk_point []

/-- Keys: embedded, then scaled. -/
theorem scaled_at (p : FVec Ideal S10240x7168 .f32) (x : FVec Ideal S64x128 .f32) (b : Fin 32) (h : Fin 8)
    (hx : ∀ i j, x (ix2 i j) = kH p (ix4 b i h j)) (i : Fin 64) (j : Fin 128) :
    scaled (rot cosT sinT x) (ix2 i j) = kR p (ix4 b i h j) := by
  have e := rot_at x (kH p) b h hx i j
  pointwise [scaled, kR]
  rw [e]

/-- The difference of two row numbers, taken on integers or on reals. -/
theorem rel_at (i i' : Fin 64) : rel (ix2 i i') = relR (ix2 i i') := by
  pointwise [rel, relR, rowR]
  have e : ∀ i i' : Fin 64, (IntOp.subi (BitVec.ofNat 32 i) (BitVec.ofNat 32 i')).toInt = (BitVec.ofNat 32 i).toInt - (BitVec.ofNat 32 i').toInt := by
    decide +kernel
  change (((IntOp.subi (BitVec.ofNat 32 i) (BitVec.ofNat 32 i')).toInt : ℝ) : EReal)
    = (((BitVec.ofNat 32 i).toInt : ℝ) : EReal) - (((BitVec.ofNat 32 i').toInt : ℝ) : EReal)
  rw [e, Int.cast_sub, EReal.coe_sub]

/-- The decay matrices. -/
theorem decay_at (l : Ideal .f32) (lg : FVec Ideal S8 .f32) (h : Fin 8) (hl : l = lg (ix1 h)) (i i' : Fin 64) :
    decay l (ix3 0 i i') = decR lg (ix3 h i i') := by
  have e := rel_at i i'
  pointwise [decay, decR]
  rw [e, hl]

/-- The outputs before normalisation. -/
theorem mixed_at (l : Ideal .f32) (lg : FVec Ideal S8 .f32) (D : FVec Ideal S1x64x64 .f32) (DR : FVec Ideal S8x64x64 .f32)
    (q k v : FVec Ideal S64x128 .f32) (Q K V : FVec Ideal S32x64x8x128 .f32) (Z : FVec Ideal S1x128x128 .f32) (st : FVec Ideal S32x8x128x128 .f32)
    (b : Fin 32) (h : Fin 8) (hl : l = lg (ix1 h)) (hD : ∀ i i', D (ix3 0 i i') = DR (ix3 h i i'))
    (hq : ∀ i j, q (ix2 i j) = Q (ix4 b i h j)) (hk : ∀ i j, k (ix2 i j) = K (ix4 b i h j)) (hv : ∀ i j, v (ix2 i j) = V (ix4 b i h j))
    (hZ : ∀ i j, Z (ix3 0 i j) = st (ix4 b h i j)) (i : Fin 64) (j : Fin 128) :
    mixed l D q k v Z (ix2 i j) = mixedR lg DR Q K V st (ix4 b i h j) := by
  pointwise [mixed, rowNo, mixedR, rowR]
  simp only [hq, hk, hv, hZ, hD, hl]
  refine congrArg₂ (· + ·) (Finset.sum_congr rfl fun x _ => mul_comm _ _) ?_
  exact congrArg (· * _) (Finset.sum_congr rfl fun x _ => mul_comm _ _)

/-- The states after the chunk. -/
theorem newState_at (l tl : Ideal .f32) (lg : FVec Ideal S8 .f32)
    (k v : FVec Ideal S64x128 .f32) (K V : FVec Ideal S32x64x8x128 .f32) (Z : FVec Ideal S1x128x128 .f32) (st : FVec Ideal S32x8x128x128 .f32)
    (b : Fin 32) (h : Fin 8) (hl : l = lg (ix1 h)) (htl : tl = Ideal.ofBits .f32 0x42800000#32 * lg (ix1 h))
    (hk : ∀ i j, k (ix2 i j) = K (ix4 b i h j)) (hv : ∀ i j, v (ix2 i j) = V (ix4 b i h j))
    (hZ : ∀ i j, Z (ix3 0 i j) = st (ix4 b h i j)) (i j : Fin 128) :
    newState l tl k v Z (ix3 0 i j) = stateR lg K V st (ix4 b h i j) := by
  pointwise [newState, rowNo, stateR, rowR]
  simp only [hk, hv, hZ, hl, htl]

/-- Subtraction from zero is negation. -/
theorem zero_minus (a : EReal) : 0 - a = -a := by
  rw [sub_eq_add_neg, zero_add]

/-- The outputs after normalisation and gate. -/
theorem gated_at (o : FVec Ideal S64x128 .f32) (O : FVec Ideal S32x64x8x128 .f32) (gn : FVec Ideal S1x128 .f32) (GN : FVec Ideal S1024 .f32)
    (g : FVec Ideal S64x128 .f32) (G : FVec Ideal S2048x1024 .f32) (b : Fin 32) (h : Fin 8)
    (ho : ∀ i j, o (ix2 i j) = O (ix4 b i h j)) (hgn : ∀ j : Fin 128, gn (ix2 0 j) = GN (ix1 (⟨128 * h + j, by omega⟩ : Fin 1024)))
    (hg : ∀ (i : Fin 64) (j : Fin 128), g (ix2 i j) = G (ix2 (⟨64 * b + i, by omega⟩ : Fin 2048) (⟨128 * h + j, by omega⟩ : Fin 1024)))
    (i : Fin 64) (j : Fin 128) (r : Fin 2048) (s : Fin 1024) (hr : (r : ℕ) = 64 * b + i) (hs : (s : ℕ) = 128 * h + j) :
    gated o gn g (ix2 i j) = gatedR O GN G (ix2 r s) := by
  rw [show r = (⟨64 * b + i, by omega⟩ : Fin 2048) from Fin.ext hr, show s = (⟨128 * h + j, by omega⟩ : Fin 1024) from Fin.ext hs]
  pointwise [gated, gatedR]
  simp only [ho, hgn, hg, zero_minus]
  blk_point []

end Cert.RetIdeal.Head
-- ==== Proof.RetConsts.lean ====
/-
  The logarithmic decays: the reference computes `log1p(-(2 ** (-5 - h)))`; the kernel carries eight named
  constants `lg0 … lg7`, and `tlg0 … tlg7` for 64 times each.  Both are the logarithm of `1 - 1 / 2 ^ (5 + h)`.
-/
module

public import proofs.«01_k».proof.Proof.RetMath

@[expose] public section

set_option maxRecDepth 16384

noncomputable section

open Idealize.ShloMosaic Idealize.ShloMosaic.TcCoe Idealize.SL.Sem

namespace Cert.RetIdeal.Head

open Cert.RetIdeal Cert.RetIdeal.Gen
open Cert.RetRefIdeal.Parts
open Cert.RetRefIdeal (S8)

theorem ofBits_two : Ideal.ofBits .f32 0x40000000#32 = ((2 : ℝ) : EReal) := by
  simp [Ideal.ofBits, Ideal.ieee, -EReal.coe_mul]; norm_num

theorem ofBits_neg_five : Ideal.ofBits .f32 0xC0A00000#32 = ((-5 : ℝ) : EReal) := by
  simp [Ideal.ofBits, Ideal.ieee, -EReal.coe_mul]; norm_num

theorem ofBits_sixty_four : Ideal.ofBits .f32 0x42800000#32 = ((64 : ℝ) : EReal) := by
  simp [Ideal.ofBits, Ideal.ieee, -EReal.coe_mul]; norm_num

/-- `2 ^ (-5 - h)` is `1 / 2 ^ (5 + h)`. -/
theorem two_pow (h : Fin 8) : (2 : ℝ) ^ ((-5 : ℝ) - ((h : ℕ) : ℝ)) = 1 / 2 ^ (5 + (h : ℕ)) := by
  rw [show ((-5 : ℝ) - ((h : ℕ) : ℝ)) = -(((5 + (h : ℕ) : ℕ) : ℝ)) by push_cast; ring, Real.rpow_neg (by norm_num),
    Real.rpow_natCast, one_div]

/-- The reference's decay of head `h`. -/
theorem lgR_at (h : Fin 8) : lgR (ix1 h) = ((Real.log (1 - 1 / 2 ^ (5 + (h : ℕ))) : ℝ) : EReal) := by
  pointwise [lgR]
  have e : (BitVec.ofNat 32 (h : ℕ)).toInt = ((h : ℕ) : ℤ) := by revert h; decide +kernel
  have p : (0 : ℝ) < 1 - 1 / 2 ^ (5 + (h : ℕ)) := by
    have : (1 : ℝ) < 2 ^ (5 + (h : ℕ)) := one_lt_pow₀ (by norm_num) (by omega)
    rw [sub_pos, div_lt_one (by linarith)]; exact this
  change Ideal.log1p (-(Ideal.pow (Ideal.ofBits .f32 0x40000000#32)
    (Ideal.ofBits .f32 0xC0A00000#32 - (((BitVec.ofNat 32 (h : ℕ)).toInt : ℝ) : EReal)))) = _
  rw [ofBits_two, ofBits_neg_five, e, Int.cast_natCast, ← EReal.coe_sub, Ideal.pow_coe_coe]
  change Ideal.log (1 + -(((2 : ℝ) ^ ((-5 : ℝ) - ((h : ℕ) : ℝ)) : ℝ) : EReal)) = _
  rw [two_pow, ← EReal.coe_neg, ← EReal.coe_one, ← EReal.coe_add, ← sub_eq_add_neg, Ideal.log_coe, if_neg (not_le.mpr p)]

/-- A constant whose value is the logarithm of `r = 1 - 1 / 2 ^ (5 + h)` is the reference's decay of head `h`. -/
theorem named_decay (h : Fin 8) (r : ℝ) (hr : r = 1 - 1 / 2 ^ (5 + (h : ℕ))) (x : Ideal .f32) (hx : x = ((Real.log r : ℝ) : EReal)) :
    x = lgR (ix1 h) := by
  rw [lgR_at, hx, hr]

/-- A constant whose value is 64 times that logarithm is 64 times the reference's decay. -/
theorem named_decay64 (h : Fin 8) (r : ℝ) (hr : r = 1 - 1 / 2 ^ (5 + (h : ℕ))) (x : Ideal .f32)
    (hx : x = ((64 * Real.log r : ℝ) : EReal)) : x = Ideal.ofBits .f32 0x42800000#32 * lgR (ix1 h) := by
  rw [lgR_at, hx, hr, ofBits_sixty_four, ← EReal.coe_mul]

/-- The kernel's constants, by head. -/
def lgK : Fin 8 → Ideal .f32 :=
  ![Named.named κ "lg0" 0xBD020AEC#32, Named.named κ "lg1" 0xBC8102B3#32, Named.named κ "lg2" 0xBC0080AC#32, Named.named κ "lg3" 0xBB80402B#32, Named.named κ "lg4" 0xBB00200B#32, Named.named κ "lg5" 0xBA801003#32, Named.named κ "lg6" 0xBA000801#32, Named.named κ "lg7" 0xB9800400#32]

@[inherit_doc lgK]
def tlgK : Fin 8 → Ideal .f32 :=
  ![Named.named κ "tlg0" 0xC0020AEC#32, Named.named κ "tlg1" 0xBF8102B3#32, Named.named κ "tlg2" 0xBF0080AC#32, Named.named κ "tlg3" 0xBE80402B#32, Named.named κ "tlg4" 0xBE00200B#32, Named.named κ "tlg5" 0xBD801003#32, Named.named κ "tlg6" 0xBD000801#32, Named.named κ "tlg7" 0xBC800400#32]

theorem lgK_eq : ∀ h : Fin 8, lgK h = lgR (ix1 h)
  | 0 => named_decay 0 (31 / 32) (by norm_num) _ (IdealRules.named_const.ideal_named_scalar _ _ _ _ rfl)
  | 1 => named_decay 1 (63 / 64) (by norm_num) _ (IdealRules.named_const.ideal_named_scalar _ _ _ _ rfl)
  | 2 => named_decay 2 (127 / 128) (by norm_num) _ (IdealRules.named_const.ideal_named_scalar _ _ _ _ rfl)
  | 3 => named_decay 3 (255 / 256) (by norm_num) _ (IdealRules.named_const.ideal_named_scalar _ _ _ _ rfl)
  | 4 => named_decay 4 (511 / 512) (by norm_num) _ (IdealRules.named_const.ideal_named_scalar _ _ _ _ rfl)
  | 5 => named_decay 5 (1023 / 1024) (by norm_num) _ (IdealRules.named_const.ideal_named_scalar _ _ _ _ rfl)
  | 6 => named_decay 6 (2047 / 2048) (by norm_num) _ (IdealRules.named_const.ideal_named_scalar _ _ _ _ rfl)
  | 7 => named_decay 7 (4095 / 4096) (by norm_num) _ (IdealRules.named_const.ideal_named_scalar _ _ _ _ rfl)

theorem tlgK_eq : ∀ h : Fin 8, tlgK h = Ideal.ofBits .f32 0x42800000#32 * lgR (ix1 h)
  | 0 => named_decay64 0 (31 / 32) (by norm_num) _ (IdealRules.named_const.ideal_named_scalar _ _ _ _ rfl)
  | 1 => named_decay64 1 (63 / 64) (by norm_num) _ (IdealRules.named_const.ideal_named_scalar _ _ _ _ rfl)
  | 2 => named_decay64 2 (127 / 128) (by norm_num) _ (IdealRules.named_const.ideal_named_scalar _ _ _ _ rfl)
  | 3 => named_decay64 3 (255 / 256) (by norm_num) _ (IdealRules.named_const.ideal_named_scalar _ _ _ _ rfl)
  | 4 => named_decay64 4 (511 / 512) (by norm_num) _ (IdealRules.named_const.ideal_named_scalar _ _ _ _ rfl)
  | 5 => named_decay64 5 (1023 / 1024) (by norm_num) _ (IdealRules.named_const.ideal_named_scalar _ _ _ _ rfl)
  | 6 => named_decay64 6 (2047 / 2048) (by norm_num) _ (IdealRules.named_const.ideal_named_scalar _ _ _ _ rfl)
  | 7 => named_decay64 7 (4095 / 4096) (by norm_num) _ (IdealRules.named_const.ideal_named_scalar _ _ _ _ rfl)

end Cert.RetIdeal.Head
-- ==== Proof.RetHeads.lean ====
/-
  One head at one point of the retention kernel: the blocks it reads, and what it stores, in the reference's terms.
-/
module

public import proofs.«01_k».proof.Proof.RetConsts
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Whole

open Cert.RetIdeal Cert.RetIdeal.Gen Cert.RetIdeal.Head
open Cert.RetRefIdeal.Parts
open Cert.RetRefIdeal (S8 S1024 S32x64x8x128 S8x64x64 S2048x1024 S2048x7168)

variable (m : (ℓ : Loc nD τ sig) → Buf (Elt Ideal) ℓ)

/-- The projections, the normalisation weight, the states and the array written into: the four arguments. -/
abbrev argP (c : Dev nD) : FVec Ideal S10240x7168 .f32 := m ((c : Thread nD τ).loc main_arg0)
@[inherit_doc argP] abbrev argG (c : Dev nD) : FVec Ideal S1024 .f32 := m ((c : Thread nD τ).loc main_arg1)
@[inherit_doc argP] abbrev argS (c : Dev nD) : FVec Ideal S32x8x128x128 .f32 := m ((c : Thread nD τ).loc main_arg2)
@[inherit_doc argP] abbrev argI (c : Dev nD) : FVec Ideal S10240x1024 .bf16 := m ((c : Thread nD τ).loc main_arg3)

/-- The reference's states. -/
abbrev stateOf (p : FVec Ideal S10240x7168 .f32) (st : FVec Ideal S32x8x128x128 .f32) : FVec Ideal S32x8x128x128 .f32 :=
  stateR lgR (kR p) (vH p) st

/-- The reference's outputs of the sample group. -/
abbrev sampleOf (p : FVec Ideal S10240x7168 .f32) (gn : FVec Ideal S1024 .f32) (st : FVec Ideal S32x8x128x128 .f32) :
    FVec Ideal S2048x1024 .bf16 :=
  gatedR (mixedR lgR (decR lgR) (qR p) (kR p) (vH p) st) gn (gH p)

/-- The block each window is on at point `t`, the sequence's number. -/
theorem idx : ∀ t : Fin cfg0.N, win0_0.index t = ![128 + t.val, 3] ∧ win0_1.index t = ![128 + t.val, 4]
    ∧ win0_2.index t = ![128 + t.val, 5] ∧ win0_3.index t = ![128 + t.val, 6] ∧ win0_4.index t = ![0, 0]
    ∧ win0_5.index t = ![0, 0] ∧ win0_6.index t = ![0, 0] ∧ win0_7.index t = ![t.val, 0, 0, 0]
    ∧ win0_8.index t = ![128 + t.val, 0] ∧ win0_9.index t = ![t.val, 0, 0, 0] ∧ t.val < 32 :=
  (by decide +kernel : ∀ t : Fin grid0.N, _)

/-- The cosine table the kernel reads. -/
theorem cos_eq (c : Dev nD) (t : Fin cfg0.N) : k0_pay15 (F := Ideal) (iblk m c 4 t) = cosT := by
  funext y
  idx_vars y
  pointwise [k0_pay15]
  blk_simp [iblk]
  entry_read
  refine congrArg cosT ?_
  blk_ext [idx t]

/-- The sine table the kernel reads. -/
theorem sin_eq (c : Dev nD) (t : Fin cfg0.N) : k0_pay16 (F := Ideal) (iblk m c 5 t) = sinT := by
  funext y
  idx_vars y
  pointwise [k0_pay16]
  blk_simp [iblk]
  entry_read
  refine congrArg sinT ?_
  blk_ext [idx t]

/-- A load of 128 columns, at an index. -/
theorem ld_cols (X : FVec Ideal S64x1024 .f32) (h : Fin 8) (inb) (i : Fin 64) (j : Fin 128) :
    View.ld (Val := Elt Ideal) (e' := .f32) X (Rect.unit (s := S64x1024) ![0, 128 * (h : ℕ)] ![64, 128] inb) (ix2 i j)
      = X (ix2 i (⟨128 * h + j, by omega⟩ : Fin 1024)) :=
  View.ld_unit_apply_of (Val := Elt Ideal) (e := .f32) X _ _ inb _ _ fun | 0 => (Nat.zero_add _).symm | 1 => rfl

@[inherit_doc ld_cols]
theorem ld_cols1 (X : FVec Ideal S1x1024 .f32) (h : Fin 8) (inb) (j : Fin 128) :
    View.ld (Val := Elt Ideal) (e' := .f32) X (Rect.unit (s := S1x1024) ![0, 128 * (h : ℕ)] ![1, 128] inb) (ix2 0 j)
      = X (ix2 0 (⟨128 * h + j, by omega⟩ : Fin 1024)) :=
  View.ld_unit_apply_of (Val := Elt Ideal) (e := .f32) X _ _ inb _ _ fun | 0 => (Nat.zero_add _).symm | 1 => rfl

/-- A load of one head's state, at an index. -/
theorem ld_state (X : FVec Ideal S8x128x128 .f32) (h : Fin 8) (inb) (i j : Fin 128) :
    View.ld (Val := Elt Ideal) (e' := .f32) X (Rect.unit (s := S8x128x128) ![(h : ℕ), 0, 0] ![1, 128, 128] inb) (ix3 0 i j)
      = X (ix3 h i j) :=
  View.ld_unit_apply_of (Val := Elt Ideal) (e := .f32) X _ _ inb _ _
    fun | 0 => rfl | 1 => (Nat.zero_add _).symm | 2 => (Nat.zero_add _).symm

/-- Stores that cover an index decide what is read there, whatever was stored before them. -/
theorem canon_append_of_cover {S : Shape} {e : EltTy} (L : List (View.Piece (Elt Ideal) S e)) (y : S.Idx) :
    ∀ L' : List (View.Piece (Elt Ideal) S e), (∃ p ∈ L', y ∈ p.1.set) → View.canon (L' ++ L) y = View.canon L' y
  | [], hc => by obtain ⟨p, hp, _⟩ := hc; exact absurd hp List.not_mem_nil
  | p :: L', hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L y L' ?_
      obtain ⟨q, hq, hyq⟩ := hc
      rcases List.mem_cons.mp hq with rfl | hq'
      · exact absurd hyq hm
      · exact ⟨q, hq', hyq⟩

section
variable (c : Dev nD) (t : Fin cfg0.N) (h : Fin 8)
  (inb : ∀ a, (![0, 128 * (h : ℕ)] : Fin 2 → ℕ) a + (![64, 128] : Fin 2 → ℕ) a ≤ S64x1024.size a)
  (inbG : ∀ a, (![0, 128 * (h : ℕ)] : Fin 2 → ℕ) a + (![1, 128] : Fin 2 → ℕ) a ≤ S1x1024.size a)
  (inbZ : ∀ a, (![(h : ℕ), 0, 0] : Fin 3 → ℕ) a + (![1, 128, 128] : Fin 3 → ℕ) a ≤ S8x128x128.size a)

/-- Head `h`'s queries. -/
abbrev qs : FVec Ideal S64x128 .f32 := View.ld (iblk m c 0 t) (Rect.unit (s := S64x1024) ![0, 128 * (h : ℕ)] ![64, 128] inb)
/-- Head `h`'s keys. -/
abbrev ks : FVec Ideal S64x128 .f32 := View.ld (iblk m c 1 t) (Rect.unit (s := S64x1024) ![0, 128 * (h : ℕ)] ![64, 128] inb)
/-- Head `h`'s values. -/
abbrev vs : FVec Ideal S64x128 .f32 := View.ld (iblk m c 2 t) (Rect.unit (s := S64x1024) ![0, 128 * (h : ℕ)] ![64, 128] inb)
/-- Head `h`'s gate. -/
abbrev gs : FVec Ideal S64x128 .f32 := View.ld (iblk m c 3 t) (Rect.unit (s := S64x1024) ![0, 128 * (h : ℕ)] ![64, 128] inb)
/-- Head `h`'s normalisation weight. -/
abbrev gns : FVec Ideal S1x128 .f32 := View.ld (iblk m c 6 t) (Rect.unit (s := S1x1024) ![0, 128 * (h : ℕ)] ![1, 128] inbG)
/-- Head `h`'s state. -/
abbrev zs : FVec Ideal S1x128x128 .f32 := View.ld (Val := Elt Ideal) (e' := .f32) (k0_pay3 (F := Ideal) (iblk m c 7 t)) (Rect.unit (s := S8x128x128) ![(h : ℕ), 0, 0] ![1, 128, 128] inbZ)

/-- The sequence's number as an index. -/
abbrev seq : Fin 32 := ⟨t.val, (idx t).2.2.2.2.2.2.2.2.2.2⟩

theorem qs_at (i : Fin 64) (j : Fin 128) : qs m c t h inb (ix2 i j) = qH (argP m c) (ix4 (seq t) i h j) := by
  refine (ld_cols _ h inb i j).trans (Eq.trans ?_ (qH_at (argP m c) (seq t) i h j).symm)
  blk_point [iblk, V, idx t]

theorem ks_at (i : Fin 64) (j : Fin 128) : ks m c t h inb (ix2 i j) = kH (argP m c) (ix4 (seq t) i h j) := by
  refine (ld_cols _ h inb i j).trans (Eq.trans ?_ (kH_at (argP m c) (seq t) i h j).symm)
  blk_point [iblk, V, idx t]

theorem vs_at (i : Fin 64) (j : Fin 128) : vs m c t h inb (ix2 i j) = vH (argP m c) (ix4 (seq t) i h j) := by
  refine (ld_cols _ h inb i j).trans (Eq.trans ?_ (vH_at (argP m c) (seq t) i h j).symm)
  blk_point [iblk, V, idx t]

theorem gs_at (i : Fin 64) (j : Fin 128) : gs m c t h inb (ix2 i j)
    = gH (argP m c) (ix2 (⟨64 * (seq t : ℕ) + i, by omega⟩ : Fin 2048) (⟨128 * (h : ℕ) + j, by omega⟩ : Fin 1024)) := by
  refine (ld_cols _ h inb i j).trans (Eq.trans ?_ (gH_at (argP m c) _ _).symm)
  blk_point [iblk, V, idx t]

theorem gns_at (j : Fin 128) : gns m c t h inbG (ix2 0 j) = argG m c (ix1 (⟨128 * (h : ℕ) + j, by omega⟩ : Fin 1024)) := by
  refine (ld_cols1 _ h inbG j).trans ?_
  blk_point [iblk, idx t]

theorem zs_at (i j : Fin 128) : zs m c t h inbZ (ix3 0 i j) = argS m c (ix4 (seq t) h i j) := by
  refine (ld_state _ h inbZ i j).trans ?_
  pointwise [k0_pay3]
  blk_point [iblk, V, idx t]

/-- The kernel's embedded queries and keys of head `h`. -/
abbrev qe : FVec Ideal S64x128 .f32 := rot (k0_pay15 (F := Ideal) (iblk m c 4 t)) (k0_pay16 (F := Ideal) (iblk m c 5 t)) (qs m c t h inb)
@[inherit_doc qe]
abbrev ke : FVec Ideal S64x128 .f32 := scaled (rot (k0_pay15 (F := Ideal) (iblk m c 4 t)) (k0_pay16 (F := Ideal) (iblk m c 5 t)) (ks m c t h inb))

/-- What is stored for head `h`'s output. -/
theorem out_head (l : Ideal .f32) (hl : l = lgR (ix1 h)) (x : S64x128.Idx) (r : Fin 2048) (s : Fin 1024)
    (hr : (r : ℕ) = 64 * t.val + (x 0 : ℕ)) (hs : (s : ℕ) = 128 * (h : ℕ) + (x 1 : ℕ)) :
    gated (mixed l (decay l) (qe m c t h inb) (ke m c t h inb) (vs m c t h inb) (zs m c t h inbZ)) (gns m c t h inbG) (gs m c t h inb) x
      = sampleOf (argP m c) (argG m c) (argS m c) (ix2 r s) := by
  idx_vars x
  dsimp only [qe, ke]
  rw [cos_eq, sin_eq]
  exact gated_at _ _ _ _ _ _ (seq t) h
    (mixed_at l lgR _ _ _ _ _ _ _ _ _ _ (seq t) h hl (decay_at l lgR h hl)
      (rot_at _ _ (seq t) h (qs_at m c t h inb)) (scaled_at _ _ (seq t) h (ks_at m c t h inb)) (vs_at m c t h inb) (zs_at m c t h inbZ))
    (gns_at m c t h inbG) (gs_at m c t h inb) _ _ r s hr hs

/-- What is stored for head `h`'s state. -/
theorem state_head (l tl : Ideal .f32) (hl : l = lgR (ix1 h)) (htl : tl = Ideal.ofBits .f32 0x42800000#32 * lgR (ix1 h))
    (x : S1x128x128.Idx) (a : Fin 8) (i j : Fin 128) (ha : (a : ℕ) = (h : ℕ) + (x 0 : ℕ)) (hi : (i : ℕ) = (x 1 : ℕ)) (hj : (j : ℕ) = (x 2 : ℕ)) :
    newState l tl (ke m c t h inb) (vs m c t h inb) (zs m c t h inbZ) x = stateOf (argP m c) (argS m c) (ix4 (seq t) a i j) := by
  idx_vars x
  rw [show a = h from Fin.ext (by have := x0.isLt; omega), show i = x1 from Fin.ext hi, show j = x2 from Fin.ext hj,
    show x0 = 0 from Subsingleton.elim _ _]
  dsimp only [ke]
  rw [cos_eq, sin_eq]
  exact newState_at l tl lgR _ _ _ _ _ _ (seq t) h hl htl
    (scaled_at _ _ (seq t) h (ks_at m c t h inb)) (vs_at m c t h inb) (zs_at m c t h inbZ) x1 x2

end

end Cert.RetIdeal.Whole
-- ==== Proof.RetValue.lean ====
/-
  The retention kernel's two results: the outputs on the rows of the sample group (the other rows keep what the
  aliased argument holds) and the states of all heads.
-/
module

public import proofs.«01_k».proof.Proof.RetHeads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Whole

open Cert.RetIdeal Cert.RetIdeal.Gen Cert.RetIdeal.Head
open Cert.RetRefIdeal.Parts
open Cert.RetRefIdeal (S8 S1024 S32x64x8x128 S8x64x64 S2048x1024 S2048x7168)

variable (m : (ℓ : Loc nD τ sig) → Buf (Elt Ideal) ℓ)

theorem state_point (c : Dev nD) (t : Fin cfg0.N) (y : S1x8x128x128.Idx) (i : S32x8x128x128.Idx)
    (hi0 : (i 0 : ℕ) = t.val + (y 0 : ℕ)) (hi1 : (i 1 : ℕ) = (y 1 : ℕ)) (hi2 : (i 2 : ℕ) = (y 2 : ℕ)) (hi3 : (i 3 : ℕ) = (y 3 : ℕ)) :
    (outsAt0 m c t).2 y = stateOf (argP m c) (argS m c) i := by
  dsimp only [outsAt0]
  frame_open
  simp (decide := true) only [↓View.readCov_skip, ↓View.readCov_fill, ↓View.readCov_cons_toLoadRect]
  frame_out
  idx_vars y
  idx_vars i
  have e : i0 = seq t := Fin.ext (by have := y0.isLt; have : (i0 : ℕ) = t.val + (y0 : ℕ) := hi0; show (i0 : ℕ) = t.val; omega)
  rw [e]
  pointwise [k0_pay2]
  rw [View.readCov_eq_canon']
  beta_reduce
  rw [show (Rect.unit (s := S8x128x128) ![0, 0, 0] ![8, 128, 128] inb_S8x128x128_S8x128x128_0_0_0).toLoadRect.idx (ix3 y1 y2 y3) = ix3 y1 y2 y3 from by
    funext a; apply Fin.ext; rw [show ∀ B : Rect S8x128x128, B.toLoadRect.idx = B.idx from fun _ => rfl, Rect.idx_unit_val]; revert a; exact fun | 0 => Nat.zero_add _ | 1 => Nat.zero_add _ | 2 => Nat.zero_add _]
  refine (canon_append_of_cover [_] (ix3 y1 y2 y3) [_, _, _, _, _, _, _, _] (View.cover_of_tiled_head _ _ _ (by rfl) _)).trans ?_
  canon_tiles x h
  case piece0 => exact state_head m c t 7 _ _ (lgK 7) (tlgK 7) (lgK_eq 7) (tlgK_eq 7) x i1 i2 i3 (hi1.trans h0) (hi2.trans h1) (hi3.trans h2)
  case piece1 => exact state_head m c t 6 _ _ (lgK 6) (tlgK 6) (lgK_eq 6) (tlgK_eq 6) x i1 i2 i3 (hi1.trans h0) (hi2.trans h1) (hi3.trans h2)
  case piece2 => exact state_head m c t 5 _ _ (lgK 5) (tlgK 5) (lgK_eq 5) (tlgK_eq 5) x i1 i2 i3 (hi1.trans h0) (hi2.trans h1) (hi3.trans h2)
  case piece3 => exact state_head m c t 4 _ _ (lgK 4) (tlgK 4) (lgK_eq 4) (tlgK_eq 4) x i1 i2 i3 (hi1.trans h0) (hi2.trans h1) (hi3.trans h2)
  case piece4 => exact state_head m c t 3 _ _ (lgK 3) (tlgK 3) (lgK_eq 3) (tlgK_eq 3) x i1 i2 i3 (hi1.trans h0) (hi2.trans h1) (hi3.trans h2)
  case piece5 => exact state_head m c t 2 _ _ (lgK 2) (tlgK 2) (lgK_eq 2) (tlgK_eq 2) x i1 i2 i3 (hi1.trans h0) (hi2.trans h1) (hi3.trans h2)
  case piece6 => exact state_head m c t 1 _ _ (lgK 1) (tlgK 1) (lgK_eq 1) (tlgK_eq 1) x i1 i2 i3 (hi1.trans h0) (hi2.trans h1) (hi3.trans h2)
  case piece7 => exact state_head m c t 0 _ _ (lgK 0) (tlgK 0) (lgK_eq 0) (tlgK_eq 0) x i1 i2 i3 (hi1.trans (h0.trans (Nat.zero_add _).symm)) (hi2.trans h1) (hi3.trans h2)

theorem out_point (c : Dev nD) (t : Fin cfg0.N) (y : S64x1024.Idx) (r : Fin 2048) (s : Fin 1024)
    (hr : (r : ℕ) = 64 * t.val + (y 0 : ℕ)) (hs : (s : ℕ) = (y 1 : ℕ)) :
    (outsAt0 m c t).1 y = sampleOf (argP m c) (argG m c) (argS m c) (ix2 r s) := by
  dsimp only [outsAt0]
  frame_open
  simp (decide := true) only [↓View.readCov_skip, ↓View.readCov_fill, ↓View.readCov_cons_toLoadRect]
  frame_out
  canon_tiles x h
  case piece0 => exact out_head m c t 7 _ _ _ (lgK 7) (lgK_eq 7) x r s (hr.trans (congrArg (64 * t.val + ·) h0)) (hs.trans h1)
  case piece1 => exact out_head m c t 6 _ _ _ (lgK 6) (lgK_eq 6) x r s (hr.trans (congrArg (64 * t.val + ·) h0)) (hs.trans h1)
  case piece2 => exact out_head m c t 5 _ _ _ (lgK 5) (lgK_eq 5) x r s (hr.trans (congrArg (64 * t.val + ·) h0)) (hs.trans h1)
  case piece3 => exact out_head m c t 4 _ _ _ (lgK 4) (lgK_eq 4) x r s (hr.trans (congrArg (64 * t.val + ·) h0)) (hs.trans h1)
  case piece4 => exact out_head m c t 3 _ _ _ (lgK 3) (lgK_eq 3) x r s (hr.trans (congrArg (64 * t.val + ·) h0)) (hs.trans h1)
  case piece5 => exact out_head m c t 2 _ _ _ (lgK 2) (lgK_eq 2) x r s (hr.trans (congrArg (64 * t.val + ·) h0)) (hs.trans h1)
  case piece6 => exact out_head m c t 1 _ _ _ (lgK 1) (lgK_eq 1) x r s (hr.trans (congrArg (64 * t.val + ·) h0)) (hs.trans h1)
  case piece7 => exact out_head m c t 0 _ _ _ (lgK 0) (lgK_eq 0) x r s (hr.trans (congrArg (64 * t.val + ·) h0)) (hs.trans (h1.trans (Nat.zero_add _).symm))

/-- The states after the run. -/
theorem final9 (c : Dev nD) : (dats m 0 c).arrAt 9 (cfgs 0).N = stateOf (argP m c) (argS m c) := by
  refine (dats m 0 c).arrAt_eq_of_covers 9 _ (by decide +kernel) fun t _ y => ?_
  blk_simp
  rw [after0_9]
  refine state_point m c t y _ ?_ ?_ ?_ ?_
  all_goals (blk_simp [idx t] <;> try omega)

/-- The reference's first result on the sample group's rows. -/
theorem outR_sample (a : FVec Ideal S10240x1024 .bf16) (y : FVec Ideal S2048x1024 .bf16) (i : S10240x1024.Idx) (r : Fin 2048) (s : Fin 1024)
    (h0 : (i 0 : ℕ) = 8192 + r) (h1 : (i 1 : ℕ) = s) : outR a y i = y (ix2 r s) := by
  idx_vars i
  pointwise [outR]
  rw [dif_neg (by omega)]
  blk_ext

/-- The reference's first result on the other rows. -/
theorem outR_other (a : FVec Ideal S10240x1024 .bf16) (y : FVec Ideal S2048x1024 .bf16) (i : S10240x1024.Idx)
    (h0 : (i 0 : ℕ) < 8192) : outR a y i = a i := by
  idx_vars i
  pointwise [outR]
  rw [dif_pos (by omega)]

/-- The outputs after the run: the sample group's rows computed, the other rows as the aliased argument has them. -/
theorem final8 (c : Dev nD) : (dats m 0 c).arrAt 8 (cfgs 0).N
    = outR (argI m c) (sampleOf (argP m c) (argG m c) (argS m c)) := by
  refine (dats m 0 c).arrAt_eq_of_coversWhere_of_agree 8 _ (fun β => 128 ≤ β (0 : Fin 2)) (by decide +kernel) (fun t hf y => ?_) (fun j hj => ?_)
  · blk_simp
    rw [after0_8]
    idx_vars y
    have ht := (idx t).2.2.2.2.2.2.2.2.2.2
    refine (out_point m c t (ix2 y0 y1) (⟨64 * t.val + y0, by omega⟩ : Fin 2048) y1 rfl rfl).trans (outR_sample _ _ _ _ _ ?_ ?_).symm
    all_goals (blk_simp [idx t] <;> first | omega | (dsimp only; omega))
  · blk_simp [Pipeline.Window.cell_apply] at hj
    refine Eq.trans ?_ (outR_other _ _ _ ?_).symm
    · show V m c main_v21_0 _ = _
      entry_read
      rfl
    · blk_simp
      omega

end Cert.RetIdeal.Whole
-- ==== Proof.RetRun.lean ====
/-
  The retention reference's run, its two results named as the arrays of the arithmetic module.
-/
module

public import proofs.«01_k».proof.Proof.RetMath

@[expose] public section

set_option maxRecDepth 16384

noncomputable section

open Idealize.ShloMosaic Idealize.ShloMosaic.TcCoe Idealize.SL.Sem

namespace Cert.RetRefIdeal.Parts

open Cert.RetRefIdeal Cert.RetRefIdeal.Gen

/-- The reference ends with the outputs and the states in its results, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = outR (m ((c.tc : Thread nD τ).loc main_arg3))
        (gatedR (mixedR lgR (decR lgR) (qR (m ((c.tc : Thread nD τ).loc main_arg0))) (kR (m ((c.tc : Thread nD τ).loc main_arg0)))
          (vH (m ((c.tc : Thread nD τ).loc main_arg0))) (m ((c.tc : Thread nD τ).loc main_arg2)))
          (m ((c.tc : Thread nD τ).loc main_arg1)) (gH (m ((c.tc : Thread nD τ).loc main_arg0))))
      ∧ r.2.mem ((c.tc : Thread nD τ).loc main_v132) = stateR lgR (kR (m ((c.tc : Thread nD τ).loc main_arg0)))
          (vH (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2⟩) (Cert.RetRefIdeal.Value.run (F := Ideal) m ρ)

end Cert.RetRefIdeal.Parts
-- ==== Proof.KeptBuffer.lean ====
/-
  A buffer that a grid walk fills at the first point of each group of ten and keeps for the rest of
  the group holds, at every point, what that point would have filled it with, as long as the points of
  one group agree on it.
-/
module

public import Idealize.ShloMosaic.Lib.Claim

@[expose] public section

namespace Cert

/-- Contents `f` refilled from `g` at each multiple of ten and kept elsewhere equal `g` everywhere, `g` being constant on groups of ten. -/
theorem kept {α : Type} {N : ℕ} (f g : (n : ℕ) → n < N → α)
    (hg : ∀ n k (hn : n < N) (hk : k < N), n / 10 = k / 10 → g n hn = g k hk)
    (hA : ∀ n (hn : n < N), n % 10 = 0 → f n hn = g n hn)
    (hB : ∀ n (hn : n + 1 < N), (n + 1) % 10 ≠ 0 → f (n + 1) hn = f n (Nat.lt_of_succ_lt hn)) :
    ∀ n (hn : n < N), f n hn = g n hn := by
  intro n
  induction n with
  | zero => exact fun hn => hA 0 hn rfl
  | succ n ih =>
    intro hn
    by_cases h0 : (n + 1) % 10 = 0
    · exact hA _ hn h0
    · rw [hB n hn h0, ih]
      exact hg _ _ _ _ (by omega)

end Cert
-- ==== Proof.LinValue.lean ====
/-
  The normalised projection `rmsnorm(x, g) @ w` (the call that makes the q/k/v, gate and retention
  columns of the first layer): what the pipelined kernel leaves in its result array is the
  reference's own term of the three arguments.

  The grid is 7 column tiles by 10 row tiles.  The body keeps the column tile of `w` in a scratch
  buffer that it fills at the first row tile of each column tile; `scratch_eq` says the buffer holds
  that tile at every point, `point` reads one stored block at an index, `final` reads the array.
-/
module

public import proofs.«01_k».proof.Proof.Gen.LinIdeal.Value
public import proofs.«01_k».proof.Proof.Gen.LinRefIdeal.Run
public import proofs.«01_k».proof.Proof.KeptBuffer
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LinIdeal.Whole

open Cert.LinIdeal Cert.LinIdeal.Gen

variable (m : (ℓ : Loc nD τ sig) → Buf (Elt Ideal) ℓ)

/-- The reference's composed term: each row of `x` divided by its root mean square, scaled by `g`, times `w`. -/
abbrev normProj (x : FVec Ideal S10240x2048 .f32) (g : FVec Ideal Cert.LinRefIdeal.S2048 .f32) (w : FVec Ideal S2048x7168 .f32) :
    FVec Ideal S10240x7168 .f32 :=
  Host.dotGeneral (F := Ideal) (φ₁ := .f32) (φ₂ := .f32) Cert.LinRefIdeal.dot_S10240x2048_S2048x7168_S10240x7168_1_0_0_1_n_n none
    (mulf (mulf x (broadcastInDim Cert.LinRefIdeal.S10240x2048 ![0, 1] Cert.LinRefIdeal.Gen.bcast_S10240x1_S10240x2048_0_1
      (Host.rsqrt (addf (Host.divf (broadcastInDim Cert.LinRefIdeal.S10240x1 ![0] Cert.LinRefIdeal.Gen.bcast_S10240_S10240x1_0
        (Host.reduceAdd (mulf x x) (constant Cert.LinRefIdeal.S_ .f32 0x00000000#32) Cert.LinRefIdeal.Gen.reducesTo_S10240x2048_S10240_d1 Cert.LinRefIdeal.Gen.h_S_))
        (broadcastInDim Cert.LinRefIdeal.S10240x1 ![] Cert.LinRefIdeal.Gen.bcast_S_S10240x1 (constant Cert.LinRefIdeal.S_ .f32 0x45000000#32)))
        (broadcastInDim Cert.LinRefIdeal.S10240x1 ![] Cert.LinRefIdeal.Gen.bcast_S_S10240x1 (constant Cert.LinRefIdeal.S_ .f32 0x358637BD#32))))))
      (broadcastInDim Cert.LinRefIdeal.S10240x2048 ![0, 1] Cert.LinRefIdeal.Gen.bcast_S1x2048_S10240x2048_0_1
        (broadcastInDim Cert.LinRefIdeal.S1x2048 ![1] Cert.LinRefIdeal.Gen.bcast_S2048_S1x2048_1 g))) w

/-- The block each window is on at point `t`: row tile `t % 10`, column tile `t / 10`. -/
theorem idx : ∀ t : Fin cfg0.N, win0_0.index t = ![t.val % 10, 0] ∧ win0_1.index t = ![0, 0]
    ∧ win0_2.index t = ![0, t.val / 10] ∧ win0_3.index t = ![t.val % 10, t.val / 10] :=
  (by decide +kernel : ∀ t : Fin grid0.N, _)

/-- Two points of one column tile stage the same block of `w`. -/
theorem weights_eq (c : Dev nD) (t u : Fin cfg0.N) (h : t.val / 10 = u.val / 10) :
    iblk m c 2 t = iblk m c 2 u := by
  funext y
  blk_point [iblk, V, idx t, idx u]

/-- The scratch buffer after point `n` holds the column tile of `w` that point `n` stages. -/
theorem scratch_eq (c : Dev nD) : ∀ (n : ℕ) (hn : n < cfg0.N),
    (outsAt0 m c n hn).2 = k0_pay1 (iblk m c 2 ⟨n, hn⟩) :=
  kept (fun n hn => (outsAt0 m c n hn).2) (fun n hn => k0_pay1 (iblk m c 2 ⟨n, hn⟩))
    (fun n k hn hk h => by rw [weights_eq m c ⟨n, hn⟩ ⟨k, hk⟩ h])
    (fun n hn h0 => by
      rw [outsAt0_A m c ⟨n, hn⟩ h0]
      frame_out)
    (fun n hn h0 => by
      rw [outsAt0_B m c ⟨n + 1, hn⟩ h0]
      rfl)

/-- What the body leaves in the output block at point `t`: the same payload in both cases. -/
theorem block_eq (c : Dev nD) (t : Fin cfg0.N) :
    (outsAt0 m c t.val t.isLt).1 = k0_pay2 (iblk m c 0 t) (iblk m c 1 t) (k0_pay1 (iblk m c 2 t)) := by
  by_cases h0 : t.val % 10 = 0
  · rw [outsAt0_A m c t h0]
    frame_out
  · rw [outsAt0_B m c t h0]
    have e := scratch_eq m c (t.val - 1) (Nat.lt_of_le_of_lt (Nat.sub_le _ _) t.isLt)
    rw [weights_eq m c _ t (by dsimp only; omega)] at e
    rw [e]
    frame_out
    exact congrArg (k0_pay2 (iblk m c 0 t) (iblk m c 1 t)) (Memref.IsWhole.read_unread _ _)

/-- One stored element: the reference's term at the array index it sits at. -/
theorem point (c : Dev nD) (t : Fin cfg0.N) (y) :
    k0_pay2 (iblk m c 0 t) (iblk m c 1 t) (k0_pay1 (iblk m c 2 t)) y
      = normProj (m ((c : Thread nD τ).loc main_arg0)) (m ((c : Thread nD τ).loc main_arg1)) (m ((c : Thread nD τ).loc main_arg2))
          (((cfg0.win 3).blk t).view.emb y) := by
  pointwise [k0_pay2, k0_pay1, normProj]
  blk_point [iblk, V, idx t]

/-- The result array after the run. -/
theorem final (c : Dev nD) : (dats m 0 c).arrAt 3 (cfgs 0).N
    = normProj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.LinIdeal.Whole
-- ==== Proof.FfnValue.lean ====
/-
  The dense feed-forward part's gated projection `silu(h @ wg) * (h @ wu)` with `h = rmsnorm(x, g)`:
  what the pipelined kernel leaves in its result array is the reference's own term of the four
  arguments.

  The grid is 11 column tiles by 10 row tiles.  The body keeps one column tile of each weight matrix
  in a scratch buffer that it fills at the first row tile of a column tile; `scratch_eq` says the two
  buffers hold those tiles at every point, `point` reads one stored block at an index, `final` the array.
-/
module

public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Whole

open Cert.FfnIdeal Cert.FfnIdeal.Gen

variable (m : (ℓ : Loc nD τ sig) → Buf (Elt Ideal) ℓ)

/-- `rmsnorm(x, g)` as the reference spells it: each row divided by its root mean square, scaled by `g`. -/
abbrev normed (x : FVec Ideal S10240x2048 .f32) (g : FVec Ideal Cert.FfnRefIdeal.S2048 .f32) : FVec Ideal S10240x2048 .f32 :=
  mulf (mulf x (broadcastInDim Cert.FfnRefIdeal.S10240x2048 ![0, 1] Cert.FfnRefIdeal.Gen.bcast_S10240x1_S10240x2048_0_1
      (Host.rsqrt (addf (Host.divf (broadcastInDim Cert.FfnRefIdeal.S10240x1 ![0] Cert.FfnRefIdeal.Gen.bcast_S10240_S10240x1_0
        (Host.reduceAdd (mulf x x) (constant Cert.FfnRefIdeal.S_ .f32 0x00000000#32) Cert.FfnRefIdeal.Gen.reducesTo_S10240x2048_S10240_d1 Cert.FfnRefIdeal.Gen.h_S_))
        (broadcastInDim Cert.FfnRefIdeal.S10240x1 ![] Cert.FfnRefIdeal.Gen.bcast_S_S10240x1 (constant Cert.FfnRefIdeal.S_ .f32 0x45000000#32)))
        (broadcastInDim Cert.FfnRefIdeal.S10240x1 ![] Cert.FfnRefIdeal.Gen.bcast_S_S10240x1 (constant Cert.FfnRefIdeal.S_ .f32 0x358637BD#32))))))
    (broadcastInDim Cert.FfnRefIdeal.S10240x2048 ![0, 1] Cert.FfnRefIdeal.Gen.bcast_S1x2048_S10240x2048_0_1
      (broadcastInDim Cert.FfnRefIdeal.S1x2048 ![1] Cert.FfnRefIdeal.Gen.bcast_S2048_S1x2048_1 g))

/-- One projection of the normalised rows. -/
abbrev proj (x : FVec Ideal S10240x2048 .f32) (g : FVec Ideal Cert.FfnRefIdeal.S2048 .f32) (w : FVec Ideal S2048x5632 .f32) : FVec Ideal S10240x5632 .f32 :=
  Host.dotGeneral (F := Ideal) (φ₁ := .f32) (φ₂ := .f32) Cert.FfnRefIdeal.dot_S10240x2048_S2048x5632_S10240x5632_1_0_0_1_n_n none (normed x g) w

/-- The reference's composed term: the gate projection through `silu`, times the up projection, rounded. -/
abbrev gated (x : FVec Ideal S10240x2048 .f32) (g : FVec Ideal Cert.FfnRefIdeal.S2048 .f32) (wg wu : FVec Ideal S2048x5632 .f32) : FVec Ideal S10240x5632 .bf16 :=
  truncf .bf16 (mulf (mulf (proj x g wg) (Host.divf (broadcastInDim Cert.FfnRefIdeal.S10240x5632 ![] Cert.FfnRefIdeal.Gen.bcast_S_S10240x5632 (constant Cert.FfnRefIdeal.S_ .f32 0x3F800000#32))
    (addf (broadcastInDim Cert.FfnRefIdeal.S10240x5632 ![] Cert.FfnRefIdeal.Gen.bcast_S_S10240x5632 (constant Cert.FfnRefIdeal.S_ .f32 0x3F800000#32))
      (Host.exp (Host.negf (proj x g wg)))))) (proj x g wu)) Cert.FfnRefIdeal.Gen.bitsLt_bf16_f32

/-- The block each window is on at point `t`: row tile `t % 10`, column tile `t / 10`. -/
theorem idx : ∀ t : Fin cfg0.N, win0_0.index t = ![t.val % 10, 0] ∧ win0_1.index t = ![0, 0]
    ∧ win0_2.index t = ![0, t.val / 10] ∧ win0_3.index t = ![0, t.val / 10] ∧ win0_4.index t = ![t.val % 10, t.val / 10] :=
  (by decide +kernel : ∀ t : Fin grid0.N, _)

/-- Two points of one column tile stage the same block of the gate weights, -/
theorem gate_tile_eq (c : Dev nD) (t u : Fin cfg0.N) (h : t.val / 10 = u.val / 10) :
    iblk m c 2 t = iblk m c 2 u := by
  funext y
  blk_point [iblk, V, idx t, idx u]

/-- and of the up weights. -/
theorem up_tile_eq (c : Dev nD) (t u : Fin cfg0.N) (h : t.val / 10 = u.val / 10) :
    iblk m c 3 t = iblk m c 3 u := by
  funext y
  blk_point [iblk, V, idx t, idx u]

/-- The scratch buffers after point `n` hold the two weight tiles that point `n` stages. -/
theorem scratch_eq (c : Dev nD) : ∀ (n : ℕ) (hn : n < cfg0.N),
    (outsAt0 m c n hn).2.1 = k0_pay1 (iblk m c 2 ⟨n, hn⟩) ∧ (outsAt0 m c n hn).2.2 = k0_pay2 (iblk m c 3 ⟨n, hn⟩) := by
  intro n
  induction n with
  | zero =>
    intro hn
    rw [outsAt0_A m c ⟨0, hn⟩ (Nat.zero_mod _)]
    constructor
    · frame_out
    · frame_out
  | succ n ih =>
    intro hn
    by_cases h0 : (n + 1) % 10 = 0
    · rw [outsAt0_A m c ⟨n + 1, hn⟩ h0]
      constructor
      · frame_out
      · frame_out
    · rw [outsAt0_B m c ⟨n + 1, hn⟩ h0]
      dsimp only [sout0_B_0, sout0_B_1]
      have e := ih (Nat.lt_of_succ_lt hn)
      have hd : n / 10 = (n + 1) / 10 := by omega
      rw [← gate_tile_eq m c ⟨n, Nat.lt_of_succ_lt hn⟩ ⟨n + 1, hn⟩ hd,
        ← up_tile_eq m c ⟨n, Nat.lt_of_succ_lt hn⟩ ⟨n + 1, hn⟩ hd]
      exact e

/-- What the body leaves in the output block at point `t`: the same payload in both cases. -/
theorem block_eq (c : Dev nD) (t : Fin cfg0.N) :
    (outsAt0 m c t.val t.isLt).1
      = k0_pay3 (iblk m c 0 t) (iblk m c 1 t) (k0_pay1 (iblk m c 2 t)) (k0_pay2 (iblk m c 3 t)) := by
  by_cases h0 : t.val % 10 = 0
  · rw [outsAt0_A m c t h0]
    frame_out
  · rw [outsAt0_B m c t h0]
    obtain ⟨e, e'⟩ := scratch_eq m c (t.val - 1) (Nat.lt_of_le_of_lt (Nat.sub_le _ _) t.isLt)
    rw [gate_tile_eq m c _ t (by dsimp only; omega)] at e
    rw [up_tile_eq m c _ t (by dsimp only; omega)] at e'
    rw [e, e']
    frame_out
    exact congrArg₂ (k0_pay3 (iblk m c 0 t) (iblk m c 1 t)) (Memref.IsWhole.read_unread _ _) (Memref.IsWhole.read_unread _ _)

/-- Subtraction from zero is negation. -/
theorem zero_minus (a : EReal) : 0 - a = -a := by
  rw [sub_eq_add_neg, zero_add]

/-- One stored element: the reference's term at the array index it sits at. -/
theorem point (c : Dev nD) (t : Fin cfg0.N) (y) :
    k0_pay3 (iblk m c 0 t) (iblk m c 1 t) (k0_pay1 (iblk m c 2 t)) (k0_pay2 (iblk m c 3 t)) y
      = gated (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay3, k0_pay2, k0_pay1, gated, proj, normed]
  simp only [zero_minus]
  blk_point [iblk, V, idx t]

/-- The result array after the run. -/
theorem final (c : Dev nD) : (dats m 0 c).arrAt 4 (cfgs 0).N
    = gated (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, block_eq]
  exact point m c t y

end Cert.FfnIdeal.Whole
-- ==== Proof.BandValue.lean ====
/-
  The normalised projection `rmsnorm(x, g) @ w` (the call that makes the q/k/v columns of the second layer): what the pipelined kernel leaves in its result array is the
  reference's own term of the three arguments.

  The grid is 6 column tiles by 10 row tiles.  The body keeps the column tile of `w` in a scratch
  buffer that it fills at the first row tile of each column tile; `scratch_eq` says the buffer holds
  that tile at every point, `point` reads one stored block at an index, `final` reads the array.
-/
module

public import proofs.«01_k».proof.Proof.Gen.Band.Frame
public import proofs.«01_k».proof.Proof.Gen.BandIdeal.Value
public import proofs.«01_k».proof.Proof.Gen.BandRefIdeal.Run
public import proofs.«01_k».proof.Proof.KeptBuffer
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BandIdeal.Whole

open Cert.BandIdeal Cert.BandIdeal.Gen

variable (m : (ℓ : Loc nD τ sig) → Buf (Elt Ideal) ℓ)

/-- The reference's composed term: each row of `x` divided by its root mean square, scaled by `g`, times `w`. -/
abbrev normProj (x : FVec Ideal S10240x2048 .f32) (g : FVec Ideal Cert.BandRefIdeal.S2048 .f32) (w : FVec Ideal S2048x6144 .f32) :
    FVec Ideal S10240x6144 .f32 :=
  Host.dotGeneral (F := Ideal) (φ₁ := .f32) (φ₂ := .f32) Cert.BandRefIdeal.dot_S10240x2048_S2048x6144_S10240x6144_1_0_0_1_n_n none
    (mulf (mulf x (broadcastInDim Cert.BandRefIdeal.S10240x2048 ![0, 1] Cert.BandRefIdeal.Gen.bcast_S10240x1_S10240x2048_0_1
      (Host.rsqrt (addf (Host.divf (broadcastInDim Cert.BandRefIdeal.S10240x1 ![0] Cert.BandRefIdeal.Gen.bcast_S10240_S10240x1_0
        (Host.reduceAdd (mulf x x) (constant Cert.BandRefIdeal.S_ .f32 0x00000000#32) Cert.BandRefIdeal.Gen.reducesTo_S10240x2048_S10240_d1 Cert.BandRefIdeal.Gen.h_S_))
        (broadcastInDim Cert.BandRefIdeal.S10240x1 ![] Cert.BandRefIdeal.Gen.bcast_S_S10240x1 (constant Cert.BandRefIdeal.S_ .f32 0x45000000#32)))
        (broadcastInDim Cert.BandRefIdeal.S10240x1 ![] Cert.BandRefIdeal.Gen.bcast_S_S10240x1 (constant Cert.BandRefIdeal.S_ .f32 0x358637BD#32))))))
      (broadcastInDim Cert.BandRefIdeal.S10240x2048 ![0, 1] Cert.BandRefIdeal.Gen.bcast_S1x2048_S10240x2048_0_1
        (broadcastInDim Cert.BandRefIdeal.S1x2048 ![1] Cert.BandRefIdeal.Gen.bcast_S2048_S1x2048_1 g))) w

/-- The block each window is on at point `t`: row tile `t % 10`, column tile `t / 10`. -/
theorem idx : ∀ t : Fin cfg0.N, win0_0.index t = ![t.val % 10, 0] ∧ win0_1.index t = ![0, 0]
    ∧ win0_2.index t = ![0, t.val / 10] ∧ win0_3.index t = ![t.val % 10, t.val / 10] :=
  (by decide +kernel : ∀ t : Fin grid0.N, _)

/-- Two points of one column tile stage the same block of `w`. -/
theorem weights_eq (c : Dev nD) (t u : Fin cfg0.N) (h : t.val / 10 = u.val / 10) :
    iblk m c 2 t = iblk m c 2 u := by
  funext y
  blk_point [iblk, V, idx t, idx u]

/-- The scratch buffer after point `n` holds the column tile of `w` that point `n` stages. -/
theorem scratch_eq (c : Dev nD) : ∀ (n : ℕ) (hn : n < cfg0.N),
    (outsAt0 m c n hn).2 = k0_pay1 (iblk m c 2 ⟨n, hn⟩) :=
  kept (fun n hn => (outsAt0 m c n hn).2) (fun n hn => k0_pay1 (iblk m c 2 ⟨n, hn⟩))
    (fun n k hn hk h => by rw [weights_eq m c ⟨n, hn⟩ ⟨k, hk⟩ h])
    (fun n hn h0 => by
      rw [outsAt0_A m c ⟨n, hn⟩ h0]
      frame_out)
    (fun n hn h0 => by
      rw [outsAt0_B m c ⟨n + 1, hn⟩ h0]
      rfl)

/-- What the body leaves in the output block at point `t`: the same payload in both cases. -/
theorem block_eq (c : Dev nD) (t : Fin cfg0.N) :
    (outsAt0 m c t.val t.isLt).1 = k0_pay2 (iblk m c 0 t) (iblk m c 1 t) (k0_pay1 (iblk m c 2 t)) := by
  by_cases h0 : t.val % 10 = 0
  · rw [outsAt0_A m c t h0]
    frame_out
  · rw [outsAt0_B m c t h0]
    have e := scratch_eq m c (t.val - 1) (Nat.lt_of_le_of_lt (Nat.sub_le _ _) t.isLt)
    rw [weights_eq m c _ t (by dsimp only; omega)] at e
    rw [e]
    frame_out
    exact congrArg (k0_pay2 (iblk m c 0 t) (iblk m c 1 t)) (Memref.IsWhole.read_unread _ _)

/-- One stored element: the reference's term at the array index it sits at. -/
theorem point (c : Dev nD) (t : Fin cfg0.N) (y) :
    k0_pay2 (iblk m c 0 t) (iblk m c 1 t) (k0_pay1 (iblk m c 2 t)) y
      = normProj (m ((c : Thread nD τ).loc main_arg0)) (m ((c : Thread nD τ).loc main_arg1)) (m ((c : Thread nD τ).loc main_arg2))
          (((cfg0.win 3).blk t).view.emb y) := by
  pointwise [k0_pay2, k0_pay1, normProj]
  blk_point [iblk, V, idx t]

/-- The result array after the run. -/
theorem final (c : Dev nD) : (dats m 0 c).arrAt 3 (cfgs 0).N
    = normProj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.BandIdeal.Whole
-- ==== Proof.XqValue.lean ====
/-
  The normalised projection `rmsnorm(x, g) @ w` (the call that makes the memory attention's queries): what the pipelined kernel leaves in its result array is the
  reference's own term of the three arguments.

  The grid is 1 column tile by 10 row tiles.  The body keeps the column tile of `w` in a scratch
  buffer that it fills at the first row tile of each column tile; `scratch_eq` says the buffer holds
  that tile at every point, `point` reads one stored block at an index, `final` reads the array.
-/
module

public import proofs.«01_k».proof.Proof.Gen.Xq.Frame
public import proofs.«01_k».proof.Proof.Gen.XqIdeal.Value
public import proofs.«01_k».proof.Proof.Gen.XqRefIdeal.Run
public import proofs.«01_k».proof.Proof.KeptBuffer
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XqIdeal.Whole

open Cert.XqIdeal Cert.XqIdeal.Gen

variable (m : (ℓ : Loc nD τ sig) → Buf (Elt Ideal) ℓ)

/-- The reference's composed term: each row of `x` divided by its root mean square, scaled by `g`, times `w`. -/
abbrev normProj (x : FVec Ideal S10240x2048 .f32) (g : FVec Ideal Cert.XqRefIdeal.S2048 .f32) (w : FVec Ideal S2048x512 .f32) :
    FVec Ideal S10240x512 .f32 :=
  Host.dotGeneral (F := Ideal) (φ₁ := .f32) (φ₂ := .f32) Cert.XqRefIdeal.dot_S10240x2048_S2048x512_S10240x512_1_0_0_1_n_n none
    (mulf (mulf x (broadcastInDim Cert.XqRefIdeal.S10240x2048 ![0, 1] Cert.XqRefIdeal.Gen.bcast_S10240x1_S10240x2048_0_1
      (Host.rsqrt (addf (Host.divf (broadcastInDim Cert.XqRefIdeal.S10240x1 ![0] Cert.XqRefIdeal.Gen.bcast_S10240_S10240x1_0
        (Host.reduceAdd (mulf x x) (constant Cert.XqRefIdeal.S_ .f32 0x00000000#32) Cert.XqRefIdeal.Gen.reducesTo_S10240x2048_S10240_d1 Cert.XqRefIdeal.Gen.h_S_))
        (broadcastInDim Cert.XqRefIdeal.S10240x1 ![] Cert.XqRefIdeal.Gen.bcast_S_S10240x1 (constant Cert.XqRefIdeal.S_ .f32 0x45000000#32)))
        (broadcastInDim Cert.XqRefIdeal.S10240x1 ![] Cert.XqRefIdeal.Gen.bcast_S_S10240x1 (constant Cert.XqRefIdeal.S_ .f32 0x358637BD#32))))))
      (broadcastInDim Cert.XqRefIdeal.S10240x2048 ![0, 1] Cert.XqRefIdeal.Gen.bcast_S1x2048_S10240x2048_0_1
        (broadcastInDim Cert.XqRefIdeal.S1x2048 ![1] Cert.XqRefIdeal.Gen.bcast_S2048_S1x2048_1 g))) w

/-- The block each window is on at point `t`: row tile `t % 10`, column tile `t / 10`. -/
theorem idx : ∀ t : Fin cfg0.N, win0_0.index t = ![t.val % 10, 0] ∧ win0_1.index t = ![0, 0]
    ∧ win0_2.index t = ![0, t.val / 10] ∧ win0_3.index t = ![t.val % 10, t.val / 10] :=
  (by decide +kernel : ∀ t : Fin grid0.N, _)

/-- Two points of one column tile stage the same block of `w`. -/
theorem weights_eq (c : Dev nD) (t u : Fin cfg0.N) (h : t.val / 10 = u.val / 10) :
    iblk m c 2 t = iblk m c 2 u := by
  funext y
  blk_point [iblk, V, idx t, idx u]

/-- The scratch buffer after point `n` holds the column tile of `w` that point `n` stages. -/
theorem scratch_eq (c : Dev nD) : ∀ (n : ℕ) (hn : n < cfg0.N),
    (outsAt0 m c n hn).2 = k0_pay1 (iblk m c 2 ⟨n, hn⟩) :=
  kept (fun n hn => (outsAt0 m c n hn).2) (fun n hn => k0_pay1 (iblk m c 2 ⟨n, hn⟩))
    (fun n k hn hk h => by rw [weights_eq m c ⟨n, hn⟩ ⟨k, hk⟩ h])
    (fun n hn h0 => by
      rw [outsAt0_A m c ⟨n, hn⟩ h0]
      frame_out)
    (fun n hn h0 => by
      rw [outsAt0_B m c ⟨n + 1, hn⟩ h0]
      rfl)

/-- What the body leaves in the output block at point `t`: the same payload in both cases. -/
theorem block_eq (c : Dev nD) (t : Fin cfg0.N) :
    (outsAt0 m c t.val t.isLt).1 = k0_pay2 (iblk m c 0 t) (iblk m c 1 t) (k0_pay1 (iblk m c 2 t)) := by
  by_cases h0 : t.val % 10 = 0
  · rw [outsAt0_A m c t h0]
    frame_out
  · rw [outsAt0_B m c t h0]
    have e := scratch_eq m c (t.val - 1) (Nat.lt_of_le_of_lt (Nat.sub_le _ _) t.isLt)
    rw [weights_eq m c _ t (by dsimp only; omega)] at e
    rw [e]
    frame_out
    exact congrArg (k0_pay2 (iblk m c 0 t) (iblk m c 1 t)) (Memref.IsWhole.read_unread _ _)

/-- One stored element: the reference's term at the array index it sits at. -/
theorem point (c : Dev nD) (t : Fin cfg0.N) (y) :
    k0_pay2 (iblk m c 0 t) (iblk m c 1 t) (k0_pay1 (iblk m c 2 t)) y
      = normProj (m ((c : Thread nD τ).loc main_arg0)) (m ((c : Thread nD τ).loc main_arg1)) (m ((c : Thread nD τ).loc main_arg2))
          (((cfg0.win 3).blk t).view.emb y) := by
  pointwise [k0_pay2, k0_pay1, normProj]
  blk_point [iblk, V, idx t]

/-- The result array after the run. -/
theorem final (c : Dev nD) : (dats m 0 c).arrAt 3 (cfgs 0).N
    = normProj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.XqIdeal.Whole
-- ==== Proof.NormValues.lean ====
/-
  The three stand-alone norms `rmsnorm(x, g)`: the final norm of the prompt's rows (`FinP`) and of the
  sample group's (`FinS`), and the memory's (`KvNorm`, rounded).  Each grid point normalises 512 rows (the
  memory's one point all 256); `point` reads one stored block at an index, `final` the array.
-/
module

public import proofs.«01_k».proof.Proof.Gen.FinP.Frame
public import proofs.«01_k».proof.Proof.Gen.FinPIdeal.Value
public import proofs.«01_k».proof.Proof.Gen.FinPRefIdeal.Run
public import proofs.«01_k».proof.Proof.Gen.FinS.Frame
public import proofs.«01_k».proof.Proof.Gen.FinSIdeal.Value
public import proofs.«01_k».proof.Proof.Gen.FinSRefIdeal.Run
public import proofs.«01_k».proof.Proof.Gen.KvNorm.Frame
public import proofs.«01_k».proof.Proof.Gen.KvNormIdeal.Value
public import proofs.«01_k».proof.Proof.Gen.KvNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinPIdeal.Whole

open Cert.FinPIdeal Cert.FinPIdeal.Gen

variable (m : (ℓ : Loc nD τ sig) → Buf (Elt Ideal) ℓ)

/-- Each row divided by its root mean square, scaled by `g`, as the reference spells it. -/
abbrev normed (r : FVec Ideal Cert.FinPRefIdeal.S8192x2048 .f32) (g : FVec Ideal Cert.FinPRefIdeal.S2048 .f32) : FVec Ideal Cert.FinPRefIdeal.S8192x2048 .f32 :=
  mulf (mulf r (broadcastInDim Cert.FinPRefIdeal.S8192x2048 ![0, 1] Cert.FinPRefIdeal.Gen.bcast_S8192x1_S8192x2048_0_1
      (Host.rsqrt (addf (Host.divf (broadcastInDim Cert.FinPRefIdeal.S8192x1 ![0] Cert.FinPRefIdeal.Gen.bcast_S8192_S8192x1_0
        (Host.reduceAdd (mulf r r) (constant Cert.FinPRefIdeal.S_ .f32 0x00000000#32) Cert.FinPRefIdeal.Gen.reducesTo_S8192x2048_S8192_d1 Cert.FinPRefIdeal.Gen.h_S_))
        (broadcastInDim Cert.FinPRefIdeal.S8192x1 ![] Cert.FinPRefIdeal.Gen.bcast_S_S8192x1 (constant Cert.FinPRefIdeal.S_ .f32 0x45000000#32)))
        (broadcastInDim Cert.FinPRefIdeal.S8192x1 ![] Cert.FinPRefIdeal.Gen.bcast_S_S8192x1 (constant Cert.FinPRefIdeal.S_ .f32 0x358637BD#32))))))
    (broadcastInDim Cert.FinPRefIdeal.S8192x2048 ![0, 1] Cert.FinPRefIdeal.Gen.bcast_S1x2048_S8192x2048_0_1
      (broadcastInDim Cert.FinPRefIdeal.S1x2048 ![1] Cert.FinPRefIdeal.Gen.bcast_S2048_S1x2048_1 g))

/-- The reference's composed term: the normed prompt rows. -/
abbrev result (x : FVec Ideal Cert.FinPRefIdeal.S10240x2048 .f32) (g : FVec Ideal Cert.FinPRefIdeal.S2048 .f32) : FVec Ideal Cert.FinPRefIdeal.S8192x2048 .f32 :=
  normed (extractStridedSlice Cert.FinPRefIdeal.S8192x2048 ![0, 0] x Cert.FinPRefIdeal.Gen.slices_S10240x2048_S8192x2048_0_0) g

/-- The block each window is on at point `t`. -/
theorem idx : ∀ t : Fin cfg0.N, win0_0.index t = ![t.val, 0] ∧ win0_1.index t = ![0, 0] ∧ win0_2.index t = ![t.val, 0] :=
  (by decide +kernel : ∀ t : Fin grid0.N, _)

/-- What the body leaves in the output block at point `t`. -/
theorem block_eq (c : Dev nD) (t : Fin cfg0.N) :
    out0_2 (iblk m c 0 t) (iblk m c 1 t)
      = k0_pay1 (iblk m c 0 t) (iblk m c 1 t) := by
  frame_out

/-- One stored element: the reference's term at the array index it sits at. -/
theorem point (c : Dev nD) (t : Fin cfg0.N) (y) :
    k0_pay1 (iblk m c 0 t) (iblk m c 1 t) y
      = result (m ((c : Thread nD τ).loc main_arg0)) (m ((c : Thread nD τ).loc main_arg1)) (((cfg0.win 2).blk t).view.emb y) := by
  pointwise [k0_pay1, result, normed]
  blk_point [iblk, V, idx t]

/-- The result array after the run. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2, block_eq]
  exact point m c t y

end Cert.FinPIdeal.Whole

namespace Cert.FinSIdeal.Whole

open Cert.FinSIdeal Cert.FinSIdeal.Gen

variable (m : (ℓ : Loc nD τ sig) → Buf (Elt Ideal) ℓ)

/-- Each row divided by its root mean square, scaled by `g`, as the reference spells it. -/
abbrev normed (r : FVec Ideal Cert.FinSRefIdeal.S2048x2048 .f32) (g : FVec Ideal Cert.FinSRefIdeal.S2048 .f32) : FVec Ideal Cert.FinSRefIdeal.S2048x2048 .f32 :=
  mulf (mulf r (broadcastInDim Cert.FinSRefIdeal.S2048x2048 ![0, 1] Cert.FinSRefIdeal.Gen.bcast_S2048x1_S2048x2048_0_1
      (Host.rsqrt (addf (Host.divf (broadcastInDim Cert.FinSRefIdeal.S2048x1 ![0] Cert.FinSRefIdeal.Gen.bcast_S2048_S2048x1_0
        (Host.reduceAdd (mulf r r) (constant Cert.FinSRefIdeal.S_ .f32 0x00000000#32) Cert.FinSRefIdeal.Gen.reducesTo_S2048x2048_S2048_d1 Cert.FinSRefIdeal.Gen.h_S_))
        (broadcastInDim Cert.FinSRefIdeal.S2048x1 ![] Cert.FinSRefIdeal.Gen.bcast_S_S2048x1 (constant Cert.FinSRefIdeal.S_ .f32 0x45000000#32)))
        (broadcastInDim Cert.FinSRefIdeal.S2048x1 ![] Cert.FinSRefIdeal.Gen.bcast_S_S2048x1 (constant Cert.FinSRefIdeal.S_ .f32 0x358637BD#32))))))
    (broadcastInDim Cert.FinSRefIdeal.S2048x2048 ![0, 1] Cert.FinSRefIdeal.Gen.bcast_S1x2048_S2048x2048_0_1
      (broadcastInDim Cert.FinSRefIdeal.S1x2048 ![1] Cert.FinSRefIdeal.Gen.bcast_S2048_S1x2048_1 g))

/-- The reference's composed term: the normed rows of the sample group. -/
abbrev result (x : FVec Ideal Cert.FinSRefIdeal.S10240x2048 .f32) (g : FVec Ideal Cert.FinSRefIdeal.S2048 .f32) : FVec Ideal Cert.FinSRefIdeal.S2048x2048 .f32 :=
  normed (extractStridedSlice Cert.FinSRefIdeal.S2048x2048 ![8192, 0] x Cert.FinSRefIdeal.Gen.slices_S10240x2048_S2048x2048_8192_0) g

/-- The block each window is on at point `t`. -/
theorem idx : ∀ t : Fin cfg0.N, win0_0.index t = ![16 + t.val, 0] ∧ win0_1.index t = ![0, 0] ∧ win0_2.index t = ![t.val, 0] :=
  (by decide +kernel : ∀ t : Fin grid0.N, _)

/-- What the body leaves in the output block at point `t`. -/
theorem block_eq (c : Dev nD) (t : Fin cfg0.N) :
    out0_2 (iblk m c 0 t) (iblk m c 1 t)
      = k0_pay1 (iblk m c 0 t) (iblk m c 1 t) := by
  frame_out

/-- One stored element: the reference's term at the array index it sits at. -/
theorem point (c : Dev nD) (t : Fin cfg0.N) (y) :
    k0_pay1 (iblk m c 0 t) (iblk m c 1 t) y
      = result (m ((c : Thread nD τ).loc main_arg0)) (m ((c : Thread nD τ).loc main_arg1)) (((cfg0.win 2).blk t).view.emb y) := by
  pointwise [k0_pay1, result, normed]
  blk_point [iblk, V, idx t]

/-- The result array after the run. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2, block_eq]
  exact point m c t y

end Cert.FinSIdeal.Whole

namespace Cert.KvNormIdeal.Whole

open Cert.KvNormIdeal Cert.KvNormIdeal.Gen

variable (m : (ℓ : Loc nD τ sig) → Buf (Elt Ideal) ℓ)

/-- Each row divided by its root mean square, scaled by `g`, as the reference spells it. -/
abbrev normed (r : FVec Ideal Cert.KvNormRefIdeal.S256x2048 .f32) (g : FVec Ideal Cert.KvNormRefIdeal.S2048 .f32) : FVec Ideal Cert.KvNormRefIdeal.S256x2048 .f32 :=
  mulf (mulf r (broadcastInDim Cert.KvNormRefIdeal.S256x2048 ![0, 1] Cert.KvNormRefIdeal.Gen.bcast_S256x1_S256x2048_0_1
      (Host.rsqrt (addf (Host.divf (broadcastInDim Cert.KvNormRefIdeal.S256x1 ![0] Cert.KvNormRefIdeal.Gen.bcast_S256_S256x1_0
        (Host.reduceAdd (mulf r r) (constant Cert.KvNormRefIdeal.S_ .f32 0x00000000#32) Cert.KvNormRefIdeal.Gen.reducesTo_S256x2048_S256_d1 Cert.KvNormRefIdeal.Gen.h_S_))
        (broadcastInDim Cert.KvNormRefIdeal.S256x1 ![] Cert.KvNormRefIdeal.Gen.bcast_S_S256x1 (constant Cert.KvNormRefIdeal.S_ .f32 0x45000000#32)))
        (broadcastInDim Cert.KvNormRefIdeal.S256x1 ![] Cert.KvNormRefIdeal.Gen.bcast_S_S256x1 (constant Cert.KvNormRefIdeal.S_ .f32 0x358637BD#32))))))
    (broadcastInDim Cert.KvNormRefIdeal.S256x2048 ![0, 1] Cert.KvNormRefIdeal.Gen.bcast_S1x2048_S256x2048_0_1
      (broadcastInDim Cert.KvNormRefIdeal.S1x2048 ![1] Cert.KvNormRefIdeal.Gen.bcast_S2048_S1x2048_1 g))

/-- The reference's composed term: the normed memory, rounded. -/
abbrev result (x : FVec Ideal Cert.KvNormRefIdeal.S256x2048 .f32) (g : FVec Ideal Cert.KvNormRefIdeal.S2048 .f32) : FVec Ideal Cert.KvNormRefIdeal.S256x2048 .bf16 :=
  truncf .bf16 (normed x g) Cert.KvNormRefIdeal.Gen.bitsLt_bf16_f32

/-- The block each window is on at point `t`. -/
theorem idx : ∀ t : Fin cfg0.N, win0_0.index t = ![t.val, 0] ∧ win0_1.index t = ![0, 0] ∧ win0_2.index t = ![t.val, 0] :=
  (by decide +kernel : ∀ t : Fin grid0.N, _)

/-- What the body leaves in the output block at point `t`. -/
theorem block_eq (c : Dev nD) (t : Fin cfg0.N) :
    out0_2 (iblk m c 0 t) (iblk m c 1 t)
      = k0_pay1 (iblk m c 0 t) (iblk m c 1 t) := by
  frame_out

/-- One stored element: the reference's term at the array index it sits at. -/
theorem point (c : Dev nD) (t : Fin cfg0.N) (y) :
    k0_pay1 (iblk m c 0 t) (iblk m c 1 t) y
      = result (m ((c : Thread nD τ).loc main_arg0)) (m ((c : Thread nD τ).loc main_arg1)) (((cfg0.win 2).blk t).view.emb y) := by
  pointwise [k0_pay1, result, normed]
  blk_point [iblk, V, idx t]

/-- The result array after the run. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2, block_eq]
  exact point m c t y

end Cert.KvNormIdeal.Whole
-- ==== Proof.OutValues.lean ====
/-
  The plain products: the memory's key or value projection (`Kv`) and the four projections added to the
  residual stream (`OutAb` over two arrays side by side, `OutBand`, `Xo`, `FfnDown`).  The grids are row tiles by
  four column tiles, the contraction in one piece; `point` reads one stored block at an index, `final` the array.
-/
module

public import proofs.«01_k».proof.Proof.Gen.Kv.Frame
public import proofs.«01_k».proof.Proof.Gen.KvIdeal.Value
public import proofs.«01_k».proof.Proof.Gen.KvRefIdeal.Run
public import proofs.«01_k».proof.Proof.Gen.OutAb.Frame
public import proofs.«01_k».proof.Proof.Gen.OutAbIdeal.Value
public import proofs.«01_k».proof.Proof.Gen.OutAbRefIdeal.Run
public import proofs.«01_k».proof.Proof.Gen.OutBand.Frame
public import proofs.«01_k».proof.Proof.Gen.OutBandIdeal.Value
public import proofs.«01_k».proof.Proof.Gen.OutBandRefIdeal.Run
public import proofs.«01_k».proof.Proof.Gen.Xo.Frame
public import proofs.«01_k».proof.Proof.Gen.XoIdeal.Value
public import proofs.«01_k».proof.Proof.Gen.XoRefIdeal.Run
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvIdeal.Whole

open Cert.KvIdeal Cert.KvIdeal.Gen

variable (m : (ℓ : Loc nD τ sig) → Buf (Elt Ideal) ℓ)

/-- The reference's composed term: the normed memory times `w`. -/
abbrev result (h : FVec Ideal S256x2048 .bf16) (w : FVec Ideal S2048x512 .f32) : FVec Ideal S256x512 .f32 :=
  Host.dotGeneral (F := Ideal) (φ₁ := .f32) (φ₂ := .f32) Cert.KvRefIdeal.dot_S256x2048_S2048x512_S256x512_1_0_0_1_n_n none
    (extf .f32 h Cert.KvRefIdeal.Gen.bitsLt_bf16_f32) w

/-- The one point's block of each window is the whole array. -/
theorem idx : ∀ t : Fin cfg0.N, win0_0.index t = ![0, 0] ∧ win0_1.index t = ![0, 0] ∧ win0_2.index t = ![0, 0] :=
  (by decide +kernel : ∀ t : Fin grid0.N, _)

/-- What the body leaves in the output block at point `t`. -/
theorem block_eq (c : Dev nD) (t : Fin cfg0.N) :
    out0_2 (iblk m c 0 t) (iblk m c 1 t)
      = k0_pay1 (iblk m c 0 t) (iblk m c 1 t) := by
  frame_out

/-- One stored element: the reference's term at the array index it sits at. -/
theorem point (c : Dev nD) (t : Fin cfg0.N) (y) :
    k0_pay1 (iblk m c 0 t) (iblk m c 1 t) y
      = result (m ((c : Thread nD τ).loc main_arg0)) (m ((c : Thread nD τ).loc main_arg1)) (((cfg0.win 2).blk t).view.emb y) := by
  pointwise [k0_pay1, result]
  blk_point [iblk, V, idx t]

/-- The result array after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2, block_eq]
  exact point m c t y

end Cert.KvIdeal.Whole

namespace Cert.OutBandIdeal.Whole

open Cert.OutBandIdeal Cert.OutBandIdeal.Gen

variable (m : (ℓ : Loc nD τ sig) → Buf (Elt Ideal) ℓ)

/-- The reference's composed term: `x + o @ w`. -/
abbrev result (x : FVec Ideal S10240x2048 .f32) (o : FVec Ideal S10240x2048 .bf16) (w : FVec Ideal S2048x2048 .f32) : FVec Ideal S10240x2048 .f32 :=
  addf x (Host.dotGeneral (F := Ideal) (φ₁ := .f32) (φ₂ := .f32) Cert.OutBandRefIdeal.dot_S10240x2048_S2048x2048_S10240x2048_1_0_0_1_n_n none
    (extf .f32 o Cert.OutBandRefIdeal.Gen.bitsLt_bf16_f32) w)

/-- The block each window is on at point `t`: row tile `t / 4`, column tile `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What the body leaves in the output block at point `t`. -/
theorem block_eq (c : Dev nD) (t : Fin cfg0.N) :
    out0_3 (iblk m c 0 t) (iblk m c 1 t) (iblk m c 2 t)
      = k0_pay1 (iblk m c 0 t) (iblk m c 1 t) (iblk m c 2 t) := by
  frame_out

/-- One stored element: the reference's term at the array index it sits at. -/
theorem point (c : Dev nD) (t : Fin cfg0.N) (y) :
    k0_pay1 (iblk m c 0 t) (iblk m c 1 t) (iblk m c 2 t) y
      = result (m ((c : Thread nD τ).loc main_arg0)) (m ((c : Thread nD τ).loc main_arg1)) (m ((c : Thread nD τ).loc main_arg2)) (((cfg0.win 3).blk t).view.emb y) := by
  pointwise [k0_pay1, result]
  blk_point [iblk, V, idx t]

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.OutBandIdeal.Whole

namespace Cert.XoIdeal.Whole

open Cert.XoIdeal Cert.XoIdeal.Gen

variable (m : (ℓ : Loc nD τ sig) → Buf (Elt Ideal) ℓ)

/-- The reference's composed term: `x + o @ w`. -/
abbrev result (x : FVec Ideal S10240x2048 .f32) (o : FVec Ideal S10240x512 .bf16) (w : FVec Ideal S512x2048 .f32) : FVec Ideal S10240x2048 .f32 :=
  addf x (Host.dotGeneral (F := Ideal) (φ₁ := .f32) (φ₂ := .f32) Cert.XoRefIdeal.dot_S10240x512_S512x2048_S10240x2048_1_0_0_1_n_n none
    (extf .f32 o Cert.XoRefIdeal.Gen.bitsLt_bf16_f32) w)

/-- The block each window is on at point `t`: row tile `t / 4`, column tile `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What the body leaves in the output block at point `t`. -/
theorem block_eq (c : Dev nD) (t : Fin cfg0.N) :
    out0_3 (iblk m c 0 t) (iblk m c 1 t) (iblk m c 2 t)
      = k0_pay1 (iblk m c 0 t) (iblk m c 1 t) (iblk m c 2 t) := by
  frame_out

/-- One stored element: the reference's term at the array index it sits at. -/
theorem point (c : Dev nD) (t : Fin cfg0.N) (y) :
    k0_pay1 (iblk m c 0 t) (iblk m c 1 t) (iblk m c 2 t) y
      = result (m ((c : Thread nD τ).loc main_arg0)) (m ((c : Thread nD τ).loc main_arg1)) (m ((c : Thread nD τ).loc main_arg2)) (((cfg0.win 3).blk t).view.emb y) := by
  pointwise [k0_pay1, result]
  blk_point [iblk, V, idx t]

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.XoIdeal.Whole

namespace Cert.FfnDownIdeal.Whole

open Cert.FfnDownIdeal Cert.FfnDownIdeal.Gen

variable (m : (ℓ : Loc nD τ sig) → Buf (Elt Ideal) ℓ)

/-- The reference's composed term: `x + o @ w`. -/
abbrev result (x : FVec Ideal S10240x2048 .f32) (o : FVec Ideal S10240x5632 .bf16) (w : FVec Ideal S5632x2048 .f32) : FVec Ideal S10240x2048 .f32 :=
  addf x (Host.dotGeneral (F := Ideal) (φ₁ := .f32) (φ₂ := .f32) Cert.FfnDownRefIdeal.dot_S10240x5632_S5632x2048_S10240x2048_1_0_0_1_n_n none
    (extf .f32 o Cert.FfnDownRefIdeal.Gen.bitsLt_bf16_f32) w)

/-- The block each window is on at point `t`: row tile `t / 4`, column tile `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What the body leaves in the output block at point `t`. -/
theorem block_eq (c : Dev nD) (t : Fin cfg0.N) :
    out0_3 (iblk m c 0 t) (iblk m c 1 t) (iblk m c 2 t)
      = k0_pay1 (iblk m c 0 t) (iblk m c 1 t) (iblk m c 2 t) := by
  frame_out

/-- One stored element: the reference's term at the array index it sits at. -/
theorem point (c : Dev nD) (t : Fin cfg0.N) (y) :
    k0_pay1 (iblk m c 0 t) (iblk m c 1 t) (iblk m c 2 t) y
      = result (m ((c : Thread nD τ).loc main_arg0)) (m ((c : Thread nD τ).loc main_arg1)) (m ((c : Thread nD τ).loc main_arg2)) (((cfg0.win 3).blk t).view.emb y) := by
  pointwise [k0_pay1, result]
  blk_point [iblk, V, idx t]

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_eq]
  exact point m c t y

end Cert.FfnDownIdeal.Whole

namespace Cert.OutAbIdeal.Whole

open Cert.OutAbIdeal Cert.OutAbIdeal.Gen

variable (m : (ℓ : Loc nD τ sig) → Buf (Elt Ideal) ℓ)

/-- The reference's composed term: `x + [o_sb, o_r] @ w`. -/
abbrev result (x : FVec Ideal S10240x2048 .f32) (o o' : FVec Ideal S10240x1024 .bf16) (w : FVec Ideal S2048x2048 .f32) : FVec Ideal S10240x2048 .f32 :=
  addf x (Host.dotGeneral (F := Ideal) (φ₁ := .f32) (φ₂ := .f32) Cert.OutAbRefIdeal.dot_S10240x2048_S2048x2048_S10240x2048_1_0_0_1_n_n none
    (extf .f32 (concatenate Cert.OutAbRefIdeal.S10240x2048 1 [⟨Cert.OutAbRefIdeal.S10240x1024, o⟩, ⟨Cert.OutAbRefIdeal.S10240x1024, o'⟩] Cert.OutAbRefIdeal.Gen.concatenates_S10240x1024_S10240x1024_S10240x2048_d1)
      Cert.OutAbRefIdeal.Gen.bitsLt_bf16_f32) w)

/-- The block each window is on at point `t`: row tile `t / 4`, column tile `t % 4`; the two weight windows are on the upper and the lower half. -/
theorem idx : ∀ t : Fin cfg0.N, win0_0.index t = ![t.val / 4, 0] ∧ win0_1.index t = ![t.val / 4, 0]
    ∧ win0_2.index t = ![0, t.val % 4] ∧ win0_3.index t = ![1, t.val % 4]
    ∧ win0_4.index t = ![t.val / 4, t.val % 4] ∧ win0_5.index t = ![t.val / 4, t.val % 4] :=
  (by decide +kernel : ∀ t : Fin grid0.N, _)

/-- What the body leaves in the output block at point `t`. -/
theorem block_eq (c : Dev nD) (t : Fin cfg0.N) :
    out0_5 (iblk m c 0 t) (iblk m c 1 t) (iblk m c 2 t) (iblk m c 3 t) (iblk m c 4 t)
      = k0_pay1 (iblk m c 0 t) (iblk m c 2 t) (iblk m c 1 t) (iblk m c 3 t) (iblk m c 4 t) := by
  frame_out

/-- One stored element: the reference's term at the array index it sits at. -/
theorem point (c : Dev nD) (t : Fin cfg0.N) (y) :
    k0_pay1 (iblk m c 0 t) (iblk m c 2 t) (iblk m c 1 t) (iblk m c 3 t) (iblk m c 4 t) y
      = result (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, result]
  blk_point [iblk, V, idx t]

/-- The result array after the run. -/
theorem final (c : Dev nD) : (dats m 0 c).arrAt 5 (cfgs 0).N = result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, block_eq]
  exact point m c t y

end Cert.OutAbIdeal.Whole
-- ==== Proof.BsFrame.lean ====
/-
  The band attention of the sample group: the body.

  The body stores each head's new keys and values into every sixteenth row of the cache block, so the
  blocks it leaves are read off pieces with strides.  `bodyRun` is the body's triple with the pieces each
  output ends with; `BsBlocks.lean` lists them and says what they leave, and `BsLaunch.lean` is the whole run.
-/
module

public import proofs.«01_k».proof.Defs
public import proofs.«01_k».proof.Proof.Gen.Bs
public import proofs.«01_k».proof.Proof.Gen.Bs.Launch
public import proofs.«01_k».proof.Proof.Gen.Bs.Skeleton
public import proofs.«01_k».proof.Proof.Gen.Bs.Points
public import Idealize.ShloMosaic.Lib.Pipeline.Kit
public import Idealize.ShloMosaic.Lib.Pipeline.Frame
public import Idealize.ShloMosaic.Lib.Pipeline.FrameBody
public import Idealize.ShloMosaic.Lib.Pipeline.Quiescent
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Lib.Claim
public import Idealize.ShloMosaic.Adequacy
public import Idealize.ShloMosaic.Init

@[expose] public section

set_option maxRecDepth 16384
set_option Elab.async false

noncomputable section

namespace Cert.Bs.Cached

open Cert.Bs Cert.Bs.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

set_option maxHeartbeats 2000000 in
/-- The body on whole buffers, the inputs' at given contents and the outputs' at any: it ends with the inputs
    as they were and each output's pieces written, last first. -/
noncomputable def bodyRun (c : Dev nD) (i : grid0.Coords) (arg1 : Memref sig .tc .vmem S64x2048 .f32) (harg1 : arg1.IsWhole)
    (arg2 : Memref sig .tc .vmem S64x2048 .f32) (harg2 : arg2.IsWhole) (arg3 : Memref sig .tc .vmem S64x2048 .f32) (harg3 : arg3.IsWhole)
    (arg4 : Memref sig .tc .vmem S1x8192x128 .f32) (harg4 : arg4.IsWhole) (arg5 : Memref sig .tc .vmem S1x8192x128 .f32) (harg5 : arg5.IsWhole)
    (arg6 : Memref sig .tc .vmem S16x64x576 .f32) (harg6 : arg6.IsWhole) (arg8 : Memref sig .tc .vmem S64x2048 .bf16) (harg8 : arg8.IsWhole)
    (arg9 : Memref sig .tc .vmem S1x8192x128 .f32) (harg9 : arg9.IsWhole) (arg10 : Memref sig .tc .vmem S1x8192x128 .f32) (harg10 : arg10.IsWhole)
    (x0 x1 x2 : Vec F S64x2048 .f32) (x3 x4 : Vec F S1x8192x128 .f32) (x5 : Vec F S16x64x576 .f32) :
    Σ' (L6 : List (View.Piece (Elt F) S64x2048 .bf16)), Σ' (L7 : List (View.Piece (Elt F) S1x8192x128 .f32)), { L8 : List (View.Piece (Elt F) S1x8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)) -∗ K ⟨⟩))
          ⊢ wp frame (wpE (defs₀ (F := F)) Variants.none c none) E
              (cc0_band_sample i arg1 harg1 arg2 harg2 arg3 harg3 arg4 harg4 arg5 harg5 arg6 harg6 (Memref.whole main_arg4) (Memref.isWhole_whole _)
                arg8 harg8 arg9 harg9 arg10 harg10) K } := by
  refine ⟨?_, ?_, ?_, fun E K => ?run⟩
  case run =>
    simp only [cc0_band_sample_eq_skeleton]; unfold cc0_band_sample_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Bs.Cached

end
-- ==== Proof.BsBlocks.lean ====
/-
  The band attention of the sample group: what the body leaves in its three output blocks.

  The pieces `bodyRun` finds are, head by head, 128 columns of the output block and every sixteenth row of
  the last 1024 rows of the two cache blocks; the first 7168 rows are the old cache moved up by 1024.
-/
module

public import proofs.«01_k».proof.Proof.BsFrame
public import Idealize.ShloMosaic.Lib.Pointwise

@[expose] public section

set_option maxRecDepth 16384
set_option Elab.async false

noncomputable section

namespace Cert.Bs.Cached

open Cert.Bs Cert.Bs.Gen
open Idealize.ShloMosaic Idealize.ShloMosaic.TcCoe Idealize.ShloMosaic.Tactic

variable {F : FTy → Type} [FloatOps F]

/-! ## One head -/

/-- One head's outputs from its queries, keys, values, its cached keys and values and the bias over each. -/
def head (q k v : Vec F S64x128 .f32) (kc vc : Vec F S1x512x128 .f32) (bc : Vec F S1x64x512 .f32) (bn : Vec F S1x64x64 .f32) : FVec F S64x128 .bf16 :=
  k0_pay139 (k0_pay136 q) k v (k0_pay137 vc) (k0_pay138 q kc) bc bn

theorem inb_cols (h : Fin 16) : ∀ a, (![0, 128 * h.val] : Fin 2 → Nat) a + S64x128.size a ≤ S64x2048.size a :=
  fun | 0 => Nat.le_refl _ | 1 => by show 128 * h.val + 128 ≤ 2048; omega

theorem inb_rows : ∀ (h : Fin 16) (a), S1x512x128.size a = 0 ∨ (![0, h.val, 0] : Fin 3 → Nat) a + (![1, 16, 1] : Fin 3 → Nat) a * (S1x512x128.size a - 1) < S1x8192x128.size a := by
  decide

theorem inb_new : ∀ (h : Fin 16) (a), S1x64x128.size a = 0 ∨ (![0, 7168 + h.val, 0] : Fin 3 → Nat) a + (![1, 16, 1] : Fin 3 → Nat) a * (S1x64x128.size a - 1) < S1x8192x128.size a := by
  decide

theorem inb_old : ∀ (h : Fin 16) (a), (![h.val, 0, 0] : Fin 3 → Nat) a + S1x64x512.size a ≤ S16x64x576.size a := by
  decide

theorem inb_own : ∀ (h : Fin 16) (a), (![h.val, 0, 512] : Fin 3 → Nat) a + S1x64x64.size a ≤ S16x64x576.size a := by
  decide

/-- A head's columns. -/
abbrev colsR (h : Fin 16) : Rect S64x2048 := Rect.unit (s := S64x2048) ![0, 128 * h.val] S64x128.size (inb_cols h)
/-- A head's rows of a cache. -/
abbrev rowsR (h : Fin 16) : LoadRect S1x8192x128 := ⟨![0, h.val, 0], S1x512x128.size, ![1, 16, 1], inb_rows h⟩
/-- A head's rows of a cache that its new keys or values go to. -/
abbrev newR (h : Fin 16) : Rect S1x8192x128 := ⟨(⟨![0, 7168 + h.val, 0], S1x64x128.size, ![1, 16, 1], inb_new h⟩ : LoadRect S1x8192x128), spos_1_16_1⟩
/-- A head's bias over the cache. -/
abbrev oldR (h : Fin 16) : Rect S16x64x576 := Rect.unit (s := S16x64x576) ![h.val, 0, 0] S1x64x512.size (inb_old h)
/-- A head's bias over the new keys. -/
abbrev ownR (h : Fin 16) : Rect S16x64x576 := Rect.unit (s := S16x64x576) ![h.val, 0, 512] S1x64x64.size (inb_own h)
/-- The rows of a cache that the kept rows go to. -/
abbrev keptR : Rect S1x8192x128 := Rect.unit (s := S1x8192x128) ![0, 0, 0] S1x7168x128.size inb_S1x8192x128_S1x7168x128_0_0_0
/-- The rows of a cache that are kept. -/
abbrev fromR : Rect S1x8192x128 := Rect.unit (s := S1x8192x128) ![0, 1024, 0] S1x7168x128.size inb_S1x8192x128_S1x7168x128_0_1024_0

section pieces
variable (c : Dev nD) (i : grid0.Coords) (arg1 : Memref sig .tc .vmem S64x2048 .f32) (harg1 : arg1.IsWhole)
    (arg2 : Memref sig .tc .vmem S64x2048 .f32) (harg2 : arg2.IsWhole) (arg3 : Memref sig .tc .vmem S64x2048 .f32) (harg3 : arg3.IsWhole)
    (arg4 : Memref sig .tc .vmem S1x8192x128 .f32) (harg4 : arg4.IsWhole) (arg5 : Memref sig .tc .vmem S1x8192x128 .f32) (harg5 : arg5.IsWhole)
    (arg6 : Memref sig .tc .vmem S16x64x576 .f32) (harg6 : arg6.IsWhole) (arg8 : Memref sig .tc .vmem S64x2048 .bf16) (harg8 : arg8.IsWhole)
    (arg9 : Memref sig .tc .vmem S1x8192x128 .f32) (harg9 : arg9.IsWhole) (arg10 : Memref sig .tc .vmem S1x8192x128 .f32) (harg10 : arg10.IsWhole)
    (x0 x1 x2 : Vec F S64x2048 .f32) (x3 x4 : Vec F S1x8192x128 .f32) (x5 : Vec F S16x64x576 .f32)

/-- The new keys or values' pieces. -/
def newPieces (M : Memref sig .tc .vmem S64x2048 .f32) (hM : M.IsWhole) (x : Vec F S64x2048 .f32) : List (View.Piece (Elt F) S1x8192x128 .f32) :=
  (List.finRange 16).reverse.map fun h => ⟨newR h, k0_pay140 (M.view.readAt (Elt F) (colsR h).toLoadRect (hM.unread x))⟩

set_option maxHeartbeats 4000000 in
theorem pieces_k : (bodyRun (F := F) c i arg1 harg1 arg2 harg2 arg3 harg3 arg4 harg4 arg5 harg5 arg6 harg6 arg8 harg8 arg9 harg9 arg10 harg10 x0 x1 x2 x3 x4 x5).2.1
    = ⟨keptR, k0_pay2 (arg4.view.readAt (Elt F) fromR.toLoadRect (harg4.unread x3))⟩ :: newPieces arg2 harg2 x1 := by
  rfl

set_option maxHeartbeats 4000000 in
theorem pieces_v : (bodyRun (F := F) c i arg1 harg1 arg2 harg2 arg3 harg3 arg4 harg4 arg5 harg5 arg6 harg6 arg8 harg8 arg9 harg9 arg10 harg10 x0 x1 x2 x3 x4 x5).2.2.1
    = ⟨keptR, k0_pay2 (arg5.view.readAt (Elt F) fromR.toLoadRect (harg5.unread x4))⟩ :: newPieces arg3 harg3 x2 := by
  rfl

set_option maxHeartbeats 4000000 in
theorem pieces_out : (bodyRun (F := F) c i arg1 harg1 arg2 harg2 arg3 harg3 arg4 harg4 arg5 harg5 arg6 harg6 arg8 harg8 arg9 harg9 arg10 harg10 x0 x1 x2 x3 x4 x5).1
    = (List.finRange 16).reverse.map fun h => ⟨colsR h, head (arg1.view.readAt (Elt F) (colsR h).toLoadRect (harg1.unread x0))
        (arg2.view.readAt (Elt F) (colsR h).toLoadRect (harg2.unread x1)) (arg3.view.readAt (Elt F) (colsR h).toLoadRect (harg3.unread x2))
        (arg4.view.readAt (Elt F) (rowsR h) (harg4.unread x3)) (arg5.view.readAt (Elt F) (rowsR h) (harg5.unread x4))
        (arg6.view.readAt (Elt F) (oldR h).toLoadRect (harg6.unread x5)) (arg6.view.readAt (Elt F) (ownR h).toLoadRect (harg6.unread x5))⟩ := by
  rfl

/-! ## The blocks -/

/-- A head's columns of a block of rows. -/
def cols (x : Vec F S64x2048 .f32) (h : Fin 16) : Vec F S64x128 .f32 := fun z => x (ix2 (z 0) (⟨128 * h.val + (z 1).val, by have := (z 1).isLt; have : (z 1).val < 128 := this; omega⟩ : Fin 2048))
/-- A head's rows of a cache block. -/
def rows (x : Vec F S1x8192x128 .f32) (h : Fin 16) : Vec F S1x512x128 .f32 := fun z => x (ix3 (0 : Fin 1) (⟨16 * (z 1).val + h.val, by have : (z 1).val < 512 := (z 1).isLt; omega⟩ : Fin 8192) (z 2))
/-- A head's bias over the cache. -/
def old (x : Vec F S16x64x576 .f32) (h : Fin 16) : Vec F S1x64x512 .f32 := fun z => x (ix3 h (z 1) (⟨(z 2).val, by have : (z 2).val < 512 := (z 2).isLt; omega⟩ : Fin 576))
/-- A head's bias over the new keys. -/
def own (x : Vec F S16x64x576 .f32) (h : Fin 16) : Vec F S1x64x64 .f32 := fun z => x (ix3 h (z 1) (⟨512 + (z 2).val, by have : (z 2).val < 64 := (z 2).isLt; omega⟩ : Fin 576))

/-- The output block: a head's outputs in its 128 columns. -/
def outBlk : Vec F S64x2048 .bf16 := fun y =>
  head (cols x0 ⟨(y 1).val / 128, by have : (y 1).val < 2048 := (y 1).isLt; omega⟩) (cols x1 ⟨(y 1).val / 128, by have : (y 1).val < 2048 := (y 1).isLt; omega⟩)
    (cols x2 ⟨(y 1).val / 128, by have : (y 1).val < 2048 := (y 1).isLt; omega⟩) (rows x3 ⟨(y 1).val / 128, by have : (y 1).val < 2048 := (y 1).isLt; omega⟩)
    (rows x4 ⟨(y 1).val / 128, by have : (y 1).val < 2048 := (y 1).isLt; omega⟩) (old x5 ⟨(y 1).val / 128, by have : (y 1).val < 2048 := (y 1).isLt; omega⟩)
    (own x5 ⟨(y 1).val / 128, by have : (y 1).val < 2048 := (y 1).isLt; omega⟩) (ix2 (y 0) (⟨(y 1).val % 128, Nat.mod_lt _ (by decide)⟩ : Fin 128))

/-- A cache block: the old one's rows from the 1024th on, then the new rows, each head's 128 columns in turn. -/
def keptBlk (x : Vec F S1x8192x128 .f32) (n : Vec F S64x2048 .f32) : Vec F S1x8192x128 .f32 := fun y =>
  if h : (y 1).val < 7168 then x (ix3 (0 : Fin 1) (⟨(y 1).val + 1024, by omega⟩ : Fin 8192) (y 2))
  else n (ix2 (⟨((y 1).val - 7168) / 16, by have : (y 1).val < 8192 := (y 1).isLt; omega⟩ : Fin 64)
    (⟨((y 1).val - 7168) % 16 * 128 + (y 2).val, by have : (y 2).val < 128 := (y 2).isLt; omega⟩ : Fin 2048))

theorem outBlk_at (y : S64x2048.Idx) (h : Fin 16) (x : S64x128.Idx) (h0 : (y 0).val = (x 0).val) (h1 : (y 1).val = 128 * h.val + (x 1).val) :
    outBlk x0 x1 x2 x3 x4 x5 y = head (cols x0 h) (cols x1 h) (cols x2 h) (rows x3 h) (rows x4 h) (old x5 h) (own x5 h) x := by
  have hx : (x 1).val < 128 := (x 1).isLt
  unfold outBlk
  have e : ∀ p, (⟨(y 1).val / 128, p⟩ : Fin 16) = h := fun p => Fin.ext (by show (y 1).val / 128 = h.val; omega)
  rw [e]
  congr 1
  funext a
  match a with
  | 0 => exact Fin.ext h0
  | 1 => exact Fin.ext (by show (y 1).val % 128 = (x 1).val; omega)

/-! ## What the loads read -/

theorem read_cols (h : Fin 16) : arg1.view.readAt (Elt F) (colsR h).toLoadRect (harg1.unread x0) = cols x0 h := by
  funext z
  rw [View.readAt_apply, harg1.read_unread]
  unfold cols
  congr 1
  funext a
  match a with
  | 0 => exact Fin.ext (by show 0 + 1 * (z 0).val = (z 0).val; omega)
  | 1 => exact Fin.ext (by show 128 * h.val + 1 * (z 1).val = 128 * h.val + (z 1).val; omega)

theorem read_rows (h : Fin 16) : arg4.view.readAt (Elt F) (rowsR h) (harg4.unread x3) = rows x3 h := by
  funext z
  rw [View.readAt_apply, harg4.read_unread]
  unfold rows
  congr 1
  have hz : (z 0).val < 1 := (z 0).isLt
  funext a
  match a with
  | 0 => exact Fin.ext (by show 0 + 1 * (z 0).val = 0; omega)
  | 1 => exact Fin.ext (by show h.val + 16 * (z 1).val = 16 * (z 1).val + h.val; omega)
  | 2 => exact Fin.ext (by show 0 + 1 * (z 2).val = (z 2).val; omega)

theorem read_old (h : Fin 16) : arg6.view.readAt (Elt F) (oldR h).toLoadRect (harg6.unread x5) = old x5 h := by
  funext z
  rw [View.readAt_apply, harg6.read_unread]
  unfold old
  congr 1
  have hz : (z 0).val < 1 := (z 0).isLt
  funext a
  match a with
  | 0 => exact Fin.ext (by show h.val + 1 * (z 0).val = h.val; omega)
  | 1 => exact Fin.ext (by show 0 + 1 * (z 1).val = (z 1).val; omega)
  | 2 => exact Fin.ext (by show 0 + 1 * (z 2).val = (z 2).val; omega)

theorem read_own (h : Fin 16) : arg6.view.readAt (Elt F) (ownR h).toLoadRect (harg6.unread x5) = own x5 h := by
  funext z
  rw [View.readAt_apply, harg6.read_unread]
  unfold own
  congr 1
  have hz : (z 0).val < 1 := (z 0).isLt
  funext a
  match a with
  | 0 => exact Fin.ext (by show h.val + 1 * (z 0).val = h.val; omega)
  | 1 => exact Fin.ext (by show 0 + 1 * (z 1).val = (z 1).val; omega)
  | 2 => exact Fin.ext (by show 512 + 1 * (z 2).val = 512 + (z 2).val; omega)

/-! ## What the stores leave -/

theorem out_eq (f : arg8.view.ty.Contents (Elt F)) :
    arg8.view.read (Elt F) (arg8.view.writes (Elt F) f (bodyRun (F := F) c i arg1 harg1 arg2 harg2 arg3 harg3 arg4 harg4 arg5 harg5 arg6 harg6 arg8 harg8 arg9 harg9 arg10 harg10 x0 x1 x2 x3 x4 x5).1)
      = outBlk x0 x1 x2 x3 x4 x5 := by
  rw [pieces_out]
  funext y
  refine View.read_writes_apply_of_pieces (v := arg8.view) (f := f) (outBlk x0 x1 x2 x3 x4 x5) _ ?_ y ?_
  · intro p hp x
    obtain ⟨h, -, rfl⟩ := List.mem_map.mp hp
    rw [outBlk_at x0 x1 x2 x3 x4 x5 ((colsR h).emb x) h x (by show 0 + 1 * (x 0).val = (x 0).val; omega) (by show 128 * h.val + 1 * (x 1).val = 128 * h.val + (x 1).val; omega)]
    dsimp only
    rw [read_cols arg1 harg1 x0 h, read_cols arg2 harg2 x1 h, read_cols arg3 harg3 x2 h, read_rows arg4 harg4 x3 h, read_rows arg5 harg5 x4 h,
      read_old arg6 harg6 x5 h, read_own arg6 harg6 x5 h]
  · have h1 : (y 1).val < 2048 := (y 1).isLt
    refine ⟨_, List.mem_map.mpr ⟨⟨(y 1).val / 128, by omega⟩, List.mem_reverse.mpr (List.mem_finRange _), rfl⟩, ?_⟩
    refine (LoadRect.mem_set _).mpr fun a => ?_
    match a with
    | 0 => exact ⟨(y 0).val, (y 0).isLt, by show (y 0).val = 0 + 1 * (y 0).val; omega⟩
    | 1 => exact ⟨(y 1).val % 128, Nat.mod_lt _ (by decide), by show (y 1).val = 128 * ((y 1).val / 128) + 1 * ((y 1).val % 128); omega⟩

theorem pay2_eq (v : Vec F S1x7168x128 .f32) : k0_pay2 v = v := shapeCast_shapeCast v _ _

theorem kept_eq (M : Memref sig .tc .vmem S1x8192x128 .f32) (f : M.view.ty.Contents (Elt F)) :
    M.view.read (Elt F) (M.view.writes (Elt F) f (⟨keptR, k0_pay2 (arg4.view.readAt (Elt F) fromR.toLoadRect (harg4.unread x3))⟩ :: newPieces arg2 harg2 x1))
      = keptBlk x3 x1 := by
  funext y
  refine View.read_writes_apply_of_pieces (v := M.view) (f := f) (keptBlk x3 x1) _ ?_ y ?_
  · intro p hp x
    rcases List.mem_cons.mp hp with rfl | hp
    · have hx : (x 1).val < 7168 := (x 1).isLt
      have hx0 : (x 0).val < 1 := (x 0).isLt
      unfold keptBlk
      rw [dif_pos (by show 0 + 1 * (x 1).val < 7168; omega)]
      dsimp only
      refine (congrFun (pay2_eq _) x).trans ?_
      rw [View.readAt_apply, harg4.read_unread]
      congr 1
      funext a
      match a with
      | 0 => exact Fin.ext (by show 0 + 1 * (x 0).val = 0; omega)
      | 1 => exact Fin.ext (by show 1024 + 1 * (x 1).val = 0 + 1 * (x 1).val + 1024; omega)
      | 2 => exact Fin.ext (by show 0 + 1 * (x 2).val = 0 + 1 * (x 2).val; omega)
    · obtain ⟨h, -, rfl⟩ := List.mem_map.mp hp
      have hx : (x 1).val < 64 := (x 1).isLt
      have hx0 : (x 0).val < 1 := (x 0).isLt
      have hx2 : (x 2).val < 128 := (x 2).isLt
      unfold keptBlk
      rw [dif_neg (by show ¬ (7168 + h.val + 16 * (x 1).val < 7168); omega)]
      dsimp only
      rw [read_cols arg2 harg2 x1 h]
      have e : x = ix3 (0 : Fin 1) (x 1) (x 2) := by
        funext a
        match a with
        | 0 => exact Fin.ext (by show (x 0).val = 0; omega)
        | 1 => rfl
        | 2 => rfl
      have e' : k0_pay140 (cols x1 h) x = cols x1 h (ix2 (x 1) (x 2)) := by
        conv_lhs => rw [e]
        pointwise [k0_pay140]
      rw [e']
      unfold cols
      congr 1
      funext a
      match a with
      | 0 => exact Fin.ext (by show (x 1).val = (7168 + h.val + 16 * (x 1).val - 7168) / 16; omega)
      | 1 => exact Fin.ext (by show 128 * h.val + (x 2).val = (7168 + h.val + 16 * (x 1).val - 7168) % 16 * 128 + (0 + 1 * (x 2).val); omega)
  · have h1 : (y 1).val < 8192 := (y 1).isLt
    by_cases hy : (y 1).val < 7168
    · refine ⟨_, List.mem_cons_self, (LoadRect.mem_set _).mpr fun a => ?_⟩
      match a with
      | 0 => exact ⟨(y 0).val, (y 0).isLt, by show (y 0).val = 0 + 1 * (y 0).val; omega⟩
      | 1 => exact ⟨(y 1).val, hy, by show (y 1).val = 0 + 1 * (y 1).val; omega⟩
      | 2 => exact ⟨(y 2).val, (y 2).isLt, by show (y 2).val = 0 + 1 * (y 2).val; omega⟩
    · refine ⟨_, List.mem_cons_of_mem _ (List.mem_map.mpr ⟨⟨((y 1).val - 7168) % 16, by omega⟩, List.mem_reverse.mpr (List.mem_finRange _), rfl⟩), (LoadRect.mem_set _).mpr fun a => ?_⟩
      match a with
      | 0 => exact ⟨(y 0).val, (y 0).isLt, by show (y 0).val = 0 + 1 * (y 0).val; omega⟩
      | 1 => exact ⟨((y 1).val - 7168) / 16, by show _ < 64; omega, by show (y 1).val = 7168 + ((y 1).val - 7168) % 16 + 16 * (((y 1).val - 7168) / 16); omega⟩
      | 2 => exact ⟨(y 2).val, (y 2).isLt, by show (y 2).val = 0 + 1 * (y 2).val; omega⟩

end pieces

end Cert.Bs.Cached

end
-- ==== Proof.BsLaunch.lean ====
/-
  The band attention of the sample group: the whole run.

  Three of the windows read one array, so the run is the library's for shared inputs.  Every run ends, with
  each array as the blocks of `BsBlocks.lean` leave it, the arguments unchanged and the semaphores at zero.
-/
module

public import proofs.«01_k».proof.Proof.BsBlocks

@[expose] public section

set_option maxRecDepth 16384
set_option Elab.async false

noncomputable section

namespace Cert.Bs.Cached

open Cert.Bs Cert.Bs.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- The arrays after the host's reshapes and copy. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- The host writes none but its own results. -/
theorem V_of_ne (c : Dev nD) (b : Ref sig .tc) (h0 : b ≠ main_v0) (h1 : b ≠ main_v1) (h2 : b ≠ main_v2_0) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body at a point -/

/-- What each window holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
    | ⟨7, _⟩ => keptBlk (iblk m c 3 t) (iblk m c 1 t)
    | ⟨8, _⟩ => keptBlk (iblk m c 4 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]
theorem after7 (c : Dev nD) (t : Fin cfg0.N) : (dats m 0 c).after 7 t = keptBlk (iblk m c 3 t) (iblk m c 1 t) := by dsimp only [dats]
theorem after8 (c : Dev nD) (t : Fin cfg0.N) : (dats m 0 c).after 8 t = keptBlk (iblk m c 4 t) (iblk m c 2 t) := by dsimp only [dats]

/-- An input's buffer holds its block before the body. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
      ∧ (∀ d, (dats m 0 c).before 3 t d = iblk m c 3 t) ∧ (∀ d, (dats m 0 c).before 4 t d = iblk m c 4 t) ∧ (∀ d, (dats m 0 c).before 5 t d = iblk m c 5 t) := by
  refine ⟨?_, ?_, ?_, ?_, ?_, ?_⟩ <;> intro d <;>
    exact ((dats m 0 c).before_in_eq_fetched _ rfl (fun _ => rfl) (fun _ _ _ => rfl) (fun t => by dsimp only [dats]; unfold Dat.blockOf iblk; rfl) t d).trans
      (by unfold Dat.fetched Dat.blockOf iblk; rw [A_eq]; try rfl)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at a point, by `bodyRun` and what its pieces leave. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := before_in m c t
  unfold bodyPre bodyPost bodyAt0
  simp only [b0, b1, b2, b3, b4, b5]
  rw [show (dats m 0 c).Φ t.succ = (dats m 0 c).Φ t.castSucc from rfl,
    show (dats m 0 c).owesAt () t.succ = (dats m 0 c).owesAt () t.castSucc from rfl, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ (hstage0_6 ((cfg0.slots t 6).cast nbuf0_6)) _ (hstage0_7 ((cfg0.slots t 7).cast nbuf0_7)) _ (hstage0_8 ((cfg0.slots t 8).cast nbuf0_8))
    (iblk m c 0 t) (iblk m c 1 t) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out_eq c (grid0.coords t) _ _ _ _ _ _ _ _ _ _ _ _ _ _ _ _ _ _ _ _ _ _ _ _ _
  isplitl [H7]
  · unfold owns; iexists _; isplitr
    swap; · iexact H7
    ipureintro; rw [pieces_k]; exact kept_eq _ _ _ _ _ _ _ _
  unfold owns; iexists _; isplitr
  swap; · iexact H8
  ipureintro; rw [pieces_v]; exact kept_eq _ _ _ _ _ _ _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with each array as its blocks leave it and the semaphores at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments after the run. -/
theorem args_unchanged (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have rest (b : Ref sig .tc) (hb : r.2.mem ((c.tc : Thread nD τ).loc b) = V m c b) (h0 : b ≠ main_v0) (h1 : b ≠ main_v1) (h2 : b ≠ main_v2_0) :
      r.2.mem ((c.tc : Thread nD τ).loc b) = m ((c.tc : Thread nD τ).loc b) := hb.trans (V_of_ne m c b h0 h1 h2)
  ⟨((h c).1 0).trans (((dats m 0 c).arrAt_in 0 rfl _).trans ((A_eq m c 0).trans (V_of_ne m c main_arg0 (by decide) (by decide) (by decide)))),
    rest main_arg1 ((h c).2 main_arg1 (Pipeline.mem_restRefs_of main_arg1 (by decide) (by decide))) (by decide) (by decide) (by decide),
    rest main_arg2 ((h c).2 main_arg2 (Pipeline.mem_restRefs_of main_arg2 (by decide) (by decide))) (by decide) (by decide) (by decide),
    ((h c).1 5).trans (((dats m 0 c).arrAt_in 5 rfl _).trans ((A_eq m c 5).trans (V_of_ne m c main_arg3 (by decide) (by decide) (by decide)))),
    rest main_arg4 ((h c).2 main_arg4 (Pipeline.mem_restRefs_of main_arg4 (by decide) (by decide))) (by decide) (by decide) (by decide)⟩

/-- Every run ends, the arguments unchanged and the semaphores at zero. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r hr => ⟨fun c => args_unchanged m r hr.1 c, hr.2⟩) (run_quiescent m ρ)

end Cert.Bs.Cached

end
-- ==== Proof.BsMath.lean ====
/-
  Softmax over the extended reals, when every score is a real number.

  The reference divides each exponential by their sum before the values are weighed; the kernel weighs first
  and multiplies by one over the sum.  With real scores the sum is a positive real, so the two agree whatever
  the values are.
-/
module

public import Idealize.ShloMosaic.Lib.Pipeline.ValueKit
public import Idealize.ShloMosaic.Lib.Pointwise
public import Idealize.ShloMosaic.Lib.Claim

@[expose] public section

noncomputable section

open Idealize.ShloMosaic

namespace Cert.Bs.Softmax

/-- A number that is neither infinity. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

/-- A sum of reals, as an extended real. -/
theorem coe_sum {ι : Type*} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

theorem Real'.sum {ι : Type*} [Fintype ι] {f : ι → EReal} (h : ∀ i, Real' (f i)) : Real' (∑ i, f i) := by
  choose g hg using h
  refine ⟨∑ i, g i, ?_⟩
  rw [show f = fun i => ((g i : ℝ) : EReal) from funext hg]
  exact (coe_sum _ _).symm

/-- A sum times a nonnegative real is the sum of the products, whatever the terms. -/
theorem sum_mul {ι : Type*} (s : Finset ι) (f : ι → EReal) (r : EReal) (h0 : 0 ≤ r) (ht : r ≠ ⊤) : (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

/-- The maximum of real numbers, at least one, started from `⊥` is a real number. -/
theorem Real'.fold {ι : Type*} [Fintype ι] [Nonempty ι] {f : ι → EReal} (h : ∀ i, Real' (f i)) : Real' (Finset.univ.fold max ⊥ f) := by
  obtain ⟨i⟩ := ‹Nonempty ι›
  have hlt : Finset.univ.fold max ⊥ f < ⊤ := (Finset.fold_max_lt (c := (⊤ : EReal))).mpr ⟨bot_lt_top, fun j _ => by
    obtain ⟨r, hr⟩ := h j; rw [hr]; exact EReal.coe_lt_top r⟩
  have hgt : ⊥ < Finset.univ.fold max ⊥ f := (Finset.lt_fold_max (c := (⊥ : EReal))).mpr (Or.inr ⟨i, Finset.mem_univ i, by
    obtain ⟨r, hr⟩ := h i; rw [hr]; exact EReal.bot_lt_coe r⟩)
  exact ⟨_, (EReal.coe_toReal hlt.ne hgt.ne').symm⟩

/-- The weighted mean of values by softmax weights: dividing each weight is dividing the sum. -/
theorem mean_eq {ι : Type*} [Fintype ι] [Nonempty ι] (S v : ι → EReal) (M : EReal) (hS : ∀ i, Real' (S i)) (hM : Real' M) :
    ∑ i, v i * Ideal.div (Ideal.exp (S i - M)) (∑ j, Ideal.exp (S j - M))
      = (∑ i, Ideal.exp (S i - M) * v i) * Ideal.div 1 (∑ j, Ideal.exp (S j - M)) := by
  obtain ⟨μ, rfl⟩ := hM
  choose g hg using hS
  have e (i : ι) : Ideal.exp (S i - (μ : EReal)) = ((Real.exp (g i - μ) : ℝ) : EReal) := by
    rw [hg i, ← EReal.coe_sub, Ideal.exp_coe]
  have hL : ∑ j, Ideal.exp (S j - (μ : EReal)) = ((∑ j, Real.exp (g j - μ) : ℝ) : EReal) := by
    rw [coe_sum]
    exact Finset.sum_congr rfl fun j _ => e j
  have hpos : 0 < ∑ j, Real.exp (g j - μ) := Finset.sum_pos (fun j _ => Real.exp_pos _) Finset.univ_nonempty
  rw [hL, Ideal.div_coe hpos.ne', one_mul, sum_mul _ _ _ (EReal.coe_nonneg.mpr (one_div_pos.mpr hpos).le) (EReal.coe_ne_top _)]
  refine Finset.sum_congr rfl fun i _ => ?_
  rw [Ideal.div_coe hpos.ne', mul_comm (Ideal.exp _) (v i), mul_assoc]

/-- The maximum over 576 keys is that over the first 512 and the last 64. -/
theorem fold_split (b : EReal) (f : Fin 576 → EReal) :
    Finset.univ.fold max b f
      = max (Finset.univ.fold max b fun x : Fin 512 => f ⟨x, by omega⟩) (Finset.univ.fold max b fun x : Fin 64 => f ⟨512 + x, by omega⟩) := by
  apply le_antisymm
  · refine (Finset.fold_max_le (c := _)).mpr ⟨le_max_of_le_left ((Finset.le_fold_max _).mpr (Or.inl le_rfl)), fun j _ => ?_⟩
    by_cases h : (j : ℕ) < 512
    · exact le_max_of_le_left ((Finset.le_fold_max _).mpr (Or.inr ⟨⟨j, h⟩, Finset.mem_univ _, le_rfl⟩))
    · exact le_max_of_le_right ((Finset.le_fold_max _).mpr (Or.inr ⟨⟨j - 512, by omega⟩, Finset.mem_univ _,
        le_of_eq (congrArg f (Fin.ext (by show (j : ℕ) = 512 + (j - 512); omega)))⟩))
  · refine max_le ?_ ?_ <;>
      exact (Finset.fold_max_le (c := _)).mpr ⟨(Finset.le_fold_max _).mpr (Or.inl le_rfl), fun j _ => (Finset.le_fold_max _).mpr (Or.inr ⟨_, Finset.mem_univ _, le_rfl⟩)⟩

/-- A sum over 576 keys is that over the first 512 and the last 64. -/
theorem sum_split (f : Fin 576 → EReal) :
    ∑ i, f i = (∑ x : Fin 512, f ⟨x, by omega⟩) + ∑ x : Fin 64, f ⟨512 + x, by omega⟩ :=
  Fin.sum_univ_add (a := 512) (b := 64) f

/-- `1/sqrt(128)` as the programs round it is a nonnegative real. -/
theorem scale_real : ∃ r : ℝ, Ideal.ofBits .f32 0x3DB504F3#32 = (r : EReal) ∧ 0 ≤ r := by
  simp [Ideal.ofBits, Ideal.ieee, -EReal.coe_mul]

theorem negInf : Ideal.ofBits .f32 0xFF800000#32 = ⊥ := by simp [Ideal.ofBits, Ideal.ieee]
theorem posInf : Ideal.ofBits .f32 0x7F800000#32 = ⊤ := by simp [Ideal.ofBits, Ideal.ieee]

/-- A conjunction that holds holds of every member. -/
theorem of_fold_and {ι : Type*} [DecidableEq ι] (s : Finset ι) (b : BitVec 1) (f : ι → BitVec 1)
    (h : s.fold IntOp.andi b f = 1#1) : ∀ i ∈ s, f i = 1#1 := by
  have hand : ∀ p q : BitVec 1, IntOp.andi p q = 1#1 → p = 1#1 ∧ q = 1#1 := by decide
  induction s using Finset.induction_on with
  | empty => simp
  | insert a s ha ih =>
    rw [Finset.fold_insert ha] at h
    obtain ⟨h1, h2⟩ := hand _ _ h
    intro i hi
    rcases Finset.mem_insert.mp hi with rfl | hi
    · exact h1
    · exact ih h2 i hi

/-- A number whose magnitude compares below `+∞` is real. -/
theorem real_of_abs_lt (x : EReal) (h : Ideal.cmp .olt (max x (-x)) ⊤ = 1#1) : Real' x := by
  have hlt : max x (-x) < ⊤ := by
    by_contra hn
    simp [Ideal.cmp, hn] at h
  obtain ⟨h1, h2⟩ := max_lt_iff.mp hlt
  refine ⟨x.toReal, (EReal.coe_toReal h1.ne ?_).symm⟩
  rintro rfl
  simp at h2

/-! ## A reduction of an array -/

/-- The maximum over the last of four axes. -/
theorem reduce_max {n0 n1 n2 n3 : ℕ} {t u : Shape} (x : (⟨4, ![n0, n1, n2, n3]⟩ : Shape).Idx → EReal) (b : u.Idx → EReal)
    (h : (⟨4, ![n0, n1, n2, n3]⟩ : Shape).ReducesTo [3] t) (hu : 0 < u.numel) (j : t.Idx) (β : EReal) (hb : ∀ i, b i = β) :
    Host.reduce max x b h hu j = Finset.univ.fold max β (fun k : Fin n3 => x (ix4 ⟨(j ⟨0, h.lt_r4_a3_0⟩).val, Shape.coordLt (j ⟨0, h.lt_r4_a3_0⟩) h.size_r4_a3_0⟩
      ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) := by
  rw [Host.reduce_eq_fold, h.fold_fiber_r4_a3, hb]

/-- A conjunction over a whole array that holds holds at every index. -/
theorem of_reduce_and {s t u : Shape} {axes : List (Fin s.rank)} (x : s.Idx → BitVec 1) (b : u.Idx → BitVec 1) (h : s.ReducesTo axes t) (hu : 0 < u.numel)
    (ht : t.rank = 0) (j : t.Idx) (hx : Host.reduce IntOp.andi x b h hu j = 1#1) (i : s.Idx) : x i = 1#1 := by
  rw [Host.reduce_eq_fold] at hx
  refine of_fold_and _ _ _ hx i (Finset.mem_filter.mpr ⟨Finset.mem_univ _, ?_⟩)
  funext a
  exact absurd a.isLt (by omega)

end Cert.Bs.Softmax
end
-- ==== Proof.BsValue.lean ====
/-
  The band attention of the sample group: the blocks its kernel reads, as elements of the arguments, and what
  one head makes of them.  `BsRun.lean` puts the heads together and beside the reference.
-/
module

public import proofs.«01_k».proof.Proof.BsLaunch
public import proofs.«01_k».proof.Proof.BsMath

@[expose] public section

set_option maxRecDepth 16384

noncomputable section

open Idealize.ShloMosaic Idealize.ShloMosaic.TcCoe Idealize.SL.Sem
open Idealize.ShloMosaic.Pipeline (Dat)

namespace Cert.Bs.Cached

open Cert.Bs Cert.Bs.Gen Cert.Bs.Softmax

variable (m : (ℓ : Loc nD τ sig) → Buf (Elt Ideal) ℓ)

/-- The blocks' positions at a point. -/
theorem idx : ∀ t : Fin cfg0.N, win0_0.index t = ![128 + t.val, 0] ∧ win0_1.index t = ![128 + t.val, 1] ∧ win0_2.index t = ![128 + t.val, 2]
    ∧ win0_3.index t = ![t.val, 0, 0] ∧ win0_4.index t = ![t.val, 0, 0] ∧ win0_5.index t = ![0, 0, 0]
    ∧ win0_6.index t = ![128 + t.val, 0] ∧ win0_7.index t = ![t.val, 0, 0] ∧ win0_8.index t = ![t.val, 0, 0] ∧ t.val < 32 :=
  (by decide +kernel : ∀ t : Fin grid0.N, _)

theorem blk0 (c : Dev nD) (t : Fin cfg0.N) (r : Fin 64) (s : Fin 2048) (R : Fin 10240) (C : Fin 6144) (hR : (R : ℕ) = 8192 + 64 * t + r) (hC : (C : ℕ) = s) :
    iblk m c 0 t (ix2 r s) = m ((c : Thread nD τ).loc main_arg0) (ix2 R C) := by
  blk_point [iblk, V, idx t]

theorem blk1 (c : Dev nD) (t : Fin cfg0.N) (r : Fin 64) (s : Fin 2048) (R : Fin 10240) (C : Fin 6144) (hR : (R : ℕ) = 8192 + 64 * t + r) (hC : (C : ℕ) = 2048 + s) :
    iblk m c 1 t (ix2 r s) = m ((c : Thread nD τ).loc main_arg0) (ix2 R C) := by
  blk_point [iblk, V, idx t]

theorem blk2 (c : Dev nD) (t : Fin cfg0.N) (r : Fin 64) (s : Fin 2048) (R : Fin 10240) (C : Fin 6144) (hR : (R : ℕ) = 8192 + 64 * t + r) (hC : (C : ℕ) = 4096 + s) :
    iblk m c 2 t (ix2 r s) = m ((c : Thread nD τ).loc main_arg0) (ix2 R C) := by
  blk_point [iblk, V, idx t]

theorem blk3 (c : Dev nD) (t : Fin cfg0.N) (y : Fin 8192) (d : Fin 128) (i : Fin 32) (x : Fin 512) (h : Fin 16) (hi : (i : ℕ) = t) (hy : (y : ℕ) = 16 * x + h) :
    iblk m c 3 t (ix3 (0 : Fin 1) y d) = m ((c : Thread nD τ).loc main_arg1) (ix4 i x h d) := by
  blk_point [iblk, V, idx t]

theorem blk4 (c : Dev nD) (t : Fin cfg0.N) (y : Fin 8192) (d : Fin 128) (i : Fin 32) (x : Fin 512) (h : Fin 16) (hi : (i : ℕ) = t) (hy : (y : ℕ) = 16 * x + h) :
    iblk m c 4 t (ix3 (0 : Fin 1) y d) = m ((c : Thread nD τ).loc main_arg2) (ix4 i x h d) := by
  blk_point [iblk, V, idx t]

theorem blk5 (c : Dev nD) (t : Fin cfg0.N) (h : Fin 16) (r : Fin 64) (j : Fin 576) :
    iblk m c 5 t (ix3 h r j) = m ((c : Thread nD τ).loc main_arg3) (ix3 h r j) := by
  blk_point [iblk, V, idx t]

/-- One head at an index, in terms of the scores and values over all 576 positions. -/
theorem head_at (q k v : FVec Ideal S64x128 .f32) (kc vc : FVec Ideal S1x512x128 .f32) (bc : FVec Ideal S1x64x512 .f32) (bn : FVec Ideal S1x64x64 .f32)
    (S w : Fin 576 → EReal) (r : Fin 64) (d : Fin 128)
    (hSc : ∀ x : Fin 512, ∑ e, q (ix2 r e) * Ideal.ofBits .f32 0x3DB504F3#32 * kc (ix3 0 x e) + bc (ix3 0 r x) = S ⟨x, by omega⟩)
    (hSn : ∀ x : Fin 64, ∑ e, q (ix2 r e) * Ideal.ofBits .f32 0x3DB504F3#32 * k (ix2 x e) + bn (ix3 0 r x) = S ⟨512 + x, by omega⟩)
    (hvc : ∀ x : Fin 512, vc (ix3 0 x d) = w ⟨x, by omega⟩) (hvn : ∀ x : Fin 64, v (ix2 x d) = w ⟨512 + x, by omega⟩) :
    head (F := Ideal) q k v kc vc bc bn (ix2 r d)
      = (∑ x, Ideal.exp (S x - Finset.univ.fold max ⊥ S) * w x) * Ideal.div 1 (∑ x, Ideal.exp (S x - Finset.univ.fold max ⊥ S)) := by
  rw [sum_split, sum_split, fold_split]
  pointwise [head, k0_pay136, k0_pay137, k0_pay138, k0_pay139]
  simp only [hSc, hSn, hvc, hvn, negInf]

end Cert.Bs.Cached

end
-- ==== Proof.BsRef.lean ====
/-
  The reference's band attention of the sample group, in steps, each read at an index.

  The cached keys and values with the new ones after them (`allOf`), the scores, their exponentials, the
  weights and the mean of the values; and the caches it returns, the last 512 of the 576 positions (`keptOf`).
-/
module

public import proofs.«01_k».proof.Proof.Gen.BsRefIdeal.Run
public import proofs.«01_k».proof.Proof.BsMath

@[expose] public section

set_option maxRecDepth 16384

noncomputable section

open Idealize.ShloMosaic Idealize.ShloMosaic.TcCoe Idealize.SL.Sem

namespace Cert.BsRefIdeal.Steps

open Cert.BsRefIdeal Cert.BsRefIdeal.Gen Cert.Bs.Softmax

/-- The sample group's rows of the projection. -/
def rowsOf (p : FVec Ideal S10240x6144 .f32) : FVec Ideal S2048x6144 .f32 := extractStridedSlice S2048x6144 ![8192, 0] p slices_S10240x6144_S2048x6144_8192_0

/-- Their queries, keys and values, by sequence, row, head and dimension. -/
def queryOf (p : FVec Ideal S10240x6144 .f32) : FVec Ideal S32x64x16x128 .f32 :=
  shapeCast _ (extractStridedSlice S2048x2048 ![0, 0] (rowsOf p) slices_S2048x6144_S2048x2048_0_0) shapeCasts_S2048x2048_S32x64x16x128
def keyOf (p : FVec Ideal S10240x6144 .f32) : FVec Ideal S32x64x16x128 .f32 :=
  shapeCast _ (extractStridedSlice S2048x2048 ![0, 2048] (rowsOf p) slices_S2048x6144_S2048x2048_0_2048) shapeCasts_S2048x2048_S32x64x16x128
def valueOf (p : FVec Ideal S10240x6144 .f32) : FVec Ideal S32x64x16x128 .f32 :=
  shapeCast _ (extractStridedSlice S2048x2048 ![0, 4096] (rowsOf p) slices_S2048x6144_S2048x2048_0_4096) shapeCasts_S2048x2048_S32x64x16x128

/-- A cache with the new rows after it. -/
def allOf (c : FVec Ideal S32x512x16x128 .f32) (n : FVec Ideal S32x64x16x128 .f32) : FVec Ideal S32x576x16x128 .f32 :=
  concatenate S32x576x16x128 1 [⟨S32x512x16x128, c⟩, ⟨S32x64x16x128, n⟩] concatenates_S32x512x16x128_S32x64x16x128_S32x576x16x128_d1

/-- The cache that is returned: the last 512 positions, with position and head one axis. -/
def keptOf (a : FVec Ideal S32x576x16x128 .f32) : FVec Ideal S32x8192x128 .f32 :=
  shapeCast _ (extractStridedSlice S32x512x16x128 ![0, 64, 0, 0] a slices_S32x576x16x128_S32x512x16x128_0_64_0_0) shapeCasts_S32x512x16x128_S32x8192x128

/-- The scaled scores with the bias. -/
def scoresOf (q : FVec Ideal S32x64x16x128 .f32) (k : FVec Ideal S32x576x16x128 .f32) (b : FVec Ideal S16x64x576 .f32) : FVec Ideal S32x16x64x576 .f32 :=
  addf (mulf (Host.dotGeneral dot_S32x64x16x128_S32x576x16x128_S32x16x64x576_3_3_1_1_02_02 none q k) (broadcastInDim S32x16x64x576 ![] bcast_S_S32x16x64x576 (constant S_ .f32 0x3DB504F3#32)))
    (broadcastInDim S32x16x64x576 ![0, 1, 2, 3] bcast_S1x16x64x576_S32x16x64x576_0_1_2_3 (broadcastInDim S1x16x64x576 ![1, 2, 3] bcast_S16x64x576_S1x16x64x576_1_2_3 b))

/-- Each row's maximum. -/
def maxOf (s : FVec Ideal S32x16x64x576 .f32) : FVec Ideal S32x16x64 .f32 :=
  Host.reduce FloatOps.maximumf s (constant S_ .f32 0xFF800000#32) reducesTo_S32x16x64x576_S32x16x64_d3 h_S_

/-- The exponentials of the scores less their row's maximum. -/
def expOf (s : FVec Ideal S32x16x64x576 .f32) (M : FVec Ideal S32x16x64 .f32) : FVec Ideal S32x16x64x576 .f32 :=
  Host.exp (subf s (broadcastInDim S32x16x64x576 ![0, 1, 2, 3] bcast_S32x16x64x1_S32x16x64x576_0_1_2_3 (broadcastInDim S32x16x64x1 ![0, 1, 2] bcast_S32x16x64_S32x16x64x1_0_1_2
    (maximumf (broadcastInDim S32x16x64 ![] bcast_S_S32x16x64 (constant S_ .f32 0xFF800000#32)) M))))

/-- The exponentials over their row's sum. -/
def weightsOf (e : FVec Ideal S32x16x64x576 .f32) : FVec Ideal S32x16x64x576 .f32 :=
  Host.divf e (broadcastInDim S32x16x64x576 ![0, 1, 2, 3] bcast_S32x16x64x1_S32x16x64x576_0_1_2_3 (broadcastInDim S32x16x64x1 ![0, 1, 2] bcast_S32x16x64_S32x16x64x1_0_1_2
    (Host.reduceAdd e (constant S_ .f32 0x00000000#32) reducesTo_S32x16x64x576_S32x16x64_d3 h_S_)))

/-- The values' mean by the weights, as rows of the output. -/
def mixOf (v : FVec Ideal S32x576x16x128 .f32) (w : FVec Ideal S32x16x64x576 .f32) : FVec Ideal S2048x2048 .bf16 :=
  truncf .bf16 (shapeCast _ (transpose S32x64x16x128 [0, 3, 1, 2] (Host.dotGeneral dot_S32x576x16x128_S32x16x64x576_S32x16x128x64_1_3_3_2_02_01 none v w)
    transposes_S32x16x128x64_S32x64x16x128_0_3_1_2) shapeCasts_S32x64x16x128_S2048x2048) bitsLt_bf16_f32

/-- The output: the sample group's rows computed, the others kept. -/
def outOf (a : FVec Ideal S10240x2048 .bf16) (y : FVec Ideal S2048x2048 .bf16) : FVec Ideal S10240x2048 .bf16 :=
  concatenate S10240x2048 0 [⟨S8192x2048, extractStridedSlice S8192x2048 ![0, 0] a slices_S10240x2048_S8192x2048_0_0⟩, ⟨S2048x2048, y⟩] concatenates_S8192x2048_S2048x2048_S10240x2048_d0

/-- The attention of the sample group. -/
def attnOf (p : FVec Ideal S10240x6144 .f32) (ck cv : FVec Ideal S32x512x16x128 .f32) (b : FVec Ideal S16x64x576 .f32) : FVec Ideal S2048x2048 .bf16 :=
  mixOf (allOf cv (valueOf p)) (weightsOf (expOf (scoresOf (queryOf p) (allOf ck (keyOf p)) b) (maxOf (scoresOf (queryOf p) (allOf ck (keyOf p)) b))))

/-! ## Each step at an index -/

theorem query_at (p : FVec Ideal S10240x6144 .f32) (i : Fin 32) (r : Fin 64) (h : Fin 16) (d : Fin 128) :
    queryOf p (ix4 i r h d) = p (ix2 ⟨8192 + (i * 64 + r), by omega⟩ ⟨h * 128 + d, by omega⟩) := by
  pointwise [queryOf, rowsOf]
  blk_ext

theorem key_at (p : FVec Ideal S10240x6144 .f32) (i : Fin 32) (r : Fin 64) (h : Fin 16) (d : Fin 128) :
    keyOf p (ix4 i r h d) = p (ix2 ⟨8192 + (i * 64 + r), by omega⟩ ⟨2048 + (h * 128 + d), by omega⟩) := by
  pointwise [keyOf, rowsOf]

theorem value_at (p : FVec Ideal S10240x6144 .f32) (i : Fin 32) (r : Fin 64) (h : Fin 16) (d : Fin 128) :
    valueOf p (ix4 i r h d) = p (ix2 ⟨8192 + (i * 64 + r), by omega⟩ ⟨4096 + (h * 128 + d), by omega⟩) := by
  pointwise [valueOf, rowsOf]

theorem all_old (c : FVec Ideal S32x512x16x128 .f32) (n : FVec Ideal S32x64x16x128 .f32) (i : Fin 32) (x : Fin 512) (h : Fin 16) (d : Fin 128) :
    allOf c n (ix4 i ⟨x, by omega⟩ h d) = c (ix4 i x h d) := by
  pointwise [allOf]

theorem all_new (c : FVec Ideal S32x512x16x128 .f32) (n : FVec Ideal S32x64x16x128 .f32) (i : Fin 32) (x : Fin 64) (h : Fin 16) (d : Fin 128) :
    allOf c n (ix4 i ⟨512 + x, by omega⟩ h d) = n (ix4 i x h d) := by
  pointwise [allOf]
  blk_ext

theorem kept_at (a : FVec Ideal S32x576x16x128 .f32) (i : Fin 32) (r : Fin 8192) (d : Fin 128) :
    keptOf a (ix3 i r d) = a (ix4 i ⟨64 + r / 16, by omega⟩ ⟨r % 16, by omega⟩ d) := by
  pointwise [keptOf]

theorem scores_at (q : FVec Ideal S32x64x16x128 .f32) (k : FVec Ideal S32x576x16x128 .f32) (b : FVec Ideal S16x64x576 .f32) (i : Fin 32) (h : Fin 16) (r : Fin 64) (j : Fin 576) :
    scoresOf q k b (ix4 i h r j) = (∑ x, q (ix4 i r h x) * k (ix4 i j h x)) * Ideal.ofBits FTy.f32 0x3DB504F3#32 + b (ix3 h r j) := by
  pointwise [scoresOf]

theorem max_at (s : FVec Ideal S32x16x64x576 .f32) (i : Fin 32) (h : Fin 16) (r : Fin 64) :
    maxOf s (ix3 i h r) = Finset.univ.fold max ⊥ (fun x : Fin 576 => s (ix4 i h r x)) := by
  unfold maxOf
  exact reduce_max s (constant (F := Ideal) S_ .f32 0xFF800000#32) reducesTo_S32x16x64x576_S32x16x64_d3 h_S_ (ix3 i h r) ⊥ (fun _ => negInf)

theorem exp_at (s : FVec Ideal S32x16x64x576 .f32) (M : FVec Ideal S32x16x64 .f32) (i : Fin 32) (h : Fin 16) (r : Fin 64) (j : Fin 576) :
    expOf s M (ix4 i h r j) = Ideal.exp (s (ix4 i h r j) - M (ix3 i h r)) := by
  pointwise [expOf]
  rw [negInf, max_eq_right bot_le]

theorem weights_at (e : FVec Ideal S32x16x64x576 .f32) (i : Fin 32) (h : Fin 16) (r : Fin 64) (j : Fin 576) :
    weightsOf e (ix4 i h r j) = Ideal.div (e (ix4 i h r j)) (∑ x, e (ix4 i h r x)) := by
  pointwise [weightsOf]

theorem mix_at (v : FVec Ideal S32x576x16x128 .f32) (w : FVec Ideal S32x16x64x576 .f32) (R S : Fin 2048) (i : Fin 32) (r : Fin 64) (h : Fin 16) (d : Fin 128)
    (hR : (R : ℕ) = 64 * i + r) (hS : (S : ℕ) = 128 * h + d) :
    mixOf v w (ix2 R S) = ∑ x, v (ix4 i x h d) * w (ix4 i h r x) := by
  pointwise [mixOf]
  refine Finset.sum_congr rfl fun x _ => ?_
  have e0 : ∀ p, (⟨R / 64, p⟩ : Fin 32) = i := fun p => Fin.ext (by show (R : ℕ) / 64 = i; omega)
  have e1 : ∀ p, (⟨R % 64, p⟩ : Fin 64) = r := fun p => Fin.ext (by show (R : ℕ) % 64 = r; omega)
  have e2 : ∀ p, (⟨S / 128, p⟩ : Fin 16) = h := fun p => Fin.ext (by show (S : ℕ) / 128 = h; omega)
  have e3 : ∀ p, (⟨S % 128, p⟩ : Fin 128) = d := fun p => Fin.ext (by show (S : ℕ) % 128 = d; omega)
  rw [e0, e1, e2, e3]

/-- With real scores the attention at an index is the mean the kernel computes. -/
theorem attn_at (p : FVec Ideal S10240x6144 .f32) (ck cv : FVec Ideal S32x512x16x128 .f32) (b : FVec Ideal S16x64x576 .f32)
    (hS : ∀ j, Real' (scoresOf (queryOf p) (allOf ck (keyOf p)) b j)) (R S : Fin 2048) (i : Fin 32) (r : Fin 64) (h : Fin 16) (d : Fin 128)
    (hR : (R : ℕ) = 64 * i + r) (hS' : (S : ℕ) = 128 * h + d) :
    attnOf p ck cv b (ix2 R S)
      = (∑ x, Ideal.exp (scoresOf (queryOf p) (allOf ck (keyOf p)) b (ix4 i h r x) - Finset.univ.fold max ⊥ (fun y : Fin 576 => scoresOf (queryOf p) (allOf ck (keyOf p)) b (ix4 i h r y)))
          * allOf cv (valueOf p) (ix4 i x h d))
        * Ideal.div 1 (∑ x, Ideal.exp (scoresOf (queryOf p) (allOf ck (keyOf p)) b (ix4 i h r x)
            - Finset.univ.fold max ⊥ (fun y : Fin 576 => scoresOf (queryOf p) (allOf ck (keyOf p)) b (ix4 i h r y)))) := by
  unfold attnOf
  rw [mix_at _ _ R S i r h d hR hS']
  simp only [weights_at, exp_at, max_at]
  exact mean_eq _ _ _ (fun x => hS _) (Real'.fold fun x => hS _)

/-! ## The output's rows -/

theorem out_sample (a : FVec Ideal S10240x2048 .bf16) (y : FVec Ideal S2048x2048 .bf16) (i : S10240x2048.Idx) (r s : Fin 2048)
    (h0 : (i 0 : ℕ) = 8192 + r) (h1 : (i 1 : ℕ) = s) : outOf a y i = y (ix2 r s) := by
  idx_vars i
  pointwise [outOf]
  rw [dif_neg (by omega)]
  blk_ext

theorem out_other (a : FVec Ideal S10240x2048 .bf16) (y : FVec Ideal S2048x2048 .bf16) (i : S10240x2048.Idx)
    (h0 : (i 0 : ℕ) < 8192) : outOf a y i = a i := by
  idx_vars i
  pointwise [outOf]
  rw [dif_pos (by omega)]

/-- The reference's own term is the steps composed. -/
theorem res_eq (m : (ℓ : Loc nD τ sig) → Buf (Elt Ideal) ℓ) (c : Dev nD) :
    Cert.BsRefIdeal.Value.res_out0 m c = outOf (m ((c.tc : Thread nD τ).loc main_arg4))
      (attnOf (m ((c.tc : Thread nD τ).loc main_arg0)) (m ((c.tc : Thread nD τ).loc main_arg1)) (m ((c.tc : Thread nD τ).loc main_arg2)) (m ((c.tc : Thread nD τ).loc main_arg3))) := rfl

end Cert.BsRefIdeal.Steps

end
-- ==== Proof.BsRun.lean ====
/-
  The band attention's kernel, whole: its three results are the reference's when the arguments that enter the
  scores are finite.  The finiteness is what the precondition says; the caches need none.
-/
module

public import proofs.«01_k».proof.Defs
public import proofs.«01_k».proof.Proof.BsValue
public import proofs.«01_k».proof.Proof.BsRef
public import proofs.«01_k».proof.Proof.Gen.BsIdeal
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)

namespace Cert.Bs.Cached

open Cert.Bs Cert.Bs.Gen Cert.Bs.Softmax Cert.BsRefIdeal.Steps

/-! ## What the precondition says -/

theorem of_and (p q : BitVec 1) (h : IntOp.andi p q = 1#1) : p = 1#1 ∧ q = 1#1 := by
  revert p q; decide

theorem real_of_cmp (x : EReal) (h : Ideal.cmp .olt (max x (-x)) (Ideal.ofBits .f32 0x7F800000#32) = 1#1) : Real' x :=
  real_of_abs_lt x (by rw [posInf] at h; exact h)

/-- The projection, the key cache and the bias are real. -/
theorem real_of_finite (p : FVec Ideal S10240x6144 .f32) (ck cv : FVec Ideal S32x512x16x128 .f32) (b : FVec Ideal S16x64x576 .f32) (a : FVec Ideal S10240x2048 .bf16)
    (h : Cert.Pre_finite.fn (F := Ideal) p ck cv b a = fun _ => 1#1) : (∀ i, Real' (p i)) ∧ (∀ i, Real' (ck i)) ∧ ∀ i, Real' (b i) := by
  have h0 := congrFun h ix0
  obtain ⟨h1, hb⟩ := of_and _ _ h0
  obtain ⟨hp, hk⟩ := of_and _ _ h1
  exact ⟨fun i => real_of_cmp _ (of_reduce_and _ _ _ _ rfl _ hp i), fun i => real_of_cmp _ (of_reduce_and _ _ _ _ rfl _ hk i),
    fun i => real_of_cmp _ (of_reduce_and _ _ _ _ rfl _ hb i)⟩

/-- Then so is every score. -/
theorem scores_real (p : FVec Ideal S10240x6144 .f32) (ck : FVec Ideal S32x512x16x128 .f32) (b : FVec Ideal S16x64x576 .f32)
    (hp : ∀ i, Real' (p i)) (hk : ∀ i, Real' (ck i)) (hb : ∀ i, Real' (b i)) (j) : Real' (scoresOf (queryOf p) (allOf ck (keyOf p)) b j) := by
  idx_vars j
  rw [scores_at]
  obtain ⟨r, hr, -⟩ := scale_real
  refine ((Real'.sum fun x => (Real'.mul ?_ ?_)).mul ⟨r, hr⟩).add (hb _)
  · rw [query_at]; exact hp _
  · by_cases hj : (j3 : ℕ) < 512
    · exact (all_old ck (keyOf p) j0 ⟨j3, hj⟩ j1 x).symm ▸ hk _
    · have e : j3 = (⟨512 + (⟨(j3 : ℕ) - 512, by omega⟩ : Fin 64), by show 512 + ((j3 : ℕ) - 512) < 576; omega⟩ : Fin 576) := Fin.ext (by show (j3 : ℕ) = 512 + (j3 - 512); omega)
      rw [e, all_new, key_at]
      exact hp _

/-! ## The results -/

variable (m : (ℓ : Loc nD τ sig) → Buf (Elt Ideal) ℓ) (ρ : Dev nD → PrngReg)

abbrev argP (c : Dev nD) : FVec Ideal S10240x6144 .f32 := m ((c : Thread nD τ).loc main_arg0)
abbrev argK (c : Dev nD) : FVec Ideal S32x512x16x128 .f32 := m ((c : Thread nD τ).loc main_arg1)
abbrev argV (c : Dev nD) : FVec Ideal S32x512x16x128 .f32 := m ((c : Thread nD τ).loc main_arg2)
abbrev argB (c : Dev nD) : FVec Ideal S16x64x576 .f32 := m ((c : Thread nD τ).loc main_arg3)
abbrev argI (c : Dev nD) : FVec Ideal S10240x2048 .bf16 := m ((c : Thread nD τ).loc main_arg4)

/-- An element of the kept key cache. -/
theorem kept_k (c : Dev nD) (t : Fin cfg0.N) (y1 : Fin 8192) (d : Fin 128) (i : Fin 32) (hi : (i : ℕ) = t) :
    keptBlk (iblk m c 3 t) (iblk m c 1 t) (ix3 (0 : Fin 1) y1 d) = keptOf (allOf (argK m c) (keyOf (argP m c))) (ix3 i y1 d) := by
  rw [kept_at]
  unfold keptBlk
  split
  next h =>
    have h : (y1 : ℕ) < 7168 := h
    refine Eq.trans ?_ (all_old _ _ i ⟨64 + y1 / 16, by omega⟩ ⟨y1 % 16, by omega⟩ d).symm
    exact blk3 m c t _ d i _ _ hi (by show (y1 : ℕ) + 1024 = 16 * (64 + y1 / 16) + y1 % 16; omega)
  next h =>
    have h : ¬ (y1 : ℕ) < 7168 := h
    have e : (⟨64 + y1 / 16, by omega⟩ : Fin 576) = ⟨512 + (⟨((y1 : ℕ) - 7168) / 16, by omega⟩ : Fin 64), by show 512 + ((y1 : ℕ) - 7168) / 16 < 576; omega⟩ :=
      Fin.ext (by show 64 + (y1 : ℕ) / 16 = 512 + ((y1 : ℕ) - 7168) / 16; omega)
    rw [e, all_new, key_at]
    exact blk1 m c t _ _ _ _ (by show 8192 + ((i : ℕ) * 64 + (y1 - 7168) / 16) = 8192 + 64 * t + (y1 - 7168) / 16; omega)
      (by show 2048 + ((y1 : ℕ) % 16 * 128 + d) = 2048 + ((y1 - 7168) % 16 * 128 + d); omega)

/-- An element of the kept value cache. -/
theorem kept_v (c : Dev nD) (t : Fin cfg0.N) (y1 : Fin 8192) (d : Fin 128) (i : Fin 32) (hi : (i : ℕ) = t) :
    keptBlk (iblk m c 4 t) (iblk m c 2 t) (ix3 (0 : Fin 1) y1 d) = keptOf (allOf (argV m c) (valueOf (argP m c))) (ix3 i y1 d) := by
  rw [kept_at]
  unfold keptBlk
  split
  next h =>
    have h : (y1 : ℕ) < 7168 := h
    refine Eq.trans ?_ (all_old _ _ i ⟨64 + y1 / 16, by omega⟩ ⟨y1 % 16, by omega⟩ d).symm
    exact blk4 m c t _ d i _ _ hi (by show (y1 : ℕ) + 1024 = 16 * (64 + y1 / 16) + y1 % 16; omega)
  next h =>
    have h : ¬ (y1 : ℕ) < 7168 := h
    have e : (⟨64 + y1 / 16, by omega⟩ : Fin 576) = ⟨512 + (⟨((y1 : ℕ) - 7168) / 16, by omega⟩ : Fin 64), by show 512 + ((y1 : ℕ) - 7168) / 16 < 576; omega⟩ :=
      Fin.ext (by show 64 + (y1 : ℕ) / 16 = 512 + ((y1 : ℕ) - 7168) / 16; omega)
    rw [e, all_new, value_at]
    exact blk2 m c t _ _ _ _ (by show 8192 + ((i : ℕ) * 64 + (y1 - 7168) / 16) = 8192 + 64 * t + (y1 - 7168) / 16; omega)
      (by show 4096 + ((y1 : ℕ) % 16 * 128 + d) = 4096 + ((y1 - 7168) % 16 * 128 + d); omega)

/-- The key cache after the run. -/
theorem final7 (c : Dev nD) : (dats m 0 c).arrAt 7 (cfgs 0).N = keptOf (allOf (argK m c) (keyOf (argP m c))) := by
  refine (dats m 0 c).arrAt_eq_of_covers 7 _ (by decide +kernel) fun t _ y => ?_
  blk_simp
  rw [after7]
  have ht := (idx t).2.2.2.2.2.2.2.2.2
  idx_vars y
  obtain rfl : y0 = 0 := Subsingleton.elim _ _
  refine (kept_k m c t y1 y2 ⟨t, ht⟩ rfl).trans (congrArg _ ?_)
  blk_ext [idx t]

/-- The value cache after the run. -/
theorem final8 (c : Dev nD) : (dats m 0 c).arrAt 8 (cfgs 0).N = keptOf (allOf (argV m c) (valueOf (argP m c))) := by
  refine (dats m 0 c).arrAt_eq_of_covers 8 _ (by decide +kernel) fun t _ y => ?_
  blk_simp
  rw [after8]
  have ht := (idx t).2.2.2.2.2.2.2.2.2
  idx_vars y
  obtain rfl : y0 = 0 := Subsingleton.elim _ _
  refine (kept_v m c t y1 y2 ⟨t, ht⟩ rfl).trans (congrArg _ ?_)
  blk_ext [idx t]

/-- A score as the kernel forms it, the queries scaled first. -/
theorem score_eq (q k : Fin 128 → EReal) (b : EReal) :
    ∑ e, q e * Ideal.ofBits .f32 0x3DB504F3#32 * k e + b = (∑ e, q e * k e) * Ideal.ofBits .f32 0x3DB504F3#32 + b := by
  obtain ⟨r, hr, h0⟩ := scale_real
  rw [hr, sum_mul _ _ _ (EReal.coe_nonneg.mpr h0) (EReal.coe_ne_top _)]
  exact congrArg (· + b) (Finset.sum_congr rfl fun e _ => mul_right_comm _ _ _)

/-- An element of the output on the sample group's rows. -/
theorem out_point (c : Dev nD) (hp : ∀ i, Real' (argP m c i)) (hk : ∀ i, Real' (argK m c i)) (hb : ∀ i, Real' (argB m c i))
    (t : Fin cfg0.N) (r : Fin 64) (s : Fin 2048) (R : Fin 2048) (hR : (R : ℕ) = 64 * t + r) :
    outBlk (iblk m c 0 t) (iblk m c 1 t) (iblk m c 2 t) (iblk m c 3 t) (iblk m c 4 t) (iblk m c 5 t) (ix2 r s)
      = attnOf (argP m c) (argK m c) (argV m c) (argB m c) (ix2 R s) := by
  have ht := (idx t).2.2.2.2.2.2.2.2.2
  have hs : (s : ℕ) = 128 * (⟨s / 128, by omega⟩ : Fin 16) + (⟨s % 128, by omega⟩ : Fin 128) := by show (s : ℕ) = 128 * (s / 128) + s % 128; omega
  rw [attn_at (argP m c) (argK m c) (argV m c) (argB m c) (scores_real _ _ _ hp hk hb) R s ⟨t, ht⟩ r ⟨s / 128, by omega⟩ ⟨s % 128, by omega⟩ hR hs,
    outBlk_at _ _ _ _ _ _ (ix2 r s) ⟨s / 128, by omega⟩ (ix2 r (⟨s % 128, by omega⟩ : Fin 128)) rfl hs]
  generalize (⟨s / 128, by omega⟩ : Fin 16) = h
  generalize (⟨s % 128, by omega⟩ : Fin 128) = d
  refine head_at _ _ _ _ _ _ _ (fun x => scoresOf (queryOf (argP m c)) (allOf (argK m c) (keyOf (argP m c))) (argB m c) (ix4 ⟨t, ht⟩ h r x))
    (fun x => allOf (argV m c) (valueOf (argP m c)) (ix4 ⟨t, ht⟩ x h d)) r d (fun x => ?_) (fun x => ?_) (fun x => ?_) (fun x => ?_)
  · rw [score_eq, scores_at]
    refine congr (congrArg _ (congrArg (· * _) (Finset.sum_congr rfl fun e _ => congr (congrArg _ ?_) ?_))) ?_
    · rw [query_at]
      exact blk0 m c t _ _ _ _ (by show 8192 + ((t : ℕ) * 64 + r) = 8192 + 64 * t + r; omega) (by show (h : ℕ) * 128 + e = 128 * h + e; omega)
    · rw [all_old]
      exact blk3 m c t _ _ _ _ _ rfl rfl
    · exact blk5 m c t h r _
  · rw [score_eq, scores_at]
    refine congr (congrArg _ (congrArg (· * _) (Finset.sum_congr rfl fun e _ => congr (congrArg _ ?_) ?_))) ?_
    · rw [query_at]
      exact blk0 m c t _ _ _ _ (by show 8192 + ((t : ℕ) * 64 + r) = 8192 + 64 * t + r; omega) (by show (h : ℕ) * 128 + e = 128 * h + e; omega)
    · rw [all_new, key_at]
      exact blk1 m c t _ _ _ _ (by show 8192 + ((t : ℕ) * 64 + x) = 8192 + 64 * t + x; omega) (by show 2048 + ((h : ℕ) * 128 + e) = 2048 + (128 * h + e); omega)
    · exact blk5 m c t h r _
  · rw [all_old]
    exact blk4 m c t _ _ _ _ _ rfl rfl
  · rw [all_new, value_at]
    exact blk2 m c t _ _ _ _ (by show 8192 + ((t : ℕ) * 64 + x) = 8192 + 64 * t + x; omega) (by show 4096 + ((h : ℕ) * 128 + d) = 4096 + (128 * h + d); omega)

/-- The output after the run: the sample group's rows computed, the other rows as the aliased argument has them. -/
theorem final6 (c : Dev nD) (hp : ∀ i, Real' (argP m c i)) (hk : ∀ i, Real' (argK m c i)) (hb : ∀ i, Real' (argB m c i)) :
    (dats m 0 c).arrAt 6 (cfgs 0).N = outOf (argI m c) (attnOf (argP m c) (argK m c) (argV m c) (argB m c)) := by
  refine (dats m 0 c).arrAt_eq_of_coversWhere_of_agree 6 _ (fun β => 128 ≤ β (0 : Fin 2)) (by decide +kernel) (fun t hf y => ?_) (fun j hj => ?_)
  · blk_simp
    rw [after6]
    idx_vars y
    have ht := (idx t).2.2.2.2.2.2.2.2.2
    refine (out_point m c hp hk hb t y0 y1 (⟨64 * t.val + y0, by omega⟩ : Fin 2048) rfl).trans (out_sample _ _ _ _ _ ?_ ?_).symm
    all_goals (blk_simp [idx t] <;> first | omega | (dsimp only; omega))
  · blk_simp [Pipeline.Window.cell_apply] at hj
    refine Eq.trans ?_ (out_other _ _ _ ?_).symm
    · show V m c main_v2_0 _ = _
      entry_read
      rfl
    · blk_simp
      omega

/-- The run with the three results. -/
theorem run_value (hpre : ∀ c : Dev nD, (∀ i, Real' (argP m c i)) ∧ (∀ i, Real' (argK m c i)) ∧ ∀ i, Real' (argB m c i)) :
    θ_run (defs (F := Ideal)) (onTc (τ := τ) (main (F := Ideal))) ⟨m, fun _ => 0, ρ⟩ fun r => ∀ c : Dev nD,
      r.2.mem ((c.tc : Thread nD τ).loc main_v2_0) = outOf (argI m c) (attnOf (argP m c) (argK m c) (argV m c) (argB m c))
      ∧ r.2.mem ((c.tc : Thread nD τ).loc main_v2_1) = keptOf (allOf (argK m c) (keyOf (argP m c)))
      ∧ r.2.mem ((c.tc : Thread nD τ).loc main_v2_2) = keptOf (allOf (argV m c) (valueOf (argP m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr.1 c).1 (6 : Fin 9)).trans (final6 m c (hpre c).1 (hpre c).2.1 (hpre c).2.2),
      ((hr.1 c).1 (7 : Fin 9)).trans (final7 m c), ((hr.1 c).1 (8 : Fin 9)).trans (final8 m c), args_unchanged m r hr.1 c⟩)
    (run_quiescent m ρ)

/-! ## The idealised program -/

set_option backward.isDefEq.respectTransparency.types false in
set_option maxHeartbeats 1000000 in
theorem same_defs₀ : Cert.BsIdeal.defs₀ (F := Ideal) = Cert.Bs.defs₀ (F := Ideal) :=
  congrArg Defs.onTc (funext fun l => funext fun x => by
    match l, x with
    | ⟨0, _⟩, (t, s) => rfl)

set_option backward.isDefEq.respectTransparency.types false in
set_option maxHeartbeats 1000000 in
/-- The two programs' functions are the same over the extended reals. -/
theorem same_defs : Cert.BsIdeal.defs (F := Ideal) = Cert.Bs.defs (F := Ideal) :=
  congrArg (Pipeline.defs (Cert.Bs.pcfgs (F := Ideal))) same_defs₀

set_option backward.isDefEq.respectTransparency.types false in
set_option maxHeartbeats 1000000 in
/-- What holds of the program's runs holds of the idealised program's. -/
theorem transfer (m : (ℓ : Loc Cert.BsIdeal.nD Cert.BsIdeal.τ Cert.BsIdeal.sig) → Buf (Elt Ideal) ℓ) (g : Dev Cert.BsIdeal.nD → PrngReg)
    (Q : PUnit × MemSt Cert.BsIdeal.nD Cert.BsIdeal.τ Cert.BsIdeal.sig (Elt Ideal) → Prop)
    (h : θ_run (Cert.Bs.defs (F := Ideal)) (onTc (τ := Cert.Bs.τ) (Cert.Bs.main (F := Ideal))) ⟨m, fun _ => 0, g⟩ Q) :
    θ_run (Cert.BsIdeal.defs (F := Ideal)) (onTc (τ := Cert.BsIdeal.τ) (Cert.BsIdeal.main (F := Ideal))) ⟨m, fun _ => 0, g⟩ Q := by
  rw [same_defs]
  exact h

/-! ## The claims -/

/-- The program runs and leaves its arguments. -/
theorem frame_P : Cert.quiescent_Bs := fun m g _ => frame m g

set_option backward.isDefEq.respectTransparency.types false in
/-- The idealised program likewise, -/
theorem frame_PI : Cert.quiescent_BsIdeal := fun m g _ => transfer m g _ (frame m g)

/-- whatever is asked of the arguments. -/
theorem frame_PI_pre : Cert.quiescent_BsIdeal_pre_finite := fun m g _ => frame_PI m g trivial

/-- The reference likewise, -/
theorem frame_RI : Cert.quiescent_BsRefIdeal := fun m ρ _ =>
  (θ_run Cert.BsRefIdeal.defs _ _).mono (fun r h => ⟨fun c => (h c).2.2.2, sem_eq_zero_of_no_sems (by decide) r.2⟩)
    (Cert.BsRefIdeal.Value.run (F := Ideal) m ρ)

/-- whatever is asked of the arguments. -/
theorem frame_RI_pre : Cert.quiescent_BsRefIdeal_pre_finite := fun m ρ _ => frame_RI m ρ trivial

set_option backward.isDefEq.respectTransparency.types false in
set_option maxHeartbeats 1000000 in
/-- The output and the two caches are the reference's. -/
theorem algebraic : Cert.algebraic_BsIdeal_BsRefIdeal_pre_finite := fun m g m' g' h hm =>
  ⟨fun c => outOf (argI m c) (attnOf (argP m c) (argK m c) (argV m c) (argB m c)), fun c => keptOf (allOf (argK m c) (keyOf (argP m c))),
    fun c => keptOf (allOf (argV m c) (valueOf (argP m c))),
    transfer m g _ (run_value m g fun c => real_of_finite _ _ _ _ _ (h c)),
    (θ_run Cert.BsRefIdeal.defs _ _).mono (fun r hr c => by
        obtain ⟨h0, h1, h2, h3, h4⟩ := hm c
        refine ⟨(hr c).1.trans ((res_eq m' c).trans ?_), (hr c).2.1.trans ?_, (hr c).2.2.1.trans ?_, (hr c).2.2.2⟩
        · rw [h0, h1, h2, h3, h4]
        · rw [h0, h1]; rfl
        · rw [h0, h2]; rfl)
      (Cert.BsRefIdeal.Value.run (F := Ideal) m' g')⟩

end Cert.Bs.Cached

end
-- ==== Proof.UpFrame.lean ====
/-
  The routed experts' gated projection: the launch, at any tile tables whose expert numbers are in range.

  The kernel's grid is 2 column tiles by 88 row tiles; two tables name each row tile's expert and say
  whether the tile is used.  The weight windows' blocks depend on the first table, so everything is stated
  at an admissible pair of tables `a`.  `run_valid` and `run_unused` are the body's two courses, `oblk`
  the block it stores, `run_quiescent` the whole run; `ok_of_range` says tables in range are admissible.
-/
module

public import proofs.«01_k».proof.Defs
public import proofs.«01_k».proof.Proof.Gen.Up
public import proofs.«01_k».proof.Proof.Gen.Up.Launch
public import proofs.«01_k».proof.Proof.Gen.Up.Skeleton
public import proofs.«01_k».proof.Proof.Gen.UpIdeal
public import proofs.«01_k».proof.Proof.Gen.UpIdeal.Launch
public import proofs.«01_k».proof.Proof.Gen.UpIdeal.Skeleton
public import proofs.«01_k».proof.Proof.Gen.UpRefIdeal.Run
public import proofs.«01_k».proof.Proof.Gen.Pre_in_range
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.Adequacy
public import Idealize.ShloMosaic.Init

@[expose] public section

set_option maxRecDepth 16384
set_option Elab.async false

noncomputable section

namespace Cert.Up.Routed

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables as the body is handed them. -/
abbrev tab0 : Memref sig .tc .smem S88 .i32 := Memref.whole main_arg0
abbrev tab1 : Memref sig .tc .smem S88 .i32 := Memref.whole main_arg1

/-- The word of the second table that the body tests at `i`. -/
abbrev flag (T1 : S88.Idx → Elt F .i32) (i : grid0.Coords) : Elt F .i32 :=
  View.readAt (Elt F) tab1.view (Rect.unit (s := S88) (k0_off1 i) S1.size (k0_off1_inb i)).toLoadRect T1
    (Shape.Idx.first (numel1_S1.symm ▸ Nat.one_pos))

/-- The two conditions exclude one another, and one of them holds. -/
theorem cond2_iff (w : BitVec 32) : k0_cond2 w = 1#1 ↔ ¬ k0_cond1 w = 1#1 := by
  unfold k0_cond1 k0_cond2
  by_cases h : w = 0#32
  · subst h; decide
  · have e : IntOp.cmpi CmpIPredicate.ne w 0#32 = 1#1 := by simp only [IntOp.cmpi, bne_iff_ne.mpr h]; rfl
    have e' : IntOp.cmpi CmpIPredicate.eq w 0#32 = 0#1 := by simp only [IntOp.cmpi, beq_eq_false_iff_ne.mpr h]; rfl
    simp only [Scalar.cmpi, Scalar.extui, e, e']
    decide

set_option maxHeartbeats 4000000 in
/-- At a valid tile the body leaves the gated product of its three blocks. -/
theorem run_valid (c : Dev nD) (i : grid0.Coords) (arg4 : Memref sig .tc .vmem S256x2048 .bf16) (harg4 : arg4.IsWhole)
    (arg5 : Memref sig .tc .vmem S1x2048x1408 .bf16) (harg5 : arg5.IsWhole) (arg6 : Memref sig .tc .vmem S1x2048x1408 .bf16) (harg6 : arg6.IsWhole)
    (arg7 : Memref sig .tc .vmem S256x1408 .bf16) (harg7 : arg7.IsWhole) (T0 T1 : S88.Idx → Elt F .i32)
    (x0 : S256x2048.Idx → Elt F .bf16) (x1 x2 : S1x2048x1408.Idx → Elt F .bf16)
    (k0_h1 : k0_cond1 (flag (F := F) T1 i) = 1#1) (k0_h2 : ¬ k0_cond2 (flag (F := F) T1 i) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tab0.view.loc (c : Thread nD τ) ↦{fullShare.right} T0)
      ∗ (tab1.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tab0.view.loc (c : Thread nD τ) ↦{fullShare.right} T0)
          ∗ (tab1.view.loc (c : Thread nD τ) ↦{fullShare.right} T1)
          ∗ owns (c : Thread nD τ) arg7 fullShare (k0_pay1 x0 x1 x2)) -∗ K ⟨⟩))
      ⊢ wp frame (wpE (defs₀ (F := F)) Variants.none c none) Set.univ
          (cc0_moe_up i tab0 (Memref.isWhole_whole _) tab1 (Memref.isWhole_whole _) arg4 harg4 arg5 harg5 arg6 harg6 arg7 harg7) K := by
  unfold owns
  rw [cc0_moe_up_eq_skeleton]; unfold cc0_moe_up_skel
  iintro ⟨H0, H1, H2, HT0, HT1, ⟨%d3, %f3, -, HO3⟩, Hk⟩
  have hT0 : tab0.IsWhole := Memref.isWhole_whole _
  have hT1 : tab1.IsWhole := Memref.isWhole_whole _
  sl_exec! (disch := first | (guard_target = k0_cond1 _ = _; exact k0_h1) | (guard_target = ¬ (k0_cond2 _ = _); exact k0_h2))
  sl_step
  iapply Hk
  isplitl [H0]; · iexact H0
  isplitl [H1]; · iexact H1
  isplitl [H2]; · iexact H2
  isplitl [HT0]; · iexact HT0
  isplitl [HT1]; · iexact HT1
  iexists _
  isplitr; swap
  · iexact HO3
  · ipureintro
    frame_out
    simp only [View.read_rep]

set_option maxHeartbeats 4000000 in
/-- At an unused tile it leaves zeros. -/
theorem run_unused (c : Dev nD) (i : grid0.Coords) (arg4 : Memref sig .tc .vmem S256x2048 .bf16) (harg4 : arg4.IsWhole)
    (arg5 : Memref sig .tc .vmem S1x2048x1408 .bf16) (harg5 : arg5.IsWhole) (arg6 : Memref sig .tc .vmem S1x2048x1408 .bf16) (harg6 : arg6.IsWhole)
    (arg7 : Memref sig .tc .vmem S256x1408 .bf16) (harg7 : arg7.IsWhole) (T0 T1 : S88.Idx → Elt F .i32)
    (x0 : S256x2048.Idx → Elt F .bf16) (x1 x2 : S1x2048x1408.Idx → Elt F .bf16)
    (k0_h1 : ¬ k0_cond1 (flag (F := F) T1 i) = 1#1) (k0_h2 : k0_cond2 (flag (F := F) T1 i) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tab0.view.loc (c : Thread nD τ) ↦{fullShare.right} T0)
      ∗ (tab1.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tab0.view.loc (c : Thread nD τ) ↦{fullShare.right} T0)
          ∗ (tab1.view.loc (c : Thread nD τ) ↦{fullShare.right} T1)
          ∗ owns (c : Thread nD τ) arg7 fullShare (k0_pay2 (F := F))) -∗ K ⟨⟩))
      ⊢ wp frame (wpE (defs₀ (F := F)) Variants.none c none) Set.univ
          (cc0_moe_up i tab0 (Memref.isWhole_whole _) tab1 (Memref.isWhole_whole _) arg4 harg4 arg5 harg5 arg6 harg6 arg7 harg7) K := by
  unfold owns
  rw [cc0_moe_up_eq_skeleton]; unfold cc0_moe_up_skel
  iintro ⟨H0, H1, H2, HT0, HT1, ⟨%d3, %f3, -, HO3⟩, Hk⟩
  have hT0 : tab0.IsWhole := Memref.isWhole_whole _
  have hT1 : tab1.IsWhole := Memref.isWhole_whole _
  sl_exec! (disch := first | (guard_target = ¬ (k0_cond1 _ = _); exact k0_h1) | (guard_target = k0_cond2 _ = _; exact k0_h2))
  sl_step
  iapply Hk
  isplitl [H0]; · iexact H0
  isplitl [H1]; · iexact H1
  isplitl [H2]; · iexact H2
  isplitl [HT0]; · iexact HT0
  isplitl [HT1]; · iexact HT1
  iexists _
  isplitr; swap
  · iexact HO3
  · ipureintro
    frame_out

/-! ## The pipeline at admissible tables -/

variable (a : (pcfg0 (F := F)).Adm)

/-- The pipeline at the tables `a`, with its coordinates, and as the program's one. -/
abbrev pipe : Pipeline.Cfg sig Λ₀ := cfg0 (F := F) a
abbrev pipes : Fin 1 → Pipeline.Cfg sig Λ₀ := Pipeline.pin (pcfgs (F := F)) fun _ => a
abbrev crd (t : Fin (pipe a).N) : (pipe a).grid.Coords := (pipe a).grid.coords t

/-- The staging buffers that the body is handed at point `t`. -/
abbrev stg0 (t : Fin (pipe a).N) : Memref sig .tc .vmem S256x2048 .bf16 := spec0_0.stage ((pipe a).slots t (0 : Fin 4))
abbrev whl0 (t : Fin (pipe a).N) : (stg0 a t).IsWhole := hstage0_0 (((pipe a).slots t (0 : Fin 4)).cast nbuf0_0)
abbrev stg1 (t : Fin (pipe a).N) : Memref sig .tc .vmem S1x2048x1408 .bf16 := spec0_1.stage ((pipe a).slots t (1 : Fin 4))
abbrev whl1 (t : Fin (pipe a).N) : (stg1 a t).IsWhole := hstage0_1 (((pipe a).slots t (1 : Fin 4)).cast nbuf0_1)
abbrev stg2 (t : Fin (pipe a).N) : Memref sig .tc .vmem S1x2048x1408 .bf16 := spec0_2.stage ((pipe a).slots t (2 : Fin 4))
abbrev whl2 (t : Fin (pipe a).N) : (stg2 a t).IsWhole := hstage0_2 (((pipe a).slots t (2 : Fin 4)).cast nbuf0_2)
abbrev stg3 (t : Fin (pipe a).N) : Memref sig .tc .vmem S256x1408 .bf16 := spec0_3.stage ((pipe a).slots t (3 : Fin 4))
abbrev whl3 (t : Fin (pipe a).N) : (stg3 a t).IsWhole := hstage0_3 (((pipe a).slots t (3 : Fin 4)).cast nbuf0_3)

/-- The output block is stored at every point. -/
theorem idle3 (i : grid0.Coords) : (pipe a).idle (3 : Fin 4) i = false := by
  show (!(k0_cond1 (a.1.atD 1 (k0_off1 i)) == 1#1) && !(k0_cond2 (a.1.atD 1 (k0_off1 i)) == 1#1)) = false
  by_cases h : k0_cond1 (a.1.atD 1 (k0_off1 i)) = 1#1
  · rw [h]; rfl
  · rw [(cond2_iff _).mpr h]; simp

variable (m : (ℓ : Loc nD τ sig) → Buf (Elt F) ℓ) (ρ : Dev nD → PrngReg)

/-- Window `w`'s block at point `t`, of its array at launch. -/
def iblk (c : Dev nD) (w : Fin (pipe a).W) (t : Fin (pipe a).N) : (((pipe a).win w).xblock (crd a t)).Idx → Elt F ((pipe a).win w).elt :=
  (((pipe a).win w).blk t).view.read (Elt F) ((s₀ m ρ).mem (((pipe a).win w).arr.view.loc (c : Thread nD τ)))

/-- What the body leaves in the output block at point `t`. -/
def oblk (c : Dev nD) (t : Fin (pipe a).N) : S256x1408.Idx → Elt F .bf16 :=
  if k0_cond1 (flag (F := F) (a.1 1) (crd a t)) = 1#1 then
    k0_pay1 (iblk a m ρ c (0 : Fin 4) t) (iblk a m ρ c (1 : Fin 4) t) (iblk a m ρ c (2 : Fin 4) t)
  else k0_pay2 (F := F)

/-- Between points the body keeps its halves of the two tables. -/
def Phi (c : Dev nD) : sProp 𝕄 :=
  iprop((tab0.view.loc (c : Thread nD τ) ↦{fullShare.right} a.1 0) ∗ (tab1.view.loc (c : Thread nD τ) ↦{fullShare.right} a.1 1))

/-- The pipeline's data on core `c`. -/
def dats (_ : Fin 1) (c : Dev nD) : Dat τ (Elt F) Unit ℕ (UR sig nD τ) ℕ (pipe a) c where
  A w := (s₀ m ρ).mem (((pipe a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => oblk a m ρ c t
  Φ _ := Phi a c
  q _ := fullShare
  owed _ := 0

theorem after0 (c : Dev nD) (t : Fin (pipe a).N) : (dats a m ρ 0 c).after (0 : Fin 4) t = iblk a m ρ c (0 : Fin 4) t := rfl
theorem after1 (c : Dev nD) (t : Fin (pipe a).N) : (dats a m ρ 0 c).after (1 : Fin 4) t = iblk a m ρ c (1 : Fin 4) t := rfl
theorem after2 (c : Dev nD) (t : Fin (pipe a).N) : (dats a m ρ 0 c).after (2 : Fin 4) t = iblk a m ρ c (2 : Fin 4) t := rfl
theorem after3 (c : Dev nD) (t : Fin (pipe a).N) : (dats a m ρ 0 c).after (3 : Fin 4) t = oblk a m ρ c t := rfl

/-- An input's staging buffer holds its block when the body runs. -/
theorem before0 (c : Dev nD) (t : Fin (pipe a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (pipe a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (pipe a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The body as the pipeline calls it at point `t`. -/
abbrev bodyAt (t : Fin (pipe a).N) : Prog (TpuEff nD τ sig (Elt F) Λ₀ .tc) PUnit :=
  cc0_moe_up (crd a t) (Memref.whole main_arg0) (Memref.isWhole_whole _) (Memref.whole main_arg1) (Memref.isWhole_whole _)
    (stg0 a t) (whl0 a t) (stg1 a t) (whl1 a t) (stg2 a t) (whl2 a t) (stg3 a t) (whl3 a t)

/-- The body at point `t`, either way its test goes: from the inputs' blocks and any output block, to the output block `oblk`. -/
theorem run_body (c : Dev nD) (t : Fin (pipe a).N) (K : PUnit → sProp 𝕄) :
    iprop(((stg0 a t).view.loc (c : Thread nD τ) ↦[(stg0 a t).view.set]{fullShare} (stg0 a t).view.rep (iblk a m ρ c (0 : Fin 4) t))
      ∗ ((stg1 a t).view.loc (c : Thread nD τ) ↦[(stg1 a t).view.set]{fullShare} (stg1 a t).view.rep (iblk a m ρ c (1 : Fin 4) t))
      ∗ ((stg2 a t).view.loc (c : Thread nD τ) ↦[(stg2 a t).view.set]{fullShare} (stg2 a t).view.rep (iblk a m ρ c (2 : Fin 4) t))
      ∗ (tab0.view.loc (c : Thread nD τ) ↦{fullShare.right} a.1 0)
      ∗ (tab1.view.loc (c : Thread nD τ) ↦{fullShare.right} a.1 1)
      ∗ (∃ d, owns (c : Thread nD τ) (stg3 a t) fullShare d)
      ∗ (iprop(((stg0 a t).view.loc (c : Thread nD τ) ↦[(stg0 a t).view.set]{fullShare} (stg0 a t).view.rep (iblk a m ρ c (0 : Fin 4) t))
          ∗ ((stg1 a t).view.loc (c : Thread nD τ) ↦[(stg1 a t).view.set]{fullShare} (stg1 a t).view.rep (iblk a m ρ c (1 : Fin 4) t))
          ∗ ((stg2 a t).view.loc (c : Thread nD τ) ↦[(stg2 a t).view.set]{fullShare} (stg2 a t).view.rep (iblk a m ρ c (2 : Fin 4) t))
          ∗ (tab0.view.loc (c : Thread nD τ) ↦{fullShare.right} a.1 0)
          ∗ (tab1.view.loc (c : Thread nD τ) ↦{fullShare.right} a.1 1)
          ∗ owns (c : Thread nD τ) (stg3 a t) fullShare (oblk a m ρ c t)) -∗ K ⟨⟩))
      ⊢ wp frame (wpE (defs₀ (F := F)) Variants.none c none) Set.univ (bodyAt a t) K := by
  unfold oblk
  by_cases h : k0_cond1 (flag (F := F) (a.1 1) (crd a t)) = 1#1
  · rw [if_pos h]
    exact run_valid c (crd a t) (stg0 a t) (whl0 a t) (stg1 a t) (whl1 a t) (stg2 a t) (whl2 a t) (stg3 a t) (whl3 a t) (a.1 0) (a.1 1)
      _ _ _ h (fun h2 => (cond2_iff _).mp h2 h) K
  · rw [if_neg h]
    exact run_unused c (crd a t) (stg0 a t) (whl0 a t) (stg1 a t) (whl1 a t) (stg2 a t) (whl2 a t) (stg3 a t) (whl3 a t) (a.1 0) (a.1 1)
      _ _ _ h ((cond2_iff _).mpr h) K

set_option maxHeartbeats 4000000 in
/-- The body obligation at point `t`. -/
theorem sound_body (c : Dev nD) (t : Fin (pipe a).N) :
    iprop((dats a m ρ 0 c).Φ t.castSucc ∗ (dats a m ρ 0 c).owesAt () t.castSucc
        ∗ (∃ d, owns (c : Thread nD τ) (stg0 a t) fullShare ((dats a m ρ 0 c).before (0 : Fin 4) t d))
        ∗ (∃ d, owns (c : Thread nD τ) (stg1 a t) fullShare ((dats a m ρ 0 c).before (1 : Fin 4) t d))
        ∗ (∃ d, owns (c : Thread nD τ) (stg2 a t) fullShare ((dats a m ρ 0 c).before (2 : Fin 4) t d))
        ∗ (∃ d, owns (c : Thread nD τ) (stg3 a t) fullShare ((dats a m ρ 0 c).before (3 : Fin 4) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((dats a m ρ 0 c).before w t d))
                  | true => owns (c : Thread nD τ) (((pipe a).win w).stage ((pipe a).slots t w)) fullShare ((dats a m ρ 0 c).after w t)
                | false => owns (c : Thread nD τ) (((pipe a).win w).stage ((pipe a).slots t w)) fullShare ((dats a m ρ 0 c).after w t)) := by
  rw [bigSep_W0]
  rewrite [idle3 a]
  simp only [before0, before1, before2, after0, after1, after2, after3]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  iintro ⟨⟨HT0, HT1⟩, Ho, ⟨%d0, H0⟩, ⟨%d1, H1⟩, ⟨%d2, H2⟩, ⟨%d3, H3⟩⟩
  iapply (run_body a m ρ c t _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  iintro ⟨H0, H1, H2, HT0, HT1, H3⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexact H3

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pipes a) ((launch0 (F := F)).cellOf_inj fun _ => a))
    (Pipeline.launchToks (pipes a) ((launch0 (F := F)).cellOf_inj fun _ => a))

theorem share_eq (c : Dev nD) (w : Fin (pipe a).W) : (dats a m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

theorem phi_exit (c : Dev nD) : (dats a m ρ 0 c).Φ (Fin.last (pipe a).N) ⊢ iprop(BI.emp ∗ Pipeline.scopedRest spec0 c) := by
  rw [scopedRest0_eq, show (dats a m ρ 0 c).Φ (Fin.last (pipe a).N) = Phi a c from rfl]
  unfold Phi
  iintro ⟨-, -⟩
  isplitr; · iempintro
  iempintro

/-- The launch memory holds the tables `a`. -/
def Holds : Prop := ∀ (c : Dev nD) (j : Fin 2), m ((c : Thread nD τ).loc (pre0.ref j)) = a.1 j

/-- What the run leaves: every window's array at the pipeline's contents, the tables as they were. -/
def Post : PUnit × MemSt nD τ sig (Elt F) → Prop := fun r =>
  ∀ c : Dev nD, (∀ w : Fin (pipe a).W, r.2.mem (((pipe a).win w).arr.view.loc (c : Thread nD τ)) = (dats a m ρ 0 c).arrAt w (pipe a).N)
    ∧ ∀ j, r.2.mem ((c : Thread nD τ).loc (pre0.ref j)) = a.1 j

set_option backward.isDefEq.respectTransparency.types false in
set_option maxHeartbeats 4000000 in
/-- Every execution from a memory that holds admissible tables ends, with the arrays at the pipeline's contents and the semaphores at zero. -/
theorem run_quiescent (hp : Holds a m) :
    θ_run (defs (F := F)) (onTc (τ := τ) (main (F := F))) (s₀ m ρ) (fun r => Post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_unchanged (hp : Holds a m) (r : PUnit × MemSt nD τ sig (Elt F)) (h : Post a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp c 0).symm, ((h c).2 1).trans (hp c 1).symm, ((h c).1 (0 : Fin 4)).trans ((dats a m ρ 0 c).arrAt_in (0 : Fin 4) rfl _),
    ((h c).1 (1 : Fin 4)).trans ((dats a m ρ 0 c).arrAt_in (1 : Fin 4) rfl _), ((h c).1 (2 : Fin 4)).trans ((dats a m ρ 0 c).arrAt_in (2 : Fin 4) rfl _)⟩

/-! ## Tables in range are admissible -/

/-- A block is inside its array, axis by axis. -/
theorem axis_cons {n x lo hi : ℕ} {f g h : Fin n → ℕ} (h0 : (x + 1) * lo ≤ hi) (hr : ∀ b, (f b + 1) * g b ≤ h b) :
    ∀ b : Fin (n + 1), (Matrix.vecCons x f b + 1) * Matrix.vecCons lo g b ≤ Matrix.vecCons hi h b := by
  refine Fin.cases ?_ ?_
  · simpa only [Matrix.cons_val_zero] using h0
  · intro b; simpa only [Matrix.cons_val_succ] using hr b

/-- The column tile of a grid point is 0 or 1. -/
theorem col_le (i : grid0.Coords) : ((BitVec.ofNat 32 (i 0).val).toNat + 1) * 1408 ≤ 2816 := by
  have h : (i 0).val < 2 := (i 0).isLt
  rw [BitVec.toNat_ofNat, Nat.mod_eq_of_lt (by omega)]
  omega

variable {a}

/-- Tables whose words are experts' numbers are admissible. -/
theorem ok_of_range (T : pre0.Contents (Elt F)) (hT : ∀ x : S88.Idx, (T 0 x : BitVec 32).toNat < 8) : ok0 (F := F) T := by
  constructor
  · intro i
    refine ⟨axis_cons ?_ (axis_cons (by decide) (axis_cons (col_le i) fun b => b.elim0)), .inr (Affine.block_words_dvd (by decide) (by decide))⟩
    have := hT ((Rect.unit (s := S88) (k0_off1 i) S1.size (k0_off1_inb i)).emb (Shape.Idx.first (numel1_S1.symm ▸ Nat.one_pos)))
    exact Nat.le_trans (Nat.le_of_eq (Nat.mul_one _)) this
  · intro i
    refine ⟨axis_cons ?_ (axis_cons (by decide) (axis_cons (col_le i) fun b => b.elim0)), .inr (Affine.block_words_dvd (by decide) (by decide))⟩
    have := hT ((Rect.unit (s := S88) (k0_off1 i) S1.size (k0_off1_inb i)).emb (Shape.Idx.first (numel1_S1.symm ▸ Nat.one_pos)))
    exact Nat.le_trans (Nat.le_of_eq (Nat.mul_one _)) this

end Cert.Up.Routed

end
-- ==== Proof.UpValue.lean ====
/-
  The routed experts' gated projection: what the pipelined kernel leaves in its result array is the
  reference's own term of the five arguments, when the tile table's words are experts' numbers.

  The reference projects every row through all eight experts and keeps, by a one-hot mask, the row's own
  expert (`routed_apply`: the sum over the experts has one term).  The kernel fetches only that expert's
  weights, by the tile table (`idx1`).
-/
module

public import proofs.«01_k».proof.Proof.UpFrame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Up.Routed

open Cert.Up Cert.Up.Gen

/-- One projection of every row by every expert. -/
abbrev proj (x : FVec Ideal S22528x2048 .bf16) (w : FVec Ideal S8x2048x2816 .bf16) : FVec Ideal Cert.UpRefIdeal.S22528x8x2816 .f32 :=
  Host.dotGeneral (F := Ideal) (φ₁ := .f32) (φ₂ := .f32) Cert.UpRefIdeal.dot_S22528x2048_S8x2048x2816_S22528x8x2816_1_1_0_02_n_n none
    (extf .f32 x Cert.UpRefIdeal.Gen.bitsLt_bf16_f32) (extf .f32 w Cert.UpRefIdeal.Gen.bitsLt_bf16_f32)

/-- `k / 256` for a row `k`, as an index of the tile tables. -/
abbrev tileOf (k : Fin 22528) : S88.Idx := ix1 ⟨k.val / 256, (Nat.div_lt_iff_lt_mul (by decide)).mpr k.isLt⟩

/-- The pairs (row, expert) with the row in a valid tile of that expert. -/
abbrev mask (T0 T1 : S88.Idx → BitVec 32) : IVec Cert.UpRefIdeal.S22528x8 1 :=
  andi (cmpi .eq (broadcastInDim Cert.UpRefIdeal.S22528x8 ![0, 1] Cert.UpRefIdeal.Gen.bcast_S22528x1_S22528x8_0_1 (broadcastInDim Cert.UpRefIdeal.S22528x1 ![0] Cert.UpRefIdeal.Gen.bcast_S22528_S22528x1_0 (shapeCast _ (broadcastInDim Cert.UpRefIdeal.S88x256 ![0] Cert.UpRefIdeal.Gen.bcast_S88_S88x256_0 T0) Cert.UpRefIdeal.Gen.shapeCasts_S88x256_S22528)))
      (broadcastInDim Cert.UpRefIdeal.S22528x8 ![0, 1] Cert.UpRefIdeal.Gen.bcast_S1x8_S22528x8_0_1 (broadcastInDim Cert.UpRefIdeal.S1x8 ![1] Cert.UpRefIdeal.Gen.bcast_S8_S1x8_1 (iotaInDim Cert.UpRefIdeal.S8 32 0))))
    (broadcastInDim Cert.UpRefIdeal.S22528x8 ![0, 1] Cert.UpRefIdeal.Gen.bcast_S22528x1_S22528x8_0_1 (broadcastInDim Cert.UpRefIdeal.S22528x1 ![0] Cert.UpRefIdeal.Gen.bcast_S22528_S22528x1_0
      (cmpi .ne (shapeCast _ (broadcastInDim Cert.UpRefIdeal.S88x256 ![0] Cert.UpRefIdeal.Gen.bcast_S88_S88x256_0 T1) Cert.UpRefIdeal.Gen.shapeCasts_S88x256_S22528)
        (broadcastInDim Cert.UpRefIdeal.S22528 ![] Cert.UpRefIdeal.Gen.bcast_S_S22528 (constantI Cert.UpRefIdeal.S_ 32 0#32)))))

/-- The reference's composed term: each row's gated product by its own expert, zero in unused tiles. -/
abbrev routed (T0 T1 : S88.Idx → BitVec 32) (x : FVec Ideal S22528x2048 .bf16) (g u : FVec Ideal S8x2048x2816 .bf16) : FVec Ideal S22528x2816 .bf16 :=
  truncf .bf16 (Host.reduceAdd (select (broadcastInDim Cert.UpRefIdeal.S22528x8x2816 ![0, 1, 2] Cert.UpRefIdeal.Gen.bcast_S22528x8x1_S22528x8x2816_0_1_2
      (broadcastInDim Cert.UpRefIdeal.S22528x8x1 ![0, 1] Cert.UpRefIdeal.Gen.bcast_S22528x8_S22528x8x1_0_1 (mask T0 T1)))
    (mulf (mulf (proj x g) (Host.divf (broadcastInDim Cert.UpRefIdeal.S22528x8x2816 ![] Cert.UpRefIdeal.Gen.bcast_S_S22528x8x2816 (constant Cert.UpRefIdeal.S_ .f32 0x3F800000#32))
      (addf (broadcastInDim Cert.UpRefIdeal.S22528x8x2816 ![] Cert.UpRefIdeal.Gen.bcast_S_S22528x8x2816 (constant Cert.UpRefIdeal.S_ .f32 0x3F800000#32)) (Host.exp (Host.negf (proj x g)))))) (proj x u))
    (broadcastInDim Cert.UpRefIdeal.S22528x8x2816 ![] Cert.UpRefIdeal.Gen.bcast_S_S22528x8x2816 (id (constant Cert.UpRefIdeal.S_ .f32 0x00000000#32))))
    (constant Cert.UpRefIdeal.S_ .f32 0x00000000#32) Cert.UpRefIdeal.Gen.reducesTo_S22528x8x2816_S22528x2816_d1 Cert.UpRefIdeal.Gen.h_S_) Cert.UpRefIdeal.Gen.bitsLt_bf16_f32

/-- One element of a projection: row `r` of `x` times column `f` of expert `e`'s matrix. -/
abbrev dotAt (x : FVec Ideal S22528x2048 .bf16) (w : FVec Ideal S8x2048x2816 .bf16) (r : Fin 22528) (e : Fin 8) (f : Fin 2816) : EReal :=
  ∑ k : Fin 2048, x (ix2 r k) * w (ix3 e k f)

/-- One element of the gated product by expert `e`. -/
abbrev gatedAt (x : FVec Ideal S22528x2048 .bf16) (g u : FVec Ideal S8x2048x2816 .bf16) (r : Fin 22528) (e : Fin 8) (f : Fin 2816) : EReal :=
  dotAt x g r e f * Ideal.div 1 (1 + Ideal.exp (-dotAt x g r e f)) * dotAt x u r e f

/-- The mask's word for an expert in range: set just at the row's own expert, in a valid tile. -/
theorem mask_word (w v : BitVec 32) (e : Fin 8) (hw : w.toNat < 8) :
    IntOp.andi (IntOp.cmpi .eq w (BitVec.ofNat 32 e.val)) (IntOp.cmpi .ne v 0#32) = 1#1 ↔ e = ⟨w.toNat, hw⟩ ∧ v ≠ 0#32 := by
  have he : w = BitVec.ofNat 32 e.val ↔ e = ⟨w.toNat, hw⟩ := by
    constructor
    · intro h
      apply Fin.ext
      have := congrArg BitVec.toNat h
      rw [BitVec.toNat_ofNat, Nat.mod_eq_of_lt (by omega)] at this
      exact this.symm
    · intro h
      rw [h]
      simp
  rw [← he]
  have h (p q : Bool) : BitVec.ofBool p &&& BitVec.ofBool q = 1#1 ↔ p = true ∧ q = true := by cases p <;> cases q <;> decide
  exact (h _ _).trans (and_congr beq_iff_eq bne_iff_ne)

/-- Subtraction from zero is negation. -/
theorem zero_minus (a : EReal) : 0 - a = -a := by
  rw [sub_eq_add_neg, zero_add]

/-- The reference at an index: the row's own expert's gated product, or zero in an unused tile. -/
theorem routed_apply (T0 T1 : S88.Idx → BitVec 32) (hT : ∀ x, (T0 x).toNat < 8) (x : FVec Ideal S22528x2048 .bf16) (g u : FVec Ideal S8x2048x2816 .bf16)
    (i : S22528x2816.Idx) :
    routed T0 T1 x g u i = if T1 (tileOf (i 0)) = 0#32 then 0 else gatedAt x g u (i 0) ⟨(T0 (tileOf (i 0))).toNat, hT _⟩ (i 1) := by
  pointwise [routed, mask, proj]
  have hz : (id (constant (F := Ideal) Cert.UpRefIdeal.S_ FTy.f32 0x00000000#32) Idealize.ShloMosaic.ix0 : EReal) = 0 := by
    rw [id]
    pointwise
  rw [hz]
  by_cases hv : T1 (tileOf (i 0)) = 0#32
  · rw [if_pos hv]
    exact Finset.sum_eq_zero fun e _ => if_neg fun h => ((mask_word _ _ e (hT _)).mp h).2 hv
  · rw [if_neg hv, Finset.sum_eq_single ⟨(T0 (tileOf (i 0))).toNat, hT _⟩]
    · exact if_pos ((mask_word _ _ _ (hT _)).mpr ⟨rfl, hv⟩)
    · exact fun e _ he => if_neg fun h => he ((mask_word _ _ e (hT _)).mp h).1
    · exact fun h => absurd (Finset.mem_univ _) h

/-- The same with the row's tile given. -/
theorem routed_tile (T0 T1 : S88.Idx → BitVec 32) (hT : ∀ x, (T0 x).toNat < 8) (x : FVec Ideal S22528x2048 .bf16) (g u : FVec Ideal S8x2048x2816 .bf16)
    (i : S22528x2816.Idx) (k : S88.Idx) (hk : tileOf (i 0) = k) :
    routed T0 T1 x g u i = if T1 k = 0#32 then 0 else gatedAt x g u (i 0) ⟨(T0 k).toNat, hT k⟩ (i 1) := by
  subst hk
  exact routed_apply T0 T1 hT x g u i

/-- The block each window is on at point `t`: row tile `t % 88`, column tile `t / 88`. -/
theorem idx_fixed : ∀ t : Fin grid0.N, cc0_transform_0 (grid0.coords t) = ![t.val % 88, 0] ∧ cc0_transform_3 (grid0.coords t) = ![t.val % 88, t.val / 88]
    ∧ (grid0.coords t 0).val = t.val / 88 ∧ (grid0.coords t 1).val = t.val % 88 ∧ (BitVec.ofNat 32 (grid0.coords t 0).val).toNat = t.val / 88
    ∧ k0_off1 (grid0.coords t) = ![t.val % 88] := by decide +kernel

variable (a : (pcfg0 (F := Ideal)).Adm)

/-- The two tables. -/
abbrev word0 : S88.Idx → BitVec 32 := a.1 0
abbrev word1 : S88.Idx → BitVec 32 := a.1 1

/-- The tile a grid point works on, as an index of the tables. -/
abbrev tileAt (t : Fin (pipe a).N) : S88.Idx := ix1 ⟨t.val % 88, Nat.mod_lt _ (by decide)⟩

/-- Where the table is read at point `t`. -/
theorem loadAt (t : Fin (pipe a).N) : (Rect.unit (s := S88) (k0_off1 (grid0.coords t)) S1.size (k0_off1_inb (grid0.coords t))).emb
    (Shape.Idx.first (numel1_S1.symm ▸ Nat.one_pos)) = tileAt a t := by
  have h1 := (idx_fixed t).2.2.2.2.2
  funext b
  apply Fin.ext
  show k0_off1 (grid0.coords t) b + 0 * 1 = _
  rw [h1]
  fin_cases b
  rfl

/-- The weights' block at point `t`: the expert that the table names. -/
theorem idx_expert (t : Fin (pipe a).N) : cc0_transform_1 k0_off1_inb numel1_S1 a.1 (grid0.coords t) = ![(word0 a (tileAt a t)).toNat, 0, t.val / 88] := by
  have h0 := (idx_fixed t).2.2.2.2.1
  have e := loadAt a t
  show ![(word0 a _).toNat, 0, (BitVec.ofNat 32 (grid0.coords t 0).val).toNat] = _
  rw [h0]
  exact congrArg (fun j => ![(word0 a j).toNat, 0, t.val / 88]) e

theorem idx (t : Fin (pipe a).N) : ((pcfg0 (F := Ideal)).win a (0 : Fin 4)).index t = ![t.val % 88, 0]
    ∧ ((pcfg0 (F := Ideal)).win a (1 : Fin 4)).index t = ![(word0 a (tileAt a t)).toNat, 0, t.val / 88]
    ∧ ((pcfg0 (F := Ideal)).win a (2 : Fin 4)).index t = ![(word0 a (tileAt a t)).toNat, 0, t.val / 88]
    ∧ ((pcfg0 (F := Ideal)).win a (3 : Fin 4)).index t = ![t.val % 88, t.val / 88] :=
  ⟨(idx_fixed t).1, idx_expert a t, idx_expert a t, (idx_fixed t).2.1⟩

variable (m : (ℓ : Loc nD τ sig) → Buf (Elt Ideal) ℓ) (ρ : Dev nD → PrngReg)

/-- One stored element of a valid tile. -/
theorem point (hT : ∀ x, (word0 a x).toNat < 8) (c : Dev nD) (t : Fin (pipe a).N) (y) :
    k0_pay1 (iblk a m ρ c (0 : Fin 4) t) (iblk a m ρ c (1 : Fin 4) t) (iblk a m ρ c (2 : Fin 4) t) y
      = gatedAt (m ((c : Thread nD τ).loc main_arg2)) (m ((c : Thread nD τ).loc main_arg3)) (m ((c : Thread nD τ).loc main_arg4))
          ((((pipe a).win (3 : Fin 4)).blk t).view.emb y (0 : Fin 2)) ⟨(word0 a (tileAt a t)).toNat, hT _⟩ ((((pipe a).win (3 : Fin 4)).blk t).view.emb y (1 : Fin 2)) := by
  pointwise [k0_pay1, gatedAt, dotAt]
  simp only [zero_minus]
  blk_point [iblk, idx a t]

/-- A table whose words are all zero, and the pipeline at it: the output window is the same at every table. -/
abbrev zeroTab : (pcfg0 (F := Ideal)).Adm := ⟨fun | 0 => fun _ => (0#32 : BitVec 32) | 1 => fun _ => (0#32 : BitVec 32) | ⟨_ + 2, h⟩ => absurd h (Nat.not_lt.2 (Nat.le_add_left _ _)), ok_of_range _ fun _ => (by decide : (0#32 : BitVec 32).toNat < 8)⟩

/-- The stored blocks cover the result array. -/
theorem covers : ((pipe a).win (3 : Fin 4)).Covers := by
  show ((pipe zeroTab).win (3 : Fin 4)).Covers
  decide +kernel

/-- The word that the body tests, by its place in the table. -/
theorem flag_eq (T1 : S88.Idx → BitVec 32) (t : Fin (pipe a).N) : flag (F := Ideal) T1 (crd a t) = T1 (tileAt a t) :=
  congrArg T1 (loadAt a t)

/-- The first condition holds when the word is not zero. -/
theorem cond1_iff (w : BitVec 32) : k0_cond1 w = 1#1 ↔ w ≠ 0#32 := by
  unfold k0_cond1
  by_cases h : w = 0#32
  · rw [h]
    decide
  · have e : IntOp.cmpi CmpIPredicate.ne w 0#32 = 1#1 := by simp only [IntOp.cmpi, bne_iff_ne.mpr h]; rfl
    simp only [Scalar.cmpi, Scalar.extui, e, ne_eq, h, not_false_eq_true, iff_true]
    decide

/-- The stored block of a valid tile, -/
theorem oblk_valid (c : Dev nD) (t : Fin (pipe a).N) (h : word1 a (tileAt a t) ≠ 0#32) :
    oblk a m ρ c t = k0_pay1 (iblk a m ρ c (0 : Fin 4) t) (iblk a m ρ c (1 : Fin 4) t) (iblk a m ρ c (2 : Fin 4) t) :=
  if_pos ((cond1_iff _).mpr fun e => h ((flag_eq a (word1 a) t).symm.trans e))

/-- and of an unused one. -/
theorem oblk_unused (c : Dev nD) (t : Fin (pipe a).N) (h : word1 a (tileAt a t) = 0#32) : oblk a m ρ c t = k0_pay2 (F := Ideal) :=
  if_neg fun e => (cond1_iff _).mp e ((flag_eq a (word1 a) t).trans h)

/-- The tile of a stored element's row is the point's. -/
theorem tile_row (t : Fin (pipe a).N) (y) : tileOf ((((pipe a).win (3 : Fin 4)).blk t).view.emb y (0 : Fin 2)) = tileAt a t := by
  refine congrArg ix1 (Fin.ext ?_)
  blk_point [idx a t]
  exact Fin.ext (by dsimp only; omega)

/-- The result array after the run. -/
theorem final (hT : ∀ x, (word0 a x).toNat < 8) (c : Dev nD) : (dats a m ρ 0 c).arrAt (3 : Fin 4) (pipe a).N
    = routed (word0 a) (word1 a) (m ((c : Thread nD τ).loc main_arg2)) (m ((c : Thread nD τ).loc main_arg3)) (m ((c : Thread nD τ).loc main_arg4)) := by
  refine (dats a m ρ 0 c).arrAt_eq_of_covers (3 : Fin 4) _ (covers a) fun t _ y => ?_
  blk_simp
  rw [after3]
  refine Eq.trans ?_ (routed_tile _ _ hT _ _ _ _ (tileAt a t) (tile_row a t y)).symm
  by_cases hv : word1 a (tileAt a t) = 0#32
  · rw [if_pos hv, oblk_unused a m ρ c t hv]
    pointwise [k0_pay2]
  · rw [if_neg hv, oblk_valid a m ρ c t hv]
    exact point a m ρ hT c t y

end Cert.Up.Routed
-- ==== Proof.UpRun.lean ====
/-
  The routed experts' gated projection, joined: its runs from a memory whose tile table holds experts'
  numbers, in the form the claims ask for.

  The idealised program is the same program read over the extended reals, so what `UpFrame.lean` and
  `UpValue.lean` say of the first holds of the second (`same_defs`, `transfer`).
-/
module

public import proofs.«01_k».proof.Proof.UpValue

@[expose] public section

set_option maxRecDepth 16384

noncomputable section

open Idealize.ShloMosaic Idealize.ShloMosaic.TcCoe Idealize.SL.Sem

namespace Cert.Up.Routed

open Cert.Up Cert.Up.Gen

section
variable {F : FTy → Type} [FloatOps F]

/-- A word that is at least zero and below eight, both read with its sign, is below eight as a number. -/
theorem lt_eight (w : BitVec 32) (h : BitVec.ofBool ((0#32 : BitVec 32).sle w) &&& BitVec.ofBool (w.slt 8#32) = 1#1) : w.toNat < 8 := by
  have hb (p q : Bool) : BitVec.ofBool p &&& BitVec.ofBool q = 1#1 → p = true ∧ q = true := by cases p <;> cases q <;> decide
  obtain ⟨h0, h8⟩ := hb _ _ h
  rw [BitVec.sle_eq_decide, decide_eq_true_eq] at h0
  rw [BitVec.slt_eq_decide, decide_eq_true_eq] at h8
  have := w.isLt
  simp only [BitVec.toInt_eq_toNat_cond] at h0 h8
  simp at h0 h8
  split at h0 <;> omega

/-- The precondition, word by word: every expert's number is below eight. -/
theorem range_of (T0 T1 : S88.Idx → BitVec 32) (x : FVec F S22528x2048 .bf16) (g u : FVec F S8x2048x2816 .bf16)
    (h : Cert.Pre_in_range.fn (F := F) T0 T1 x g u = fun _ => 1#1) (k : S88.Idx) : (T0 k).toNat < 8 :=
  lt_eight _ (congrFun h k)

variable (m : (ℓ : Loc nD τ sig) → Buf (Elt F) ℓ) (ρ : Dev nD → PrngReg)

/-- The memory's tile table holds experts' numbers. -/
def InRange : Prop := ∀ k : S88.Idx, (m (((0 : Dev nD) : Thread nD τ).loc main_arg0) k : BitVec 32).toNat < 8

/-- The tables in such a memory. -/
def adm (h : InRange m) : (pcfg0 (F := F)).Adm :=
  ⟨fun j => m (((0 : Dev nD) : Thread nD τ).loc (pre0.ref j)), ok_of_range _ h⟩

theorem holds (h : InRange m) : Holds (adm m h) m := fun c j => by
  obtain rfl : c = 0 := Subsingleton.elim _ _
  rfl

/-- Every execution ends, with the arguments as they were and the semaphores at zero. -/
theorem frame (h : InRange m) : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r hr => ⟨fun c => args_unchanged (adm m h) m ρ (holds m h) r hr.1 c, hr.2⟩)
    (run_quiescent (adm m h) m ρ (holds m h))

end

variable (m : (ℓ : Loc nD τ sig) → Buf (Elt Ideal) ℓ) (ρ : Dev nD → PrngReg)

/-- The same at the extended reals with the result: the reference's term of the arguments. -/
theorem run_value (h : InRange m) : θ_run (defs (F := Ideal)) (onTc (τ := τ) (main (F := Ideal))) ⟨m, fun _ => 0, ρ⟩ fun r => ∀ c : Dev nD,
    r.2.mem ((c.tc : Thread nD τ).loc main_v0) = routed (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr.1 c).1 (3 : Fin 4)).trans ((final (adm m h) m ρ h c).trans (by
        obtain rfl : c = 0 := Subsingleton.elim _ _
        rfl)), args_unchanged (adm m h) m ρ (holds m h) r hr.1 c⟩)
    (run_quiescent (adm m h) m ρ (holds m h))

/-! ## The idealised program -/

set_option backward.isDefEq.respectTransparency.types false in
set_option maxHeartbeats 1000000 in
theorem same_defs₀ : Cert.UpIdeal.defs₀ (F := Ideal) = Cert.Up.defs₀ (F := Ideal) :=
  congrArg Defs.onTc (funext fun l => funext fun x => by
    match l, x with
    | ⟨0, _⟩, (t, s) => rfl)

set_option backward.isDefEq.respectTransparency.types false in
set_option maxHeartbeats 1000000 in
/-- The two programs' functions are the same over the extended reals. -/
theorem same_defs : Cert.UpIdeal.defs (F := Ideal) = Cert.Up.defs (F := Ideal) :=
  congrArg (Pipeline.defs (Cert.Up.pcfgs (F := Ideal))) same_defs₀

set_option backward.isDefEq.respectTransparency.types false in
set_option maxHeartbeats 1000000 in
/-- What holds of the program's runs holds of the idealised program's. -/
theorem transfer (m : (ℓ : Loc Cert.UpIdeal.nD Cert.UpIdeal.τ Cert.UpIdeal.sig) → Buf (Elt Ideal) ℓ) (g : Dev Cert.UpIdeal.nD → PrngReg)
    (Q : PUnit × MemSt Cert.UpIdeal.nD Cert.UpIdeal.τ Cert.UpIdeal.sig (Elt Ideal) → Prop)
    (h : θ_run (Cert.Up.defs (F := Ideal)) (onTc (τ := Cert.Up.τ) (Cert.Up.main (F := Ideal))) ⟨m, fun _ => 0, g⟩ Q) :
    θ_run (Cert.UpIdeal.defs (F := Ideal)) (onTc (τ := Cert.UpIdeal.τ) (Cert.UpIdeal.main (F := Ideal))) ⟨m, fun _ => 0, g⟩ Q := by
  rw [same_defs]
  exact h

/-! ## The claims -/

/-- The program runs and leaves its arguments. -/
theorem frame_P : Cert.quiescent_Up := fun m g h => frame m g (range_of _ _ _ _ _ (h 0))

set_option backward.isDefEq.respectTransparency.types false in
/-- The idealised program likewise. -/
theorem frame_PI : Cert.quiescent_UpIdeal := fun m g h => transfer m g _ (frame m g (range_of _ _ _ _ _ (h 0)))

/-- The reference likewise. -/
theorem frame_RI : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

set_option backward.isDefEq.respectTransparency.types false in
set_option maxHeartbeats 1000000 in
/-- The routed projection is the reference's. -/
theorem algebraic : Cert.algebraic_UpIdeal_UpRefIdeal := fun m g m' g' h hm =>
  ⟨fun c => routed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    transfer m g _ (run_value m g (range_of _ _ _ _ _ (h 0))),
    (θ_run Cert.UpRefIdeal.defs _ _).mono (fun r hr c => ⟨(hr c).1.trans (by
        obtain ⟨h0, h1, h2, h3, h4⟩ := hm c
        rw [h0, h1, h2, h3, h4]), (hr c).2⟩)
      (Cert.UpRefIdeal.Value.run (F := Ideal) m' g')⟩

end Cert.Up.Routed
-- ==== Proof.DownFrame.lean ====
/-
  The routed experts' down projection: the launch, at any tile tables whose expert numbers are in range.

  The grid is 88 row tiles; as in `UpFrame.lean` two tables name each tile's expert and say whether the
  tile is used, and everything is stated at an admissible pair of tables `a`.
-/
module

public import proofs.«01_k».proof.Proof.UpFrame
public import proofs.«01_k».proof.Proof.Gen.Down
public import proofs.«01_k».proof.Proof.Gen.Down.Launch
public import proofs.«01_k».proof.Proof.Gen.Down.Skeleton
public import proofs.«01_k».proof.Proof.Gen.DownIdeal
public import proofs.«01_k».proof.Proof.Gen.DownIdeal.Launch
public import proofs.«01_k».proof.Proof.Gen.DownIdeal.Skeleton
public import proofs.«01_k».proof.Proof.Gen.DownRefIdeal.Run
public import proofs.«01_k».proof.Proof.Gen.Pre_in_range_down
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.Adequacy
public import Idealize.ShloMosaic.Init

@[expose] public section

set_option maxRecDepth 16384
set_option Elab.async false

noncomputable section

namespace Cert.Down.Routed

open Cert.Down Cert.Down.Gen
open Cert.Up.Routed (axis_cons)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables as the body is handed them. -/
abbrev tab0 : Memref sig .tc .smem S88 .i32 := Memref.whole main_arg0
abbrev tab1 : Memref sig .tc .smem S88 .i32 := Memref.whole main_arg1

/-- The word of the second table that the body tests at `i`. -/
abbrev flag (T1 : S88.Idx → Elt F .i32) (i : grid0.Coords) : Elt F .i32 :=
  View.readAt (Elt F) tab1.view (Rect.unit (s := S88) (k0_off1 i) S1.size (k0_off1_inb i)).toLoadRect T1
    (Shape.Idx.first (numel1_S1.symm ▸ Nat.one_pos))

/-- The two conditions exclude one another, and one of them holds. -/
theorem cond2_iff (w : BitVec 32) : k0_cond2 w = 1#1 ↔ ¬ k0_cond1 w = 1#1 := Cert.Up.Routed.cond2_iff w

set_option maxHeartbeats 4000000 in
/-- At a valid tile the body leaves the scaled product of its blocks. -/
theorem run_valid (c : Dev nD) (i : grid0.Coords) (arg4 : Memref sig .tc .vmem S256x2816 .bf16) (harg4 : arg4.IsWhole)
    (arg5 : Memref sig .tc .vmem S1x2816x2048 .bf16) (harg5 : arg5.IsWhole) (arg6 : Memref sig .tc .vmem S256x1 .f32) (harg6 : arg6.IsWhole)
    (arg7 : Memref sig .tc .vmem S256x2048 .bf16) (harg7 : arg7.IsWhole) (T0 T1 : S88.Idx → Elt F .i32)
    (x0 : S256x2816.Idx → Elt F .bf16) (x1 : S1x2816x2048.Idx → Elt F .bf16) (x2 : S256x1.Idx → Elt F .f32)
    (k0_h1 : k0_cond1 (flag (F := F) T1 i) = 1#1) (k0_h2 : ¬ k0_cond2 (flag (F := F) T1 i) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tab0.view.loc (c : Thread nD τ) ↦{fullShare.right} T0)
      ∗ (tab1.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tab0.view.loc (c : Thread nD τ) ↦{fullShare.right} T0)
          ∗ (tab1.view.loc (c : Thread nD τ) ↦{fullShare.right} T1)
          ∗ owns (c : Thread nD τ) arg7 fullShare (k0_pay1 x0 x1 x2)) -∗ K ⟨⟩))
      ⊢ wp frame (wpE (defs₀ (F := F)) Variants.none c none) Set.univ
          (cc0_moe_down i tab0 (Memref.isWhole_whole _) tab1 (Memref.isWhole_whole _) arg4 harg4 arg5 harg5 arg6 harg6 arg7 harg7) K := by
  unfold owns
  rw [cc0_moe_down_eq_skeleton]; unfold cc0_moe_down_skel
  iintro ⟨H0, H1, H2, HT0, HT1, ⟨%d3, %f3, -, HO3⟩, Hk⟩
  have hT0 : tab0.IsWhole := Memref.isWhole_whole _
  have hT1 : tab1.IsWhole := Memref.isWhole_whole _
  sl_exec! (disch := first | (guard_target = k0_cond1 _ = _; exact k0_h1) | (guard_target = ¬ (k0_cond2 _ = _); exact k0_h2))
  sl_step
  iapply Hk
  isplitl [H0]; · iexact H0
  isplitl [H1]; · iexact H1
  isplitl [H2]; · iexact H2
  isplitl [HT0]; · iexact HT0
  isplitl [HT1]; · iexact HT1
  iexists _
  isplitr; swap
  · iexact HO3
  · ipureintro
    frame_out
    simp only [View.read_rep]

set_option maxHeartbeats 4000000 in
/-- At an unused tile it leaves zeros. -/
theorem run_unused (c : Dev nD) (i : grid0.Coords) (arg4 : Memref sig .tc .vmem S256x2816 .bf16) (harg4 : arg4.IsWhole)
    (arg5 : Memref sig .tc .vmem S1x2816x2048 .bf16) (harg5 : arg5.IsWhole) (arg6 : Memref sig .tc .vmem S256x1 .f32) (harg6 : arg6.IsWhole)
    (arg7 : Memref sig .tc .vmem S256x2048 .bf16) (harg7 : arg7.IsWhole) (T0 T1 : S88.Idx → Elt F .i32)
    (x0 : S256x2816.Idx → Elt F .bf16) (x1 : S1x2816x2048.Idx → Elt F .bf16) (x2 : S256x1.Idx → Elt F .f32)
    (k0_h1 : ¬ k0_cond1 (flag (F := F) T1 i) = 1#1) (k0_h2 : k0_cond2 (flag (F := F) T1 i) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tab0.view.loc (c : Thread nD τ) ↦{fullShare.right} T0)
      ∗ (tab1.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tab0.view.loc (c : Thread nD τ) ↦{fullShare.right} T0)
          ∗ (tab1.view.loc (c : Thread nD τ) ↦{fullShare.right} T1)
          ∗ owns (c : Thread nD τ) arg7 fullShare (k0_pay2 (F := F))) -∗ K ⟨⟩))
      ⊢ wp frame (wpE (defs₀ (F := F)) Variants.none c none) Set.univ
          (cc0_moe_down i tab0 (Memref.isWhole_whole _) tab1 (Memref.isWhole_whole _) arg4 harg4 arg5 harg5 arg6 harg6 arg7 harg7) K := by
  unfold owns
  rw [cc0_moe_down_eq_skeleton]; unfold cc0_moe_down_skel
  iintro ⟨H0, H1, H2, HT0, HT1, ⟨%d3, %f3, -, HO3⟩, Hk⟩
  have hT0 : tab0.IsWhole := Memref.isWhole_whole _
  have hT1 : tab1.IsWhole := Memref.isWhole_whole _
  sl_exec! (disch := first | (guard_target = ¬ (k0_cond1 _ = _); exact k0_h1) | (guard_target = k0_cond2 _ = _; exact k0_h2))
  sl_step
  iapply Hk
  isplitl [H0]; · iexact H0
  isplitl [H1]; · iexact H1
  isplitl [H2]; · iexact H2
  isplitl [HT0]; · iexact HT0
  isplitl [HT1]; · iexact HT1
  iexists _
  isplitr; swap
  · iexact HO3
  · ipureintro
    frame_out

/-! ## The pipeline at admissible tables -/

variable (a : (pcfg0 (F := F)).Adm)

/-- The pipeline at the tables `a`, with its coordinates, and as the program's one. -/
abbrev pipe : Pipeline.Cfg sig Λ₀ := cfg0 (F := F) a
abbrev pipes : Fin 1 → Pipeline.Cfg sig Λ₀ := Pipeline.pin (pcfgs (F := F)) fun _ => a
abbrev crd (t : Fin (pipe a).N) : (pipe a).grid.Coords := (pipe a).grid.coords t

/-- The staging buffers that the body is handed at point `t`. -/
abbrev stg0 (t : Fin (pipe a).N) : Memref sig .tc .vmem S256x2816 .bf16 := spec0_0.stage ((pipe a).slots t (0 : Fin 4))
abbrev whl0 (t : Fin (pipe a).N) : (stg0 a t).IsWhole := hstage0_0 (((pipe a).slots t (0 : Fin 4)).cast nbuf0_0)
abbrev stg1 (t : Fin (pipe a).N) : Memref sig .tc .vmem S1x2816x2048 .bf16 := spec0_1.stage ((pipe a).slots t (1 : Fin 4))
abbrev whl1 (t : Fin (pipe a).N) : (stg1 a t).IsWhole := hstage0_1 (((pipe a).slots t (1 : Fin 4)).cast nbuf0_1)
abbrev stg2 (t : Fin (pipe a).N) : Memref sig .tc .vmem S256x1 .f32 := spec0_2.stage ((pipe a).slots t (2 : Fin 4))
abbrev whl2 (t : Fin (pipe a).N) : (stg2 a t).IsWhole := hstage0_2 (((pipe a).slots t (2 : Fin 4)).cast nbuf0_2)
abbrev stg3 (t : Fin (pipe a).N) : Memref sig .tc .vmem S256x2048 .bf16 := spec0_3.stage ((pipe a).slots t (3 : Fin 4))
abbrev whl3 (t : Fin (pipe a).N) : (stg3 a t).IsWhole := hstage0_3 (((pipe a).slots t (3 : Fin 4)).cast nbuf0_3)

/-- The output block is stored at every point. -/
theorem idle3 (i : grid0.Coords) : (pipe a).idle (3 : Fin 4) i = false := by
  show (!(k0_cond1 (a.1.atD 1 (k0_off1 i)) == 1#1) && !(k0_cond2 (a.1.atD 1 (k0_off1 i)) == 1#1)) = false
  by_cases h : k0_cond1 (a.1.atD 1 (k0_off1 i)) = 1#1
  · rw [h]; rfl
  · rw [(cond2_iff _).mpr h]; simp

variable (m : (ℓ : Loc nD τ sig) → Buf (Elt F) ℓ) (ρ : Dev nD → PrngReg)

/-- Window `w`'s block at point `t`, of its array at launch. -/
def iblk (c : Dev nD) (w : Fin (pipe a).W) (t : Fin (pipe a).N) : (((pipe a).win w).xblock (crd a t)).Idx → Elt F ((pipe a).win w).elt :=
  (((pipe a).win w).blk t).view.read (Elt F) ((s₀ m ρ).mem (((pipe a).win w).arr.view.loc (c : Thread nD τ)))

/-- What the body leaves in the output block at point `t`. -/
def oblk (c : Dev nD) (t : Fin (pipe a).N) : S256x2048.Idx → Elt F .bf16 :=
  if k0_cond1 (flag (F := F) (a.1 1) (crd a t)) = 1#1 then
    k0_pay1 (iblk a m ρ c (0 : Fin 4) t) (iblk a m ρ c (1 : Fin 4) t) (iblk a m ρ c (2 : Fin 4) t)
  else k0_pay2 (F := F)

/-- Between points the body keeps its halves of the two tables. -/
def Phi (c : Dev nD) : sProp 𝕄 :=
  iprop((tab0.view.loc (c : Thread nD τ) ↦{fullShare.right} a.1 0) ∗ (tab1.view.loc (c : Thread nD τ) ↦{fullShare.right} a.1 1))

/-- The pipeline's data on core `c`. -/
def dats (_ : Fin 1) (c : Dev nD) : Dat τ (Elt F) Unit ℕ (UR sig nD τ) ℕ (pipe a) c where
  A w := (s₀ m ρ).mem (((pipe a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => oblk a m ρ c t
  Φ _ := Phi a c
  q _ := fullShare
  owed _ := 0

theorem after0 (c : Dev nD) (t : Fin (pipe a).N) : (dats a m ρ 0 c).after (0 : Fin 4) t = iblk a m ρ c (0 : Fin 4) t := rfl
theorem after1 (c : Dev nD) (t : Fin (pipe a).N) : (dats a m ρ 0 c).after (1 : Fin 4) t = iblk a m ρ c (1 : Fin 4) t := rfl
theorem after2 (c : Dev nD) (t : Fin (pipe a).N) : (dats a m ρ 0 c).after (2 : Fin 4) t = iblk a m ρ c (2 : Fin 4) t := rfl
theorem after3 (c : Dev nD) (t : Fin (pipe a).N) : (dats a m ρ 0 c).after (3 : Fin 4) t = oblk a m ρ c t := rfl

/-- An input's staging buffer holds its block when the body runs. -/
theorem before0 (c : Dev nD) (t : Fin (pipe a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (pipe a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (pipe a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- The body as the pipeline calls it at point `t`. -/
abbrev bodyAt (t : Fin (pipe a).N) : Prog (TpuEff nD τ sig (Elt F) Λ₀ .tc) PUnit :=
  cc0_moe_down (crd a t) (Memref.whole main_arg0) (Memref.isWhole_whole _) (Memref.whole main_arg1) (Memref.isWhole_whole _)
    (stg0 a t) (whl0 a t) (stg1 a t) (whl1 a t) (stg2 a t) (whl2 a t) (stg3 a t) (whl3 a t)

/-- The body at point `t`, either way its test goes: from the inputs' blocks and any output block, to the output block `oblk`. -/
theorem run_body (c : Dev nD) (t : Fin (pipe a).N) (K : PUnit → sProp 𝕄) :
    iprop(((stg0 a t).view.loc (c : Thread nD τ) ↦[(stg0 a t).view.set]{fullShare} (stg0 a t).view.rep (iblk a m ρ c (0 : Fin 4) t))
      ∗ ((stg1 a t).view.loc (c : Thread nD τ) ↦[(stg1 a t).view.set]{fullShare} (stg1 a t).view.rep (iblk a m ρ c (1 : Fin 4) t))
      ∗ ((stg2 a t).view.loc (c : Thread nD τ) ↦[(stg2 a t).view.set]{fullShare} (stg2 a t).view.rep (iblk a m ρ c (2 : Fin 4) t))
      ∗ (tab0.view.loc (c : Thread nD τ) ↦{fullShare.right} a.1 0)
      ∗ (tab1.view.loc (c : Thread nD τ) ↦{fullShare.right} a.1 1)
      ∗ (∃ d, owns (c : Thread nD τ) (stg3 a t) fullShare d)
      ∗ (iprop(((stg0 a t).view.loc (c : Thread nD τ) ↦[(stg0 a t).view.set]{fullShare} (stg0 a t).view.rep (iblk a m ρ c (0 : Fin 4) t))
          ∗ ((stg1 a t).view.loc (c : Thread nD τ) ↦[(stg1 a t).view.set]{fullShare} (stg1 a t).view.rep (iblk a m ρ c (1 : Fin 4) t))
          ∗ ((stg2 a t).view.loc (c : Thread nD τ) ↦[(stg2 a t).view.set]{fullShare} (stg2 a t).view.rep (iblk a m ρ c (2 : Fin 4) t))
          ∗ (tab0.view.loc (c : Thread nD τ) ↦{fullShare.right} a.1 0)
          ∗ (tab1.view.loc (c : Thread nD τ) ↦{fullShare.right} a.1 1)
          ∗ owns (c : Thread nD τ) (stg3 a t) fullShare (oblk a m ρ c t)) -∗ K ⟨⟩))
      ⊢ wp frame (wpE (defs₀ (F := F)) Variants.none c none) Set.univ (bodyAt a t) K := by
  unfold oblk
  by_cases h : k0_cond1 (flag (F := F) (a.1 1) (crd a t)) = 1#1
  · rw [if_pos h]
    exact run_valid c (crd a t) (stg0 a t) (whl0 a t) (stg1 a t) (whl1 a t) (stg2 a t) (whl2 a t) (stg3 a t) (whl3 a t) (a.1 0) (a.1 1)
      _ _ _ h (fun h2 => (cond2_iff _).mp h2 h) K
  · rw [if_neg h]
    exact run_unused c (crd a t) (stg0 a t) (whl0 a t) (stg1 a t) (whl1 a t) (stg2 a t) (whl2 a t) (stg3 a t) (whl3 a t) (a.1 0) (a.1 1)
      _ _ _ h ((cond2_iff _).mpr h) K

set_option maxHeartbeats 4000000 in
/-- The body obligation at point `t`. -/
theorem sound_body (c : Dev nD) (t : Fin (pipe a).N) :
    iprop((dats a m ρ 0 c).Φ t.castSucc ∗ (dats a m ρ 0 c).owesAt () t.castSucc
        ∗ (∃ d, owns (c : Thread nD τ) (stg0 a t) fullShare ((dats a m ρ 0 c).before (0 : Fin 4) t d))
        ∗ (∃ d, owns (c : Thread nD τ) (stg1 a t) fullShare ((dats a m ρ 0 c).before (1 : Fin 4) t d))
        ∗ (∃ d, owns (c : Thread nD τ) (stg2 a t) fullShare ((dats a m ρ 0 c).before (2 : Fin 4) t d))
        ∗ (∃ d, owns (c : Thread nD τ) (stg3 a t) fullShare ((dats a m ρ 0 c).before (3 : Fin 4) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (pipe a).W =>
                match (pipe a).idle w ((pipe a).grid.coords t) with
                | true =>
                  match ((pipe a).win w).flush t with
                  | false => iprop(∃ d, owns (c : Thread nD τ) (((pipe a).win w).stage ((pipe a).slots t w)) fullShare ((dats a m ρ 0 c).before w t d))
                  | true => owns (c : Thread nD τ) (((pipe a).win w).stage ((pipe a).slots t w)) fullShare ((dats a m ρ 0 c).after w t)
                | false => owns (c : Thread nD τ) (((pipe a).win w).stage ((pipe a).slots t w)) fullShare ((dats a m ρ 0 c).after w t)) := by
  rw [bigSep_W0]
  rewrite [idle3 a]
  simp only [before0, before1, before2, after0, after1, after2, after3]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  iintro ⟨⟨HT0, HT1⟩, Ho, ⟨%d0, H0⟩, ⟨%d1, H1⟩, ⟨%d2, H2⟩, ⟨%d3, H3⟩⟩
  iapply (run_body a m ρ c t _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  iintro ⟨H0, H1, H2, HT0, HT1, H3⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  iexact H3

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pipes a) ((launch0 (F := F)).cellOf_inj fun _ => a))
    (Pipeline.launchToks (pipes a) ((launch0 (F := F)).cellOf_inj fun _ => a))

theorem share_eq (c : Dev nD) (w : Fin (pipe a).W) : (dats a m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

theorem phi_exit (c : Dev nD) : (dats a m ρ 0 c).Φ (Fin.last (pipe a).N) ⊢ iprop(BI.emp ∗ Pipeline.scopedRest spec0 c) := by
  rw [scopedRest0_eq, show (dats a m ρ 0 c).Φ (Fin.last (pipe a).N) = Phi a c from rfl]
  unfold Phi
  iintro ⟨-, -⟩
  isplitr; · iempintro
  iempintro

/-- The launch memory holds the tables `a`. -/
def Holds : Prop := ∀ (c : Dev nD) (j : Fin 2), m ((c : Thread nD τ).loc (pre0.ref j)) = a.1 j

/-- What the run leaves: every window's array at the pipeline's contents, the tables as they were. -/
def Post : PUnit × MemSt nD τ sig (Elt F) → Prop := fun r =>
  ∀ c : Dev nD, (∀ w : Fin (pipe a).W, r.2.mem (((pipe a).win w).arr.view.loc (c : Thread nD τ)) = (dats a m ρ 0 c).arrAt w (pipe a).N)
    ∧ ∀ j, r.2.mem ((c : Thread nD τ).loc (pre0.ref j)) = a.1 j

set_option backward.isDefEq.respectTransparency.types false in
set_option maxHeartbeats 4000000 in
/-- Every execution from a memory that holds admissible tables ends, with the arrays at the pipeline's contents and the semaphores at zero. -/
theorem run_quiescent (hp : Holds a m) :
    θ_run (defs (F := F)) (onTc (τ := τ) (main (F := F))) (s₀ m ρ) (fun r => Post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_unchanged (hp : Holds a m) (r : PUnit × MemSt nD τ sig (Elt F)) (h : Post a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 0).trans (hp c 0).symm, ((h c).2 1).trans (hp c 1).symm, ((h c).1 (0 : Fin 4)).trans ((dats a m ρ 0 c).arrAt_in (0 : Fin 4) rfl _),
    ((h c).1 (1 : Fin 4)).trans ((dats a m ρ 0 c).arrAt_in (1 : Fin 4) rfl _), ((h c).1 (2 : Fin 4)).trans ((dats a m ρ 0 c).arrAt_in (2 : Fin 4) rfl _)⟩

/-! ## Tables in range are admissible -/

variable {a}

/-- Tables whose words are experts' numbers are admissible. -/
theorem ok_of_range (T : pre0.Contents (Elt F)) (hT : ∀ x : S88.Idx, (T 0 x : BitVec 32).toNat < 8) : ok0 (F := F) T := by
  intro i
  refine ⟨axis_cons ?_ (axis_cons (by decide) (axis_cons (by decide) fun b => b.elim0)), .inr (Affine.block_words_dvd (by decide) (by decide))⟩
  have := hT ((Rect.unit (s := S88) (k0_off1 i) S1.size (k0_off1_inb i)).emb (Shape.Idx.first (numel1_S1.symm ▸ Nat.one_pos)))
  exact Nat.le_trans (Nat.le_of_eq (Nat.mul_one _)) this

end Cert.Down.Routed

end
-- ==== Proof.DownValue.lean ====
/-
  The routed experts' down projection: what the pipelined kernel leaves in its result array is the
  reference's own term of the five arguments, when the tile table's words are experts' numbers.

  The reference projects every row by all eight experts and weighs each by the row's gate where the row
  is in a valid tile of that expert, by zero elsewhere (`routed_apply`: one expert is left).  The kernel
  fetches only that expert's matrix, by the tile table (`idx_expert`).
-/
module

public import proofs.«01_k».proof.Proof.UpValue
public import proofs.«01_k».proof.Proof.DownFrame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down.Routed

open Cert.Down Cert.Down.Gen
open Cert.Up.Routed (mask tileOf mask_word)

/-- The reference's composed term: each row's product by its own expert, times the row's gate, zero in unused tiles. -/
abbrev routed (T0 T1 : S88.Idx → BitVec 32) (x : FVec Ideal S22528x2816 .bf16) (w : FVec Ideal S8x2816x2048 .bf16) (s : FVec Ideal S22528x1 .f32) : FVec Ideal S22528x2048 .bf16 :=
  truncf .bf16 (Host.reduceAdd (mulf
    (Host.dotGeneral (F := Ideal) (φ₁ := .f32) (φ₂ := .f32) Cert.DownRefIdeal.dot_S22528x2816_S8x2816x2048_S22528x8x2048_1_1_0_02_n_n none
      (extf .f32 x Cert.DownRefIdeal.Gen.bitsLt_bf16_f32) (extf .f32 w Cert.DownRefIdeal.Gen.bitsLt_bf16_f32))
    (broadcastInDim Cert.DownRefIdeal.S22528x8x2048 ![0, 1, 2] Cert.DownRefIdeal.Gen.bcast_S22528x8x1_S22528x8x2048_0_1_2
      (broadcastInDim Cert.DownRefIdeal.S22528x8x1 ![0, 1] Cert.DownRefIdeal.Gen.bcast_S22528x8_S22528x8x1_0_1
        (select (mask T0 T1) (broadcastInDim Cert.DownRefIdeal.S22528x8 ![0, 1] Cert.DownRefIdeal.Gen.bcast_S22528x1_S22528x8_0_1 s)
          (broadcastInDim Cert.DownRefIdeal.S22528x8 ![] Cert.DownRefIdeal.Gen.bcast_S_S22528x8 (id (constant Cert.DownRefIdeal.S_ .f32 0x00000000#32)))))))
    (constant Cert.DownRefIdeal.S_ .f32 0x00000000#32) Cert.DownRefIdeal.Gen.reducesTo_S22528x8x2048_S22528x2048_d1 Cert.DownRefIdeal.Gen.h_S_) Cert.DownRefIdeal.Gen.bitsLt_bf16_f32

/-- One element of the product by expert `e`, times the row's gate. -/
abbrev scaledAt (x : FVec Ideal S22528x2816 .bf16) (w : FVec Ideal S8x2816x2048 .bf16) (s : FVec Ideal S22528x1 .f32) (r : Fin 22528) (e : Fin 8) (f : Fin 2048) : EReal :=
  (∑ k : Fin 2816, x (ix2 r k) * w (ix3 e k f)) * s (ix2 r 0)

/-- The reference at an index of a row in tile `k`: the tile's own expert's product times the gate, or zero in an unused tile. -/
theorem routed_apply (T0 T1 : S88.Idx → BitVec 32) (hT : ∀ x, (T0 x).toNat < 8) (x : FVec Ideal S22528x2816 .bf16) (w : FVec Ideal S8x2816x2048 .bf16)
    (s : FVec Ideal S22528x1 .f32) (i : S22528x2048.Idx) (k : S88.Idx) (hk : tileOf (i 0) = k) :
    routed T0 T1 x w s i = if T1 k = 0#32 then 0 else scaledAt x w s (i 0) ⟨(T0 k).toNat, hT k⟩ (i 1) := by
  subst hk
  pointwise [routed, mask]
  have hz : (id (constant (F := Ideal) Cert.DownRefIdeal.S_ FTy.f32 0x00000000#32) Idealize.ShloMosaic.ix0 : EReal) = 0 := by
    rw [id]
    pointwise
  rw [hz]
  have off (e : Fin 8) (b q : EReal) (h : ¬ (e = ⟨(T0 (tileOf (i 0))).toNat, hT _⟩ ∧ T1 (tileOf (i 0)) ≠ 0#32)) :
      b * Scalar.select (IntOp.andi (IntOp.cmpi .eq (T0 (tileOf (i 0))) (BitVec.ofNat 32 e.val)) (IntOp.cmpi .ne (T1 (tileOf (i 0))) 0#32)) q 0 = 0 :=
    (congrArg (b * ·) (if_neg (mt (mask_word _ _ e (hT _)).mp h))).trans (mul_zero b)
  by_cases hv : T1 (tileOf (i 0)) = 0#32
  · rw [if_pos hv]
    exact Finset.sum_eq_zero fun e _ => off e _ _ fun h => h.2 hv
  · rw [if_neg hv, Finset.sum_eq_single ⟨(T0 (tileOf (i 0))).toNat, hT _⟩]
    · exact congrArg (_ * ·) (if_pos ((mask_word _ _ _ (hT _)).mpr ⟨rfl, hv⟩))
    · exact fun e _ he => off e _ _ fun h => he h.1
    · exact fun h => absurd (Finset.mem_univ _) h

/-- The block each window is on at point `t`: row tile `t`. -/
theorem idx_fixed : ∀ t : Fin grid0.N, cc0_transform_0 (grid0.coords t) = ![t.val, 0] ∧ cc0_transform_2 (grid0.coords t) = ![t.val, 0]
    ∧ cc0_transform_3 (grid0.coords t) = ![t.val, 0] ∧ k0_off1 (grid0.coords t) = ![t.val] := by decide +kernel

variable (a : (pcfg0 (F := Ideal)).Adm)

/-- The two tables. -/
abbrev word0 : S88.Idx → BitVec 32 := a.1 0
abbrev word1 : S88.Idx → BitVec 32 := a.1 1

/-- The tile a grid point works on, as an index of the tables. -/
abbrev tileAt (t : Fin (pipe a).N) : S88.Idx := ix1 ⟨t.val, Nat.lt_of_lt_of_eq t.isLt N_0⟩

/-- Where the table is read at point `t`. -/
theorem loadAt (t : Fin (pipe a).N) : (Rect.unit (s := S88) (k0_off1 (grid0.coords t)) S1.size (k0_off1_inb (grid0.coords t))).emb
    (Shape.Idx.first (numel1_S1.symm ▸ Nat.one_pos)) = tileAt a t := by
  have h1 := (idx_fixed t).2.2.2
  funext b
  apply Fin.ext
  show k0_off1 (grid0.coords t) b + 0 * 1 = _
  rw [h1]
  fin_cases b
  rfl

/-- The matrix's block at point `t`: the expert that the table names. -/
theorem idx_expert (t : Fin (pipe a).N) : cc0_transform_1 k0_off1_inb numel1_S1 a.1 (grid0.coords t) = ![(word0 a (tileAt a t)).toNat, 0, 0] :=
  congrArg (fun j => ![(word0 a j).toNat, 0, 0]) (loadAt a t)

theorem idx (t : Fin (pipe a).N) : ((pcfg0 (F := Ideal)).win a (0 : Fin 4)).index t = ![t.val, 0]
    ∧ ((pcfg0 (F := Ideal)).win a (1 : Fin 4)).index t = ![(word0 a (tileAt a t)).toNat, 0, 0]
    ∧ ((pcfg0 (F := Ideal)).win a (2 : Fin 4)).index t = ![t.val, 0]
    ∧ ((pcfg0 (F := Ideal)).win a (3 : Fin 4)).index t = ![t.val, 0] :=
  ⟨(idx_fixed t).1, idx_expert a t, (idx_fixed t).2.1, (idx_fixed t).2.2.1⟩

variable (m : (ℓ : Loc nD τ sig) → Buf (Elt Ideal) ℓ) (ρ : Dev nD → PrngReg)

/-- One stored element of a valid tile. -/
theorem point (hT : ∀ x, (word0 a x).toNat < 8) (c : Dev nD) (t : Fin (pipe a).N) (y) :
    k0_pay1 (iblk a m ρ c (0 : Fin 4) t) (iblk a m ρ c (1 : Fin 4) t) (iblk a m ρ c (2 : Fin 4) t) y
      = scaledAt (m ((c : Thread nD τ).loc main_arg2)) (m ((c : Thread nD τ).loc main_arg3)) (m ((c : Thread nD τ).loc main_arg4))
          ((((pipe a).win (3 : Fin 4)).blk t).view.emb y (0 : Fin 2)) ⟨(word0 a (tileAt a t)).toNat, hT _⟩ ((((pipe a).win (3 : Fin 4)).blk t).view.emb y (1 : Fin 2)) := by
  pointwise [k0_pay1, scaledAt]
  blk_point [iblk, idx a t]

/-- A table whose words are all zero, and the pipeline at it: the output window is the same at every table. -/
abbrev zeroTab : (pcfg0 (F := Ideal)).Adm := ⟨fun | 0 => fun _ => (0#32 : BitVec 32) | 1 => fun _ => (0#32 : BitVec 32) | ⟨_ + 2, h⟩ => absurd h (Nat.not_lt.2 (Nat.le_add_left _ _)), ok_of_range _ fun _ => (by decide : (0#32 : BitVec 32).toNat < 8)⟩

/-- The stored blocks cover the result array. -/
theorem covers : ((pipe a).win (3 : Fin 4)).Covers := by
  show ((pipe zeroTab).win (3 : Fin 4)).Covers
  decide +kernel

/-- The word that the body tests, by its place in the table. -/
theorem flag_eq (T1 : S88.Idx → BitVec 32) (t : Fin (pipe a).N) : flag (F := Ideal) T1 (crd a t) = T1 (tileAt a t) :=
  congrArg T1 (loadAt a t)

/-- The first condition holds when the word is not zero. -/
theorem cond1_iff (w : BitVec 32) : k0_cond1 w = 1#1 ↔ w ≠ 0#32 := Cert.Up.Routed.cond1_iff w

/-- The stored block of a valid tile, -/
theorem oblk_valid (c : Dev nD) (t : Fin (pipe a).N) (h : word1 a (tileAt a t) ≠ 0#32) :
    oblk a m ρ c t = k0_pay1 (iblk a m ρ c (0 : Fin 4) t) (iblk a m ρ c (1 : Fin 4) t) (iblk a m ρ c (2 : Fin 4) t) :=
  if_pos ((cond1_iff _).mpr fun e => h ((flag_eq a (word1 a) t).symm.trans e))

/-- and of an unused one. -/
theorem oblk_unused (c : Dev nD) (t : Fin (pipe a).N) (h : word1 a (tileAt a t) = 0#32) : oblk a m ρ c t = k0_pay2 (F := Ideal) :=
  if_neg fun e => (cond1_iff _).mp e ((flag_eq a (word1 a) t).trans h)

/-- The tile of a stored element's row is the point's. -/
theorem tile_row (t : Fin (pipe a).N) (y) : tileOf ((((pipe a).win (3 : Fin 4)).blk t).view.emb y (0 : Fin 2)) = tileAt a t := by
  refine congrArg ix1 (Fin.ext ?_)
  blk_point [idx a t]
  exact Fin.ext (by dsimp only; omega)

/-- The result array after the run. -/
theorem final (hT : ∀ x, (word0 a x).toNat < 8) (c : Dev nD) : (dats a m ρ 0 c).arrAt (3 : Fin 4) (pipe a).N
    = routed (word0 a) (word1 a) (m ((c : Thread nD τ).loc main_arg2)) (m ((c : Thread nD τ).loc main_arg3)) (m ((c : Thread nD τ).loc main_arg4)) := by
  refine (dats a m ρ 0 c).arrAt_eq_of_covers (3 : Fin 4) _ (covers a) fun t _ y => ?_
  blk_simp
  rw [after3]
  refine Eq.trans ?_ (routed_apply _ _ hT _ _ _ _ (tileAt a t) (tile_row a t y)).symm
  by_cases hv : word1 a (tileAt a t) = 0#32
  · rw [if_pos hv, oblk_unused a m ρ c t hv]
    pointwise [k0_pay2]
  · rw [if_neg hv, oblk_valid a m ρ c t hv]
    exact point a m ρ hT c t y

end Cert.Down.Routed
-- ==== Proof.DownRun.lean ====
/-
  The routed experts' down projection, joined: its runs from a memory whose tile table holds experts'
  numbers, in the form the claims ask for.

  The idealised program is the same program read over the extended reals, so what `DownFrame.lean` and
  `DownValue.lean` say of the first holds of the second (`same_defs`, `transfer`).
-/
module

public import proofs.«01_k».proof.Proof.UpRun
public import proofs.«01_k».proof.Proof.DownValue

@[expose] public section

set_option maxRecDepth 16384

noncomputable section

open Idealize.ShloMosaic Idealize.ShloMosaic.TcCoe Idealize.SL.Sem

namespace Cert.Down.Routed

open Cert.Down Cert.Down.Gen

section
variable {F : FTy → Type} [FloatOps F]

/-- The precondition, word by word: every expert's number is below eight. -/
theorem range_of (T0 T1 : S88.Idx → BitVec 32) (x : FVec F S22528x2816 .bf16) (w : FVec F S8x2816x2048 .bf16) (s : FVec F S22528x1 .f32)
    (h : Cert.Pre_in_range_down.fn (F := F) T0 T1 x w s = fun _ => 1#1) (k : S88.Idx) : (T0 k).toNat < 8 :=
  Cert.Up.Routed.lt_eight _ (congrFun h k)

variable (m : (ℓ : Loc nD τ sig) → Buf (Elt F) ℓ) (ρ : Dev nD → PrngReg)

/-- The memory's tile table holds experts' numbers. -/
def InRange : Prop := ∀ k : S88.Idx, (m (((0 : Dev nD) : Thread nD τ).loc main_arg0) k : BitVec 32).toNat < 8

/-- The tables in such a memory. -/
def adm (h : InRange m) : (pcfg0 (F := F)).Adm :=
  ⟨fun j => m (((0 : Dev nD) : Thread nD τ).loc (pre0.ref j)), ok_of_range _ h⟩

theorem holds (h : InRange m) : Holds (adm m h) m := fun c j => by
  obtain rfl : c = 0 := Subsingleton.elim _ _
  rfl

/-- Every execution ends, with the arguments as they were and the semaphores at zero. -/
theorem frame (h : InRange m) : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r hr => ⟨fun c => args_unchanged (adm m h) m ρ (holds m h) r hr.1 c, hr.2⟩)
    (run_quiescent (adm m h) m ρ (holds m h))

end

variable (m : (ℓ : Loc nD τ sig) → Buf (Elt Ideal) ℓ) (ρ : Dev nD → PrngReg)

/-- The same at the extended reals with the result: the reference's term of the arguments. -/
theorem run_value (h : InRange m) : θ_run (defs (F := Ideal)) (onTc (τ := τ) (main (F := Ideal))) ⟨m, fun _ => 0, ρ⟩ fun r => ∀ c : Dev nD,
    r.2.mem ((c.tc : Thread nD τ).loc main_v0) = routed (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr.1 c).1 (3 : Fin 4)).trans ((final (adm m h) m ρ h c).trans (by
        obtain rfl : c = 0 := Subsingleton.elim _ _
        rfl)), args_unchanged (adm m h) m ρ (holds m h) r hr.1 c⟩)
    (run_quiescent (adm m h) m ρ (holds m h))

/-! ## The idealised program -/

set_option backward.isDefEq.respectTransparency.types false in
set_option maxHeartbeats 1000000 in
theorem same_defs₀ : Cert.DownIdeal.defs₀ (F := Ideal) = Cert.Down.defs₀ (F := Ideal) :=
  congrArg Defs.onTc (funext fun l => funext fun x => by
    match l, x with
    | ⟨0, _⟩, (t, s) => rfl)

set_option backward.isDefEq.respectTransparency.types false in
set_option maxHeartbeats 1000000 in
/-- The two programs' functions are the same over the extended reals. -/
theorem same_defs : Cert.DownIdeal.defs (F := Ideal) = Cert.Down.defs (F := Ideal) :=
  congrArg (Pipeline.defs (Cert.Down.pcfgs (F := Ideal))) same_defs₀

set_option backward.isDefEq.respectTransparency.types false in
set_option maxHeartbeats 1000000 in
/-- What holds of the program's runs holds of the idealised program's. -/
theorem transfer (m : (ℓ : Loc Cert.DownIdeal.nD Cert.DownIdeal.τ Cert.DownIdeal.sig) → Buf (Elt Ideal) ℓ) (g : Dev Cert.DownIdeal.nD → PrngReg)
    (Q : PUnit × MemSt Cert.DownIdeal.nD Cert.DownIdeal.τ Cert.DownIdeal.sig (Elt Ideal) → Prop)
    (h : θ_run (Cert.Down.defs (F := Ideal)) (onTc (τ := Cert.Down.τ) (Cert.Down.main (F := Ideal))) ⟨m, fun _ => 0, g⟩ Q) :
    θ_run (Cert.DownIdeal.defs (F := Ideal)) (onTc (τ := Cert.DownIdeal.τ) (Cert.DownIdeal.main (F := Ideal))) ⟨m, fun _ => 0, g⟩ Q := by
  rw [same_defs]
  exact h

/-! ## The claims -/

/-- The program runs and leaves its arguments. -/
theorem frame_P : Cert.quiescent_Down := fun m g h => frame m g (range_of _ _ _ _ _ (h 0))

set_option backward.isDefEq.respectTransparency.types false in
/-- The idealised program likewise. -/
theorem frame_PI : Cert.quiescent_DownIdeal := fun m g h => transfer m g _ (frame m g (range_of _ _ _ _ _ (h 0)))

/-- The reference likewise. -/
theorem frame_RI : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

set_option backward.isDefEq.respectTransparency.types false in
set_option maxHeartbeats 1000000 in
/-- The routed down projection is the reference's. -/
theorem algebraic : Cert.algebraic_DownIdeal_DownRefIdeal := fun m g m' g' h hm =>
  ⟨fun c => routed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    transfer m g _ (run_value m g (range_of _ _ _ _ _ (h 0))),
    (θ_run Cert.DownRefIdeal.defs _ _).mono (fun r hr c => ⟨(hr c).1.trans (by
        obtain ⟨h0, h1, h2, h3, h4⟩ := hm c
        rw [h0, h1, h2, h3, h4]), (hr c).2⟩)
      (Cert.DownRefIdeal.Value.run (F := Ideal) m' g')⟩

end Cert.Down.Routed
-- ==== Proof.lean ====
/-
  Every claim of the certificate.  The frames of the kernels are their generated frame theorems (those of the
  routed calls and of the band attention are in `UpRun.lean`, `DownRun.lean` and `BsRun.lean`), those of the
  references their runs; `preserves` is the list of the named constants; the value claims put each
  kernel's result array, read as one term in its value module, beside the reference's own term.
-/
module

public import proofs.«01_k».proof.Defs
public import proofs.«01_k».proof.Proof.Gen.Ret.Frame
public import proofs.«01_k».proof.Proof.Gen.Lin.Frame
public import proofs.«01_k».proof.Proof.Gen.Ffn.Frame
public import proofs.«01_k».proof.Proof.Gen.LinRefIdeal.Run
public import proofs.«01_k».proof.Proof.Gen.FfnRefIdeal.Run
public import proofs.«01_k».proof.Proof.RetValue
public import proofs.«01_k».proof.Proof.RetRun
public import proofs.«01_k».proof.Proof.LinValue
public import proofs.«01_k».proof.Proof.FfnValue
public import proofs.«01_k».proof.Proof.BandValue
public import proofs.«01_k».proof.Proof.XqValue
public import proofs.«01_k».proof.Proof.NormValues
public import proofs.«01_k».proof.Proof.OutValues
public import proofs.«01_k».proof.Proof.BsRun
public import proofs.«01_k».proof.Proof.UpRun
public import proofs.«01_k».proof.Proof.DownRun
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The retention reference runs, leaves its arguments, and ends with every semaphore at zero. -/
theorem frame_RetRef : Cert.quiescent_RetRefIdeal := fun m ρ _ =>
  (θ_run Cert.RetRefIdeal.defs _ _).mono (fun r h => ⟨fun c => (h c).2.2, sem_eq_zero_of_no_sems (by decide) r.2⟩)
    (Cert.RetRefIdeal.Value.run (F := Ideal) m ρ)

/-- The projection's reference likewise. -/
theorem frame_LinRef : Cert.quiescent_LinRefIdeal := fun m ρ _ =>
  (θ_run Cert.LinRefIdeal.defs _ _).mono (fun r h => ⟨fun c => (h c).2, sem_eq_zero_of_no_sems (by decide) r.2⟩)
    (Cert.LinRefIdeal.Value.run (F := Ideal) m ρ)

/-- The gated unit's reference likewise. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the second layer's projection likewise. -/
theorem frame_BandRef : Cert.quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

/-- The reference of the memory attention's query projection likewise. -/
theorem frame_XqRef : Cert.quiescent_XqRefIdeal := fun m ρ _ =>
  (θ_run Cert.XqRefIdeal.defs _ _).mono (fun r h => ⟨fun c => (h c).2, sem_eq_zero_of_no_sems (by decide) r.2⟩)
    (Cert.XqRefIdeal.Value.run (F := Ideal) m ρ)

/-- The reference of the prompt's final norm likewise. -/
theorem frame_FinPRef : Cert.quiescent_FinPRefIdeal := fun m ρ _ =>
  (θ_run Cert.FinPRefIdeal.defs _ _).mono (fun r h => ⟨fun c => (h c).2, sem_eq_zero_of_no_sems (by decide) r.2⟩)
    (Cert.FinPRefIdeal.Value.run (F := Ideal) m ρ)

/-- The reference of the sample group's final norm likewise. -/
theorem frame_FinSRef : Cert.quiescent_FinSRefIdeal := fun m ρ _ =>
  (θ_run Cert.FinSRefIdeal.defs _ _).mono (fun r h => ⟨fun c => (h c).2, sem_eq_zero_of_no_sems (by decide) r.2⟩)
    (Cert.FinSRefIdeal.Value.run (F := Ideal) m ρ)

/-- The reference of the memory's norm likewise. -/
theorem frame_KvNormRef : Cert.quiescent_KvNormRefIdeal := fun m ρ _ =>
  (θ_run Cert.KvNormRefIdeal.defs _ _).mono (fun r h => ⟨fun c => (h c).2, sem_eq_zero_of_no_sems (by decide) r.2⟩)
    (Cert.KvNormRefIdeal.Value.run (F := Ideal) m ρ)

/-- The reference of the memory's key or value projection likewise. -/
theorem frame_KvRef : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- The reference of the first layer's output projection likewise. -/
theorem frame_OutAbRef : Cert.quiescent_OutAbRefIdeal := fun m ρ _ =>
  (θ_run Cert.OutAbRefIdeal.defs _ _).mono (fun r h => ⟨fun c => (h c).2, sem_eq_zero_of_no_sems (by decide) r.2⟩)
    (Cert.OutAbRefIdeal.Value.run (F := Ideal) m ρ)

/-- The reference of the second layer's output projection likewise. -/
theorem frame_OutBandRef : Cert.quiescent_OutBandRefIdeal := fun m ρ _ =>
  (θ_run Cert.OutBandRefIdeal.defs _ _).mono (fun r h => ⟨fun c => (h c).2, sem_eq_zero_of_no_sems (by decide) r.2⟩)
    (Cert.OutBandRefIdeal.Value.run (F := Ideal) m ρ)

/-- The reference of the memory attention's output projection likewise. -/
theorem frame_XoRef : Cert.quiescent_XoRefIdeal := fun m ρ _ =>
  (θ_run Cert.XoRefIdeal.defs _ _).mono (fun r h => ⟨fun c => (h c).2, sem_eq_zero_of_no_sems (by decide) r.2⟩)
    (Cert.XoRefIdeal.Value.run (F := Ideal) m ρ)

/-- The reference of the dense feed-forward part's down projection likewise. -/
theorem frame_FfnDownRef : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- The retention kernel's constants are the named values, rounded. -/
theorem preserves_Ret : Cert.preserves_Ret_RetIdeal :=
  ⟨IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl⟩

/-- The retention kernel's outputs and states are the reference's. -/
theorem algebraic_Ret : Cert.algebraic_RetIdeal_RetRefIdeal := by
  pair_intro
  · run_from Cert.RetIdeal.Gen.run_main m g
  · run_from Cert.RetRefIdeal.Parts.run m' g'
    · exact (Cert.RetIdeal.Whole.final8 m c).symm
    · exact (Cert.RetIdeal.Whole.final9 m c).symm

/-- The normalised projection is the reference's. -/
theorem algebraic_Lin : Cert.algebraic_LinIdeal_LinRefIdeal := by
  pair_intro
  · run_from Cert.LinIdeal.Gen.run_main m g
  · hlo_run
    exact (Cert.LinIdeal.Whole.final m c).symm

/-- The gated unit is the reference's. -/
theorem algebraic_Ffn : Cert.algebraic_FfnIdeal_FfnRefIdeal := by
  pair_intro
  · run_from Cert.FfnIdeal.Gen.run_main m g
  · hlo_run
    exact (Cert.FfnIdeal.Whole.final m c).symm

/-- The second layer's projection is the reference's. -/
theorem algebraic_Band : Cert.algebraic_BandIdeal_BandRefIdeal := by
  pair_intro
  · run_from Cert.BandIdeal.Gen.run_main m g
  · hlo_run
    exact (Cert.BandIdeal.Whole.final m c).symm

/-- The memory attention's query projection is the reference's. -/
theorem algebraic_Xq : Cert.algebraic_XqIdeal_XqRefIdeal := by
  pair_intro
  · run_from Cert.XqIdeal.Gen.run_main m g
  · hlo_run
    exact (Cert.XqIdeal.Whole.final m c).symm

/-- The prompt's final norm is the reference's. -/
theorem algebraic_FinP : Cert.algebraic_FinPIdeal_FinPRefIdeal := by
  pair_intro
  · run_from Cert.FinPIdeal.Gen.run_main m g
  · hlo_run
    exact (Cert.FinPIdeal.Whole.final m c).symm

/-- The sample group's final norm is the reference's. -/
theorem algebraic_FinS : Cert.algebraic_FinSIdeal_FinSRefIdeal := by
  pair_intro
  · run_from Cert.FinSIdeal.Gen.run_main m g
  · hlo_run
    exact (Cert.FinSIdeal.Whole.final m c).symm

/-- The memory's norm is the reference's. -/
theorem algebraic_KvNorm : Cert.algebraic_KvNormIdeal_KvNormRefIdeal := by
  pair_intro
  · run_from Cert.KvNormIdeal.Gen.run_main m g
  · hlo_run
    exact (Cert.KvNormIdeal.Whole.final m c).symm

/-- The memory's key or value projection is the reference's. -/
theorem algebraic_Kv : Cert.algebraic_KvIdeal_KvRefIdeal := by
  pair_intro
  · run_from Cert.KvIdeal.Gen.run_main m g
  · hlo_run
    exact (Cert.KvIdeal.Whole.final m c).symm

/-- The first layer's output projection is the reference's. -/
theorem algebraic_OutAb : Cert.algebraic_OutAbIdeal_OutAbRefIdeal := by
  pair_intro
  · run_from Cert.OutAbIdeal.Gen.run_main m g
  · hlo_run
    exact (congrArg₂ (fun o o' => Cert.OutAbIdeal.Whole.result _ o o' _) (hagree c).2.1 (hagree c).2.2.1).trans
      (Cert.OutAbIdeal.Whole.final m c).symm

/-- The second layer's output projection is the reference's. -/
theorem algebraic_OutBand : Cert.algebraic_OutBandIdeal_OutBandRefIdeal := by
  pair_intro
  · run_from Cert.OutBandIdeal.Gen.run_main m g
  · hlo_run
    exact (Cert.OutBandIdeal.Whole.final m c).symm

/-- The memory attention's output projection is the reference's. -/
theorem algebraic_Xo : Cert.algebraic_XoIdeal_XoRefIdeal := by
  pair_intro
  · run_from Cert.XoIdeal.Gen.run_main m g
  · hlo_run
    exact (Cert.XoIdeal.Whole.final m c).symm

/-- The dense feed-forward part's down projection is the reference's. -/
theorem algebraic_FfnDown : Cert.algebraic_FfnDownIdeal_FfnDownRefIdeal := by
  pair_intro
  · run_from Cert.FfnDownIdeal.Gen.run_main m g
  · hlo_run
    exact (Cert.FfnDownIdeal.Whole.final m c).symm

/-- The certificate's claim. -/
theorem claim : Cert.Claim :=
  ⟨Cert.Ret.Gen.facts, Cert.RetIdeal.Gen.facts, Cert.RetRefIdeal.Gen.facts, Cert.Lin.Gen.facts, Cert.LinIdeal.Gen.facts,
    Cert.LinRefIdeal.Gen.facts, Cert.Ffn.Gen.facts, Cert.FfnIdeal.Gen.facts, Cert.FfnRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Band.Gen.facts, Cert.BandIdeal.Gen.facts, Cert.BandRefIdeal.Gen.facts,
    Cert.Xq.Gen.facts, Cert.XqIdeal.Gen.facts, Cert.XqRefIdeal.Gen.facts,
    Cert.FinP.Gen.facts, Cert.FinPIdeal.Gen.facts, Cert.FinPRefIdeal.Gen.facts,
    Cert.FinS.Gen.facts, Cert.FinSIdeal.Gen.facts, Cert.FinSRefIdeal.Gen.facts,
    Cert.KvNorm.Gen.facts, Cert.KvNormIdeal.Gen.facts, Cert.KvNormRefIdeal.Gen.facts,
    Cert.OutAb.Gen.facts, Cert.OutAbIdeal.Gen.facts, Cert.OutAbRefIdeal.Gen.facts,
    Cert.OutBand.Gen.facts, Cert.OutBandIdeal.Gen.facts, Cert.OutBandRefIdeal.Gen.facts,
    Cert.Xo.Gen.facts, Cert.XoIdeal.Gen.facts, Cert.XoRefIdeal.Gen.facts,
    Cert.FfnDown.Gen.facts, Cert.FfnDownIdeal.Gen.facts, Cert.FfnDownRefIdeal.Gen.facts,
    Cert.Kv.Gen.facts, Cert.KvIdeal.Gen.facts, Cert.KvRefIdeal.Gen.facts,
    Cert.Bs.Gen.facts, Cert.BsIdeal.Gen.facts, Cert.BsRefIdeal.Gen.facts,
    Cert.Pre_in_range.Gen.facts, Cert.Pre_in_range_down.Gen.facts, Cert.Pre_finite.Gen.facts,
    fun m ρ _ => Cert.Ret.Gen.frame m ρ, fun m ρ _ => Cert.RetIdeal.Gen.frame m ρ, frame_RetRef,
    fun m ρ _ => Cert.Lin.Gen.frame m ρ, fun m ρ _ => Cert.LinIdeal.Gen.frame m ρ, frame_LinRef,
    fun m ρ _ => Cert.Ffn.Gen.frame m ρ, fun m ρ _ => Cert.FfnIdeal.Gen.frame m ρ, frame_FfnRef,
    Cert.Up.Routed.frame_P, Cert.Up.Routed.frame_PI, Cert.Up.Routed.frame_RI,
    Cert.Down.Routed.frame_P, Cert.Down.Routed.frame_PI, Cert.Down.Routed.frame_RI,
    fun m ρ _ => Cert.Band.Gen.frame m ρ, fun m ρ _ => Cert.BandIdeal.Gen.frame m ρ, frame_BandRef,
    fun m ρ _ => Cert.Xq.Gen.frame m ρ, fun m ρ _ => Cert.XqIdeal.Gen.frame m ρ, frame_XqRef,
    fun m ρ _ => Cert.FinP.Gen.frame m ρ, fun m ρ _ => Cert.FinPIdeal.Gen.frame m ρ, frame_FinPRef,
    fun m ρ _ => Cert.FinS.Gen.frame m ρ, fun m ρ _ => Cert.FinSIdeal.Gen.frame m ρ, frame_FinSRef,
    fun m ρ _ => Cert.KvNorm.Gen.frame m ρ, fun m ρ _ => Cert.KvNormIdeal.Gen.frame m ρ, frame_KvNormRef,
    fun m ρ _ => Cert.OutAb.Gen.frame m ρ, fun m ρ _ => Cert.OutAbIdeal.Gen.frame m ρ, frame_OutAbRef,
    fun m ρ _ => Cert.OutBand.Gen.frame m ρ, fun m ρ _ => Cert.OutBandIdeal.Gen.frame m ρ, frame_OutBandRef,
    fun m ρ _ => Cert.Xo.Gen.frame m ρ, fun m ρ _ => Cert.XoIdeal.Gen.frame m ρ, frame_XoRef,
    fun m ρ _ => Cert.FfnDown.Gen.frame m ρ, fun m ρ _ => Cert.FfnDownIdeal.Gen.frame m ρ, frame_FfnDownRef,
    fun m ρ _ => Cert.Kv.Gen.frame m ρ, fun m ρ _ => Cert.KvIdeal.Gen.frame m ρ, frame_KvRef,
    Cert.Bs.Cached.frame_P, Cert.Bs.Cached.frame_PI, Cert.Bs.Cached.frame_PI_pre, Cert.Bs.Cached.frame_RI, Cert.Bs.Cached.frame_RI_pre,
    preserves_Ret, algebraic_Ret, trivial, algebraic_Lin, trivial, algebraic_Ffn,
    trivial, Cert.Up.Routed.algebraic, trivial, Cert.Down.Routed.algebraic,
    trivial, algebraic_Band,
    trivial, algebraic_Xq,
    trivial, algebraic_FinP,
    trivial, algebraic_FinS,
    trivial, algebraic_KvNorm,
    trivial, algebraic_OutAb,
    trivial, algebraic_OutBand,
    trivial, algebraic_Xo,
    trivial, algebraic_FfnDown,
    trivial, algebraic_Kv,
    trivial, Cert.Bs.Cached.algebraic⟩

end Cert.Proof

end
